-- ==== Defs.lean ====
def Pre_Gather [hPre_names_rows : Cert.Pre_names_rows.Facts] (m : (ℓ : Loc Cert.Gather.nD Cert.Gather.τ Cert.Gather.sig) → Buf (Elt Bits) ℓ) : Prop :=
  ∀ c : Dev Cert.Gather.nD,
    (Cert.Pre_names_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_names_rows : Cert.Pre_names_rows.Facts] (m : (ℓ : Loc Cert.GatherIdeal.nD Cert.GatherIdeal.τ Cert.GatherIdeal.sig) → Buf (Elt Ideal) ℓ) : Prop :=
  ∀ c : Dev Cert.GatherIdeal.nD,
    (Cert.Pre_names_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherRowsIdeal [hPre_names_rows : Cert.Pre_names_rows.Facts] (m : (ℓ : Loc Cert.GatherRowsIdeal.nD Cert.GatherRowsIdeal.τ Cert.GatherRowsIdeal.sig) → Buf (Elt Ideal) ℓ) : Prop :=
  ∀ c : Dev Cert.GatherRowsIdeal.nD,
    (Cert.Pre_names_rows.fn (F := Ideal) (m ((c.tc : Thread Cert.GatherRowsIdeal.nD Cert.GatherRowsIdeal.τ).loc Cert.GatherRowsIdeal.main_arg0)) (m ((c.tc : Thread Cert.GatherRowsIdeal.nD Cert.GatherRowsIdeal.τ).loc Cert.GatherRowsIdeal.main_arg1))) = (fun _ => 1#1)

def Pre_GatherRows [hPre_names_rows : Cert.Pre_names_rows.Facts] (m : (ℓ : Loc Cert.GatherRows.nD Cert.GatherRows.τ Cert.GatherRows.sig) → Buf (Elt Bits) ℓ) : Prop :=
  ∀ c : Dev Cert.GatherRows.nD,
    (Cert.Pre_names_rows.fn (F := Bits) (m ((c.tc : Thread Cert.GatherRows.nD Cert.GatherRows.τ).loc Cert.GatherRows.main_arg0)) (m ((c.tc : Thread Cert.GatherRows.nD Cert.GatherRows.τ).loc Cert.GatherRows.main_arg1))) = (fun _ => 1#1)

def Pre_Kernel [hPre_names_atoms : Cert.Pre_names_atoms.Facts] (m : (ℓ : Loc Cert.Kernel.nD Cert.Kernel.τ Cert.Kernel.sig) → Buf (Elt Bits) ℓ) : Prop :=
  ∀ c : Dev Cert.Kernel.nD,
    (Cert.Pre_names_atoms.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_names_atoms : Cert.Pre_names_atoms.Facts] (m : (ℓ : Loc Cert.KernelIdeal.nD Cert.KernelIdeal.τ Cert.KernelIdeal.sig) → Buf (Elt Ideal) ℓ) : Prop :=
  ∀ c : Dev Cert.KernelIdeal.nD,
    (Cert.Pre_names_atoms.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_names_atoms_masked [hPre_names_atoms_masked : Cert.Pre_names_atoms_masked.Facts] (m : (ℓ : Loc Cert.KernelIdeal.nD Cert.KernelIdeal.τ Cert.KernelIdeal.sig) → Buf (Elt Ideal) ℓ) : Prop :=
  ∀ c : Dev Cert.KernelIdeal.nD,
    (Cert.Pre_names_atoms_masked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_names_atoms_masked [hPre_names_atoms_masked : Cert.Pre_names_atoms_masked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_atoms_masked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Gather [hGather : Cert.Gather.Facts] [hPre_names_rows : Cert.Pre_names_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_names_rows : Cert.Pre_names_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRowsIdeal [hGatherRowsIdeal : Cert.GatherRowsIdeal.Facts] [hPre_names_rows : Cert.Pre_names_rows.Facts] : Prop :=
  ∀ (m : (ℓ : Loc Cert.GatherRowsIdeal.nD Cert.GatherRowsIdeal.τ Cert.GatherRowsIdeal.sig) → Buf (Elt Ideal) ℓ) (g : Dev Cert.GatherRowsIdeal.nD → PrngReg), Pre_GatherRowsIdeal m →
    θ_run (Cert.GatherRowsIdeal.defs (F := Ideal)) (onTc (τ := Cert.GatherRowsIdeal.τ) (Cert.GatherRowsIdeal.main (F := Ideal))) ⟨m, fun _ => 0, g⟩ (fun r => (∀ c : Dev Cert.GatherRowsIdeal.nD,
      r.2.mem ((c.tc : Thread Cert.GatherRowsIdeal.nD Cert.GatherRowsIdeal.τ).loc Cert.GatherRowsIdeal.main_arg0) = m ((c.tc : Thread Cert.GatherRowsIdeal.nD Cert.GatherRowsIdeal.τ).loc Cert.GatherRowsIdeal.main_arg0)
      ∧ r.2.mem ((c.tc : Thread Cert.GatherRowsIdeal.nD Cert.GatherRowsIdeal.τ).loc Cert.GatherRowsIdeal.main_arg1) = m ((c.tc : Thread Cert.GatherRowsIdeal.nD Cert.GatherRowsIdeal.τ).loc Cert.GatherRowsIdeal.main_arg1))
      ∧ r.2.sem = fun _ => 0)

def quiescent_GatherRows [hGatherRows : Cert.GatherRows.Facts] [hPre_names_rows : Cert.Pre_names_rows.Facts] : Prop :=
  ∀ (m : (ℓ : Loc Cert.GatherRows.nD Cert.GatherRows.τ Cert.GatherRows.sig) → Buf (Elt Bits) ℓ) (g : Dev Cert.GatherRows.nD → PrngReg), Pre_GatherRows m →
    θ_run (Cert.GatherRows.defs (F := Bits)) (onTc (τ := Cert.GatherRows.τ) (Cert.GatherRows.main (F := Bits))) ⟨m, fun _ => 0, g⟩ (fun r => (∀ c : Dev Cert.GatherRows.nD,
      r.2.mem ((c.tc : Thread Cert.GatherRows.nD Cert.GatherRows.τ).loc Cert.GatherRows.main_arg0) = m ((c.tc : Thread Cert.GatherRows.nD Cert.GatherRows.τ).loc Cert.GatherRows.main_arg0)
      ∧ r.2.mem ((c.tc : Thread Cert.GatherRows.nD Cert.GatherRows.τ).loc Cert.GatherRows.main_arg1) = m ((c.tc : Thread Cert.GatherRows.nD Cert.GatherRows.τ).loc Cert.GatherRows.main_arg1))
      ∧ r.2.sem = fun _ => 0)

def quiescent_Kernel [hKernel : Cert.Kernel.Facts] [hPre_names_atoms : Cert.Pre_names_atoms.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_names_atoms : Cert.Pre_names_atoms.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_names_atoms_masked [hKernelIdeal : Cert.KernelIdeal.Facts] [hPre_names_atoms_masked : Cert.Pre_names_atoms_masked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_names_atoms_masked m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_names_atoms_masked [hReferenceIdeal : Cert.ReferenceIdeal.Facts] [hPre_names_atoms_masked : Cert.Pre_names_atoms_masked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_names_atoms_masked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Gather_GatherIdeal : Prop :=
  True

def bitexact_Gather_GatherRows [hGather : Cert.Gather.Facts] [hGatherRows : Cert.GatherRows.Facts] [hPre_names_rows : Cert.Pre_names_rows.Facts] : Prop :=
  ∀ (m : (ℓ : Loc Cert.Gather.nD Cert.Gather.τ Cert.Gather.sig) → Buf (Elt Bits) ℓ) (g : Dev Cert.Gather.nD → PrngReg)
    (m' : (ℓ : Loc Cert.GatherRows.nD Cert.GatherRows.τ Cert.GatherRows.sig) → Buf (Elt Bits) ℓ) (g' : Dev Cert.GatherRows.nD → PrngReg), Pre_Gather m →
    (∀ c : Dev Cert.Gather.nD,
      m' ((c.tc : Thread Cert.GatherRows.nD Cert.GatherRows.τ).loc Cert.GatherRows.main_arg0) = m ((c.tc : Thread Cert.Gather.nD Cert.Gather.τ).loc Cert.Gather.main_arg0)
      ∧ m' ((c.tc : Thread Cert.GatherRows.nD Cert.GatherRows.τ).loc Cert.GatherRows.main_arg1) = m ((c.tc : Thread Cert.Gather.nD Cert.Gather.τ).loc Cert.Gather.main_arg1)) →
    ∃ (v0 : (c : Dev Cert.Gather.nD) → Buf (Elt Bits) ((c.tc : Thread Cert.Gather.nD Cert.Gather.τ).loc Cert.Gather.main_v0)),
      θ_run (Cert.Gather.defs (F := Bits)) (Cert.Gather.threads (F := Bits)) ⟨m, fun _ => 0, g⟩ (fun r => ∀ c : Dev Cert.Gather.nD,
          r.2.mem ((c.tc : Thread Cert.Gather.nD Cert.Gather.τ).loc Cert.Gather.main_v0) = v0 c
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherRows.defs (F := Bits)) (onTc (τ := Cert.GatherRows.τ) (Cert.GatherRows.main (F := Bits))) ⟨m', fun _ => 0, g'⟩ (fun r => ∀ c : Dev Cert.GatherRows.nD,
          r.2.mem ((c.tc : Thread Cert.GatherRows.nD Cert.GatherRows.τ).loc Cert.GatherRows.main_v2) = v0 c
          ∧ r.2.mem ((c.tc : Thread Cert.GatherRows.nD Cert.GatherRows.τ).loc Cert.GatherRows.main_arg0) = m' ((c.tc : Thread Cert.GatherRows.nD Cert.GatherRows.τ).loc Cert.GatherRows.main_arg0)
          ∧ r.2.mem ((c.tc : Thread Cert.GatherRows.nD Cert.GatherRows.τ).loc Cert.GatherRows.main_arg1) = m' ((c.tc : Thread Cert.GatherRows.nD Cert.GatherRows.τ).loc Cert.GatherRows.main_arg1))

def algebraic_GatherIdeal_GatherRowsIdeal [hGatherIdeal : Cert.GatherIdeal.Facts] [hGatherRowsIdeal : Cert.GatherRowsIdeal.Facts] [hPre_names_rows : Cert.Pre_names_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRowsIdeal.nD Cert.GatherRowsIdeal.τ Cert.GatherRowsIdeal.sig) → Buf (Elt Ideal) ℓ) (g' : Dev Cert.GatherRowsIdeal.nD → PrngReg), Pre_GatherIdeal m →
    (∀ c : Dev Cert.GatherIdeal.nD,
      m' ((c.tc : Thread Cert.GatherRowsIdeal.nD Cert.GatherRowsIdeal.τ).loc Cert.GatherRowsIdeal.main_arg0) = m ((c.tc : Thread Cert.GatherIdeal.nD Cert.GatherIdeal.τ).loc Cert.GatherIdeal.main_arg0)
      ∧ m' ((c.tc : Thread Cert.GatherRowsIdeal.nD Cert.GatherRowsIdeal.τ).loc Cert.GatherRowsIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v0)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRowsIdeal.defs (F := Ideal)) (onTc (τ := Cert.GatherRowsIdeal.τ) (Cert.GatherRowsIdeal.main (F := Ideal))) ⟨m', fun _ => 0, g'⟩ (fun r => ∀ c : Dev Cert.GatherRowsIdeal.nD,
          r.2.mem ((c.tc : Thread Cert.GatherRowsIdeal.nD Cert.GatherRowsIdeal.τ).loc Cert.GatherRowsIdeal.main_v2) = v0 c
          ∧ r.2.mem ((c.tc : Thread Cert.GatherRowsIdeal.nD Cert.GatherRowsIdeal.τ).loc Cert.GatherRowsIdeal.main_arg0) = m' ((c.tc : Thread Cert.GatherRowsIdeal.nD Cert.GatherRowsIdeal.τ).loc Cert.GatherRowsIdeal.main_arg0)
          ∧ r.2.mem ((c.tc : Thread Cert.GatherRowsIdeal.nD Cert.GatherRowsIdeal.τ).loc Cert.GatherRowsIdeal.main_arg1) = m' ((c.tc : Thread Cert.GatherRowsIdeal.nD Cert.GatherRowsIdeal.τ).loc Cert.GatherRowsIdeal.main_arg1))

def preserves_Kernel_KernelIdeal : Prop :=
  IdealRules.named_const.Statement Cert.KernelIdeal.κ "log2" .bf16 0x3F31#16 ((Real.log 2 : ℝ) : EReal)
  ∧ IdealRules.named_const.Statement Cert.KernelIdeal.κ "log2" .f32 0x3F317218#32 ((Real.log 2 : ℝ) : EReal)

def algebraic_KernelIdeal_ReferenceIdeal_pre_names_atoms_masked [hKernelIdeal : Cert.KernelIdeal.Facts] [hReferenceIdeal : Cert.ReferenceIdeal.Facts] [hPre_names_atoms_masked : Cert.Pre_names_atoms_masked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_names_atoms_masked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hGather : Cert.Gather.Facts) (hGatherIdeal : Cert.GatherIdeal.Facts) (hGatherRowsIdeal : Cert.GatherRowsIdeal.Facts) (hGatherRows : Cert.GatherRows.Facts) (hKernel : Cert.Kernel.Facts) (hKernelIdeal : Cert.KernelIdeal.Facts) (hReferenceIdeal : Cert.ReferenceIdeal.Facts) (hPre_names_rows : Cert.Pre_names_rows.Facts) (hPre_names_atoms : Cert.Pre_names_atoms.Facts) (hPre_names_atoms_masked : Cert.Pre_names_atoms_masked.Facts),
    quiescent_Gather (hGather := hGather) (hPre_names_rows := hPre_names_rows)
    ∧ quiescent_GatherIdeal (hGatherIdeal := hGatherIdeal) (hPre_names_rows := hPre_names_rows)
    ∧ quiescent_GatherRowsIdeal (hGatherRowsIdeal := hGatherRowsIdeal) (hPre_names_rows := hPre_names_rows)
    ∧ quiescent_GatherRows (hGatherRows := hGatherRows) (hPre_names_rows := hPre_names_rows)
    ∧ quiescent_Kernel (hKernel := hKernel) (hPre_names_atoms := hPre_names_atoms)
    ∧ quiescent_KernelIdeal (hKernelIdeal := hKernelIdeal) (hPre_names_atoms := hPre_names_atoms)
    ∧ quiescent_KernelIdeal_pre_names_atoms_masked (hKernelIdeal := hKernelIdeal) (hPre_names_atoms_masked := hPre_names_atoms_masked)
    ∧ quiescent_ReferenceIdeal (hReferenceIdeal := hReferenceIdeal)
    ∧ quiescent_ReferenceIdeal_pre_names_atoms_masked (hReferenceIdeal := hReferenceIdeal) (hPre_names_atoms_masked := hPre_names_atoms_masked)
    ∧ preserves_Gather_GatherIdeal
    ∧ bitexact_Gather_GatherRows (hGather := hGather) (hGatherRows := hGatherRows) (hPre_names_rows := hPre_names_rows)
    ∧ algebraic_GatherIdeal_GatherRowsIdeal (hGatherIdeal := hGatherIdeal) (hGatherRowsIdeal := hGatherRowsIdeal) (hPre_names_rows := hPre_names_rows)
    ∧ preserves_Kernel_KernelIdeal
    ∧ algebraic_KernelIdeal_ReferenceIdeal_pre_names_atoms_masked (hKernelIdeal := hKernelIdeal) (hReferenceIdeal := hReferenceIdeal) (hPre_names_atoms_masked := hPre_names_atoms_masked)
-- ==== Pre_names_atoms.lean ====
abbrev S4x2500x128 : Shape := ⟨3, ![4, 2500, 128]⟩
abbrev S4x2500x32 : Shape := ⟨3, ![4, 2500, 32]⟩
abbrev S4x2500x32x50 : Shape := ⟨4, ![4, 2500, 32, 50]⟩
abbrev S128x128 : Shape := ⟨2, ![128, 128]⟩
abbrev S50x128 : Shape := ⟨2, ![50, 128]⟩
abbrev S128 : Shape := ⟨1, ![128]⟩
abbrev S_ : Shape := ⟨0, ![]⟩

class Facts : Prop where
  bcast_S_S4x2500x32 : S_.BroadcastsInDim S4x2500x32 (![] : Fin 0 → Fin S4x2500x32.rank)

variable [Facts]

def fn {F : FTy → Type} [FloatOps F] (main_arg0 : FVec F S4x2500x128 .f32) (main_arg1 : FVec F S4x2500x32 .f32) (main_arg2 : IVec S4x2500x32 32) (main_arg3 : FVec F S4x2500x32 .f32) (main_arg4 : FVec F S4x2500x32x50 .f32) (main_arg5 : FVec F S128x128 .f32) (main_arg6 : FVec F S50x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S4x2500x32 1 :=
  let main_c : IVec S_ 32 := constantI S_ 32 0#32
  let main_v0 : IVec S4x2500x32 32 := broadcastInDim S4x2500x32 ![] bcast_S_S4x2500x32 main_c
  let main_v1 : IVec S4x2500x32 1 := cmpi .sge main_arg2 main_v0
  let main_c_0 : IVec S_ 32 := constantI S_ 32 2500#32
  let main_v2 : IVec S4x2500x32 32 := broadcastInDim S4x2500x32 ![] bcast_S_S4x2500x32 main_c_0
  let main_v3 : IVec S4x2500x32 1 := cmpi .slt main_arg2 main_v2
  let main_v4 : IVec S4x2500x32 1 := andi main_v1 main_v3
  main_v4
-- ==== Pre_names_atoms_masked.lean ====
abbrev S4x2500x128 : Shape := ⟨3, ![4, 2500, 128]⟩
abbrev S4x2500x32 : Shape := ⟨3, ![4, 2500, 32]⟩
abbrev S4x2500x32x50 : Shape := ⟨4, ![4, 2500, 32, 50]⟩
abbrev S128x128 : Shape := ⟨2, ![128, 128]⟩
abbrev S50x128 : Shape := ⟨2, ![50, 128]⟩
abbrev S128 : Shape := ⟨1, ![128]⟩
abbrev S_ : Shape := ⟨0, ![]⟩

class Facts : Prop where
  bcast_S_S4x2500x32 : S_.BroadcastsInDim S4x2500x32 (![] : Fin 0 → Fin S4x2500x32.rank)

variable [Facts]

def fn {F : FTy → Type} [FloatOps F] (main_arg0 : FVec F S4x2500x128 .f32) (main_arg1 : FVec F S4x2500x32 .f32) (main_arg2 : IVec S4x2500x32 32) (main_arg3 : FVec F S4x2500x32 .f32) (main_arg4 : FVec F S4x2500x32x50 .f32) (main_arg5 : FVec F S128x128 .f32) (main_arg6 : FVec F S50x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S4x2500x32 1 :=
  let main_c : IVec S_ 32 := constantI S_ 32 0#32
  let main_v0 : IVec S4x2500x32 32 := broadcastInDim S4x2500x32 ![] bcast_S_S4x2500x32 main_c
  let main_v1 : IVec S4x2500x32 1 := cmpi .sge main_arg2 main_v0
  let main_c_0 : IVec S_ 32 := constantI S_ 32 2500#32
  let main_v2 : IVec S4x2500x32 32 := broadcastInDim S4x2500x32 ![] bcast_S_S4x2500x32 main_c_0
  let main_v3 : IVec S4x2500x32 1 := cmpi .slt main_arg2 main_v2
  let main_v4 : IVec S4x2500x32 1 := andi main_v1 main_v3
  let main_cst : FVec F S_ .f32 := constant S_ .f32 0x00000000#32
  let main_v5 : FVec F S4x2500x32 .f32 := broadcastInDim S4x2500x32 ![] bcast_S_S4x2500x32 main_cst
  let main_v6 : IVec S4x2500x32 1 := cmpf .oeq main_arg3 main_v5
  let main_cst_1 : FVec F S_ .f32 := constant S_ .f32 0x3F800000#32
  let main_v7 : FVec F S4x2500x32 .f32 := broadcastInDim S4x2500x32 ![] bcast_S_S4x2500x32 main_cst_1
  let main_v8 : IVec S4x2500x32 1 := cmpf .oeq main_arg3 main_v7
  let main_v9 : IVec S4x2500x32 1 := ori main_v6 main_v8
  let main_v10 : IVec S4x2500x32 1 := andi main_v4 main_v9
  main_v10
-- ==== Pre_names_rows.lean ====
abbrev S10008x128 : Shape := ⟨2, ![10008, 128]⟩
abbrev S1x323584 : Shape := ⟨2, ![1, 323584]⟩
abbrev S_ : Shape := ⟨0, ![]⟩

class Facts : Prop where
  bcast_S_S1x323584 : S_.BroadcastsInDim S1x323584 (![] : Fin 0 → Fin S1x323584.rank)

variable [Facts]

def fn {F : FTy → Type} [FloatOps F] (main_arg0 : FVec F S10008x128 .f32) (main_arg1 : IVec S1x323584 32) : IVec S1x323584 1 :=
  let main_c : IVec S_ 32 := constantI S_ 32 0#32
  let main_v0 : IVec S1x323584 32 := broadcastInDim S1x323584 ![] bcast_S_S1x323584 main_c
  let main_v1 : IVec S1x323584 1 := cmpi .sge main_arg1 main_v0
  let main_c_0 : IVec S_ 32 := constantI S_ 32 10008#32
  let main_v2 : IVec S1x323584 32 := broadcastInDim S1x323584 ![] bcast_S_S1x323584 main_c_0
  let main_v3 : IVec S1x323584 1 := cmpi .slt main_arg1 main_v2
  let main_v4 : IVec S1x323584 1 := andi main_v1 main_v3
  main_v4
-- ==== Gather.lean ====
abbrev S10008x128 : Shape := ⟨2, ![10008, 128]⟩
abbrev S1x323584 : Shape := ⟨2, ![1, 323584]⟩
abbrev S323584x128 : Shape := ⟨2, ![323584, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩

abbrev nBuf : Table → Nat
  | .hbm => 3
  | .local .scVector .vmem => 2
  | _ => 0

abbrev bufTy : (tb : Table) → Fin (nBuf tb) → BufTy
  | .hbm, ⟨0, _⟩ => ⟨S10008x128, .f32⟩
  | .hbm, ⟨1, _⟩ => ⟨S1x323584, .i32⟩
  | .hbm, ⟨2, _⟩ => ⟨S323584x128, .f32⟩
  | .local .scVector .vmem, ⟨0, _⟩ => ⟨S2x1x128, .i32⟩
  | .local .scVector .vmem, ⟨1, _⟩ => ⟨S2x128x128, .f32⟩
  | _, _ => ⟨S10008x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c79_i32 : BitVec 32 := 79#32
  let v4 : BitVec 32 := Scalar.muli v3 c79_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c79_i32_27_r0 : BitVec 32 := 79#32
  let v32_r0 : BitVec 32 := Scalar.addi c0_i32_26_r0 c79_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c79_i32 : BitVec 32 := 79#32
  let v4 : BitVec 32 := Scalar.muli v3 c79_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c79_i32_62_r0 : BitVec 32 := 79#32
  let v74_r0 : BitVec 1 := Scalar.cmpi .eq v73_r0 c79_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c78_i32_68_r0 : BitVec 32 := 78#32
  let v83_r0 : BitVec 1 := Scalar.cmpi .sge arg5_r0 c78_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c79_i32_62_r0 : BitVec 32 := 79#32
  let v74_r0 : BitVec 1 := Scalar.cmpi .eq v73_r0 c79_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c79_i32 : BitVec 32 := 79#32
  let v4 : BitVec 32 := Scalar.muli v3 c79_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c79_i32 : BitVec 32 := 79#32
  let v4 : BitVec 32 := Scalar.muli v3 c79_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c78_i32_59_r0 : BitVec 32 := 78#32
  let v70_r0 : BitVec 32 := Scalar.select v69_r0 c78_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c79_i32 : BitVec 32 := 79#32
  let v4 : BitVec 32 := Scalar.muli v3 c79_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c79_i32 : BitVec 32 := 79#32
  let v4 : BitVec 32 := Scalar.muli v3 c79_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c79_i32_62_r0 : BitVec 32 := 79#32
  let v74_r0 : BitVec 1 := Scalar.cmpi .eq v73_r0 c79_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c78_i32_55_r0 : BitVec 32 := 78#32
  let v65_r0 : BitVec 1 := Scalar.cmpi .eq arg5_r0 c78_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c79_i32 : BitVec 32 := 79#32
  let v4 : BitVec 32 := Scalar.muli v3 c79_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c79_i32 : BitVec 32 := 79#32
  let v4 : BitVec 32 := Scalar.muli v3 c79_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c78_i32_59_r0 : BitVec 32 := 78#32
  let v70_r0 : BitVec 32 := Scalar.select v69_r0 c78_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c78_i32_59_r0 : BitVec 32 := 78#32
  let v70_r0 : BitVec 32 := Scalar.select v69_r0 c78_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c79_i32 : BitVec 32 := 79#32
  let v4 : BitVec 32 := Scalar.muli v3 c79_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x323584.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x323584.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S323584x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S323584x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x323584.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x323584.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S323584x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S323584x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c78_i32_33_r0 : BitVec 32 := 78#32
  let v37_r0 : BitVec 32 := Scalar.select v36_r0 c78_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c79_i32 : BitVec 32 := 79#32
  let v4 : BitVec 32 := Scalar.muli v3 c79_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S323584x128.size a)
theorem k0_off19_inb : ∀ (i : grid0.Coords) (v33_4_r0 : BitVec 32) (k0_hw5 : k0_chk5 i v33_4_r0), ∀ a, (k0_off19 i v33_4_r0) a + S128x128.size a ≤ S323584x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRows.lean ====
abbrev S10008x128 : Shape := ⟨2, ![10008, 128]⟩
abbrev S1x323584 : Shape := ⟨2, ![1, 323584]⟩
abbrev S323584 : Shape := ⟨1, ![323584]⟩
abbrev S323584x1 : Shape := ⟨2, ![323584, 1]⟩
abbrev S_ : Shape := ⟨0, ![]⟩
abbrev S1 : Shape := ⟨1, ![1]⟩
abbrev S1x1 : Shape := ⟨2, ![1, 1]⟩
abbrev S323584x128 : Shape := ⟨2, ![323584, 128]⟩

abbrev nBuf : Space → Nat
  | .hbm => 26
  | .vmem => 0
  | .smem => 0
  | _ => 0

abbrev bufTy : (tb : Table) → Fin (tcTables nBuf tb) → BufTy
  | .hbm, ⟨0, _⟩ => ⟨S10008x128, .f32⟩
  | .hbm, ⟨1, _⟩ => ⟨S1x323584, .i32⟩
  | .hbm, ⟨2, _⟩ => ⟨S323584, .i32⟩
  | .hbm, ⟨3, _⟩ => ⟨S323584x1, .i32⟩
  | .hbm, ⟨4, _⟩ => ⟨S_, .i32⟩
  | .hbm, ⟨5, _⟩ => ⟨S323584x1, .i32⟩
  | .hbm, ⟨6, _⟩ => ⟨S323584x1, .i1⟩
  | .hbm, ⟨7, _⟩ => ⟨S_, .i32⟩
  | .hbm, ⟨8, _⟩ => ⟨S323584x1, .i32⟩
  | .hbm, ⟨9, _⟩ => ⟨S323584x1, .i32⟩
  | .hbm, ⟨10, _⟩ => ⟨S323584x1, .i32⟩
  | .hbm, ⟨11, _⟩ => ⟨S1, .i32⟩
  | .hbm, ⟨12, _⟩ => ⟨S_, .i32⟩
  | .hbm, ⟨13, _⟩ => ⟨S323584x1, .i32⟩
  | .hbm, ⟨14, _⟩ => ⟨S323584x1, .i1⟩
  | .hbm, ⟨15, _⟩ => ⟨S1x1, .i32⟩
  | .hbm, ⟨16, _⟩ => ⟨S323584x1, .i32⟩
  | .hbm, ⟨17, _⟩ => ⟨S323584x1, .i1⟩
  | .hbm, ⟨18, _⟩ => ⟨S323584x1, .i1⟩
  | .hbm, ⟨19, _⟩ => ⟨S_, .i1⟩
  | .hbm, ⟨20, _⟩ => ⟨S323584, .i1⟩
  | .hbm, ⟨21, _⟩ => ⟨S323584x128, .f32⟩
  | .hbm, ⟨22, _⟩ => ⟨S323584x128, .i1⟩
  | .hbm, ⟨23, _⟩ => ⟨S_, .f32⟩
  | .hbm, ⟨24, _⟩ => ⟨S323584x128, .f32⟩
  | .hbm, ⟨25, _⟩ => ⟨S323584x128, .f32⟩
  | _, _ => ⟨S10008x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_c_2 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩

abbrev nD : Nat := 1
abbrev τ : Topo := Topo.v7x

variable {F : FTy → Type} [FloatOps F]
-- ==== Kernel.lean ====
abbrev S4x2500x128 : Shape := ⟨3, ![4, 2500, 128]⟩
abbrev S4x2500x32 : Shape := ⟨3, ![4, 2500, 32]⟩
abbrev S4x2500x32x50 : Shape := ⟨4, ![4, 2500, 32, 50]⟩
abbrev S128x128 : Shape := ⟨2, ![128, 128]⟩
abbrev S50x128 : Shape := ⟨2, ![50, 128]⟩
abbrev S128 : Shape := ⟨1, ![128]⟩
abbrev S10000x128 : Shape := ⟨2, ![10000, 128]⟩
abbrev S_ : Shape := ⟨0, ![]⟩
abbrev S10008x128 : Shape := ⟨2, ![10008, 128]⟩
abbrev S4 : Shape := ⟨1, ![4]⟩
abbrev S4x1x1 : Shape := ⟨3, ![4, 1, 1]⟩
abbrev S320000 : Shape := ⟨1, ![320000]⟩
abbrev S323584 : Shape := ⟨1, ![323584]⟩
abbrev S1x323584 : Shape := ⟨2, ![1, 323584]⟩
abbrev S323584x128 : Shape := ⟨2, ![323584, 128]⟩
abbrev S4x1x128 : Shape := ⟨3, ![4, 1, 128]⟩
abbrev S3x128x128 : Shape := ⟨3, ![3, 128, 128]⟩
abbrev S3 : Shape := ⟨1, ![3]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S10000x32x50 : Shape := ⟨3, ![10000, 32, 50]⟩
abbrev S400x32x50 : Shape := ⟨3, ![400, 32, 50]⟩
abbrev S12800x128 : Shape := ⟨2, ![12800, 128]⟩
abbrev S400x128 : Shape := ⟨2, ![400, 128]⟩
abbrev S12800x50 : Shape := ⟨2, ![12800, 50]⟩
abbrev S400x32x128 : Shape := ⟨3, ![400, 32, 128]⟩

abbrev nBuf : Table → Nat
  | .hbm => 55
  | .local .tc .vmem => 17
  | .local .scVector .vmem => 2
  | _ => 0

abbrev bufTy : (tb : Table) → Fin (nBuf tb) → BufTy
  | .hbm, ⟨0, _⟩ => ⟨S4x2500x128, .f32⟩
  | .hbm, ⟨1, _⟩ => ⟨S4x2500x32, .f32⟩
  | .hbm, ⟨2, _⟩ => ⟨S4x2500x32, .i32⟩
  | .hbm, ⟨3, _⟩ => ⟨S4x2500x32, .f32⟩
  | .hbm, ⟨4, _⟩ => ⟨S4x2500x32x50, .f32⟩
  | .hbm, ⟨5, _⟩ => ⟨S128x128, .f32⟩
  | .hbm, ⟨6, _⟩ => ⟨S50x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S10000x128, .f32⟩
  | .hbm, ⟨15, _⟩ => ⟨S_, .i32⟩
  | .hbm, ⟨16, _⟩ => ⟨S_, .f32⟩
  | .hbm, ⟨17, _⟩ => ⟨S10008x128, .f32⟩
  | .hbm, ⟨18, _⟩ => ⟨S10008x128, .f32⟩
  | .hbm, ⟨19, _⟩ => ⟨S_, .f32⟩
  | .hbm, ⟨20, _⟩ => ⟨S4x2500x32, .f32⟩
  | .hbm, ⟨21, _⟩ => ⟨S4x2500x32, .i1⟩
  | .hbm, ⟨22, _⟩ => ⟨S_, .f32⟩
  | .hbm, ⟨23, _⟩ => ⟨S4x2500x32, .f32⟩
  | .hbm, ⟨24, _⟩ => ⟨S4x2500x32, .i1⟩
  | .hbm, ⟨25, _⟩ => ⟨S4x2500x32, .i1⟩
  | .hbm, ⟨26, _⟩ => ⟨S4, .i32⟩
  | .hbm, ⟨27, _⟩ => ⟨S_, .i32⟩
  | .hbm, ⟨28, _⟩ => ⟨S4, .i32⟩
  | .hbm, ⟨29, _⟩ => ⟨S4, .i32⟩
  | .hbm, ⟨30, _⟩ => ⟨S4x1x1, .i32⟩
  | .hbm, ⟨31, _⟩ => ⟨S4x2500x32, .i32⟩
  | .hbm, ⟨32, _⟩ => ⟨S4x2500x32, .i32⟩
  | .hbm, ⟨33, _⟩ => ⟨S_, .i32⟩
  | .hbm, ⟨34, _⟩ => ⟨S_, .i32⟩
  | .hbm, ⟨35, _⟩ => ⟨S4x2500x32, .i32⟩
  | .hbm, ⟨36, _⟩ => ⟨S4x2500x32, .i32⟩
  | .hbm, ⟨37, _⟩ => ⟨S320000, .i32⟩
  | .hbm, ⟨38, _⟩ => ⟨S_, .i32⟩
  | .hbm, ⟨39, _⟩ => ⟨S_, .i32⟩
  | .hbm, ⟨40, _⟩ => ⟨S323584, .i32⟩
  | .hbm, ⟨41, _⟩ => ⟨S1x323584, .i32⟩
  | .hbm, ⟨42, _⟩ => ⟨S323584x128, .f32⟩
  | .hbm, ⟨43, _⟩ => ⟨S10000x32x50, .f32⟩
  | .hbm, ⟨44, _⟩ => ⟨S10000x32x50, .bf16⟩
  | .hbm, ⟨45, _⟩ => ⟨S50x128, .bf16⟩
  | .hbm, ⟨46, _⟩ => ⟨S1x128, .f32⟩
  | .hbm, ⟨47, _⟩ => ⟨S128x128, .bf16⟩
  | .hbm, ⟨48, _⟩ => ⟨S1x128, .f32⟩
  | .hbm, ⟨49, _⟩ => ⟨S128x128, .bf16⟩
  | .hbm, ⟨50, _⟩ => ⟨S1x128, .f32⟩
  | .hbm, ⟨51, _⟩ => ⟨S128x128, .bf16⟩
  | .hbm, ⟨52, _⟩ => ⟨S1x128, .f32⟩
  | .hbm, ⟨53, _⟩ => ⟨S10000x128, .f32⟩
  | .hbm, ⟨54, _⟩ => ⟨S4x2500x128, .f32⟩
  | .local .tc .vmem, ⟨0, _⟩ => ⟨S10008x128, .f32⟩
  | .local .tc .vmem, ⟨1, _⟩ => ⟨S128x128, .f32⟩
  | .local .tc .vmem, ⟨2, _⟩ => ⟨S10008x128, .f32⟩
  | .local .tc .vmem, ⟨3, _⟩ => ⟨S400x32x50, .bf16⟩
  | .local .tc .vmem, ⟨4, _⟩ => ⟨S400x32x50, .bf16⟩
  | .local .tc .vmem, ⟨5, _⟩ => ⟨S12800x128, .f32⟩
  | .local .tc .vmem, ⟨6, _⟩ => ⟨S12800x128, .f32⟩
  | .local .tc .vmem, ⟨7, _⟩ => ⟨S50x128, .bf16⟩
  | .local .tc .vmem, ⟨8, _⟩ => ⟨S1x128, .f32⟩
  | .local .tc .vmem, ⟨9, _⟩ => ⟨S128x128, .bf16⟩
  | .local .tc .vmem, ⟨10, _⟩ => ⟨S1x128, .f32⟩
  | .local .tc .vmem, ⟨11, _⟩ => ⟨S128x128, .bf16⟩
  | .local .tc .vmem, ⟨12, _⟩ => ⟨S1x128, .f32⟩
  | .local .tc .vmem, ⟨13, _⟩ => ⟨S128x128, .bf16⟩
  | .local .tc .vmem, ⟨14, _⟩ => ⟨S1x128, .f32⟩
  | .local .tc .vmem, ⟨15, _⟩ => ⟨S400x128, .f32⟩
  | .local .tc .vmem, ⟨16, _⟩ => ⟨S400x128, .f32⟩
  | .local .scVector .vmem, ⟨0, _⟩ => ⟨S4x1x128, .i32⟩
  | .local .scVector .vmem, ⟨1, _⟩ => ⟨S3x128x128, .f32⟩
  | _, _ => ⟨S4x2500x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_call1_v0 : Ref sig .tc := ⟨.hbm, 34, rfl⟩
abbrev main_call1_v1 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_call2_v0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v2_scv : Ref sig .scVector := ⟨.hbm, 18, rfl⟩
abbrev main_v17_scv : Ref sig .scVector := ⟨.hbm, 41, rfl⟩
abbrev main_v18_scv : Ref sig .scVector := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg6_0 : Ref sig .tc := ⟨.vmem, 11, rfl⟩
abbrev cc2_stg7_0 : Ref sig .tc := ⟨.vmem, 12, rfl⟩
abbrev cc2_stg8_0 : Ref sig .tc := ⟨.vmem, 13, rfl⟩
abbrev cc2_stg9_0 : Ref sig .tc := ⟨.vmem, 14, rfl⟩
abbrev cc2_stg10_0 : Ref sig .tc := ⟨.vmem, 15, rfl⟩
abbrev cc2_stg10_1 : Ref sig .tc := ⟨.vmem, 16, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem10_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S10008x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10008x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) (c0_i32 : BitVec 32) : Fin 2 → Nat :=
  let c0_i32_4 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c79_i32 : BitVec 32 := 79#32
  let v2 : BitVec 32 := Scalar.muli v1 c79_i32
  let v3 : BitVec 32 := Scalar.addi v2 c0_i32
  let c128_i32 : BitVec 32 := 128#32
  let v4 : BitVec 32 := Scalar.muli v3 c128_i32
  ![0, v4.toNat]
@[reducible] def k1_t1_loop : Scf.Loop 32 :=
  let c0_i32_35 : BitVec 32 := 0#32
  let c79_i32_36 : BitVec 32 := 79#32
  let v43 : BitVec 32 := Scalar.addi c0_i32_35 c79_i32_36
  let c1_i32_37 : BitVec 32 := 1#32
  ⟨c0_i32_35, v43, c1_i32_37⟩
def k1_cond1 (k1_t1 : Fin k1_t1_loop.trips) : BitVec 1 :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c2_i32_106 : BitVec 32 := 2#32
  let v110 : BitVec 1 := Scalar.cmpi .sge v109 c2_i32_106
  let v111 : BitVec 32 := Scalar.extui v110
  let c0_i32_107 : BitVec 32 := 0#32
  let v112 : BitVec 1 := Scalar.cmpi .ne v111 c0_i32_107
  v112

def k1_off2 (k1_t1 : Fin k1_t1_loop.trips) : Fin 3 → Nat :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c2_i32_152 : BitVec 32 := 2#32
  let v183 : BitVec 32 := Scalar.subi v109 c2_i32_152
  let c3_i32_159 : BitVec 32 := 3#32
  let c0_i32_160 : BitVec 32 := 0#32
  let v194 : BitVec 1 := Scalar.cmpi .eq c3_i32_159 c0_i32_160
  let c1_i32_161 : BitVec 32 := 1#32
  let v195 : BitVec 32 := Scalar.select v194 c1_i32_161 c3_i32_159
  let v196 : BitVec 32 := Scalar.remsi v183 v195
  let c0_i32_163 : BitVec 32 := 0#32
  let v198 : BitVec 1 := Scalar.cmpi .slt v196 c0_i32_163
  let c0_i32_164 : BitVec 32 := 0#32
  let v199 : BitVec 1 := Scalar.cmpi .slt v195 c0_i32_164
  let v200 : BitVec 1 := Scalar.xori v198 v199
  let c0_i32_162 : BitVec 32 := 0#32
  let v197 : BitVec 1 := Scalar.cmpi .ne v196 c0_i32_162
  let v201 : BitVec 1 := Scalar.andi v200 v197
  let v202 : BitVec 32 := Scalar.addi v196 v195
  let v203 : BitVec 32 := Scalar.select v201 v202 v196
  let c0_i32_172 : BitVec 32 := 0#32
  let c0_i32_173 : BitVec 32 := 0#32
  ![v203.toNat, 0, 0]
def k1_off3 (k1_t1 : Fin k1_t1_loop.trips) : Fin 3 → Nat :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c2_i32_152 : BitVec 32 := 2#32
  let v183 : BitVec 32 := Scalar.subi v109 c2_i32_152
  let c4_i32_153 : BitVec 32 := 4#32
  let c0_i32_154 : BitVec 32 := 0#32
  let v184 : BitVec 1 := Scalar.cmpi .eq c4_i32_153 c0_i32_154
  let c1_i32_155 : BitVec 32 := 1#32
  let v185 : BitVec 32 := Scalar.select v184 c1_i32_155 c4_i32_153
  let v186 : BitVec 32 := Scalar.remsi v183 v185
  let c0_i32_157 : BitVec 32 := 0#32
  let v188 : BitVec 1 := Scalar.cmpi .slt v186 c0_i32_157
  let c0_i32_158 : BitVec 32 := 0#32
  let v189 : BitVec 1 := Scalar.cmpi .slt v185 c0_i32_158
  let v190 : BitVec 1 := Scalar.xori v188 v189
  let c0_i32_156 : BitVec 32 := 0#32
  let v187 : BitVec 1 := Scalar.cmpi .ne v186 c0_i32_156
  let v191 : BitVec 1 := Scalar.andi v190 v187
  let v192 : BitVec 32 := Scalar.addi v186 v185
  let v193 : BitVec 32 := Scalar.select v191 v192 v186
  let c0_i32_171 : BitVec 32 := 0#32
  let c0_i32_174 : BitVec 32 := 0#32
  ![v193.toNat, 0, 0]
def k1_off4 (k1_t1 : Fin k1_t1_loop.trips) : Fin 1 → Nat :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c2_i32_152 : BitVec 32 := 2#32
  let v183 : BitVec 32 := Scalar.subi v109 c2_i32_152
  let c4_i32_165 : BitVec 32 := 4#32
  let c0_i32_166 : BitVec 32 := 0#32
  let v204 : BitVec 1 := Scalar.cmpi .eq c4_i32_165 c0_i32_166
  let c1_i32_167 : BitVec 32 := 1#32
  let v205 : BitVec 32 := Scalar.select v204 c1_i32_167 c4_i32_165
  let v206 : BitVec 32 := Scalar.remsi v183 v205
  let c0_i32_169 : BitVec 32 := 0#32
  let v208 : BitVec 1 := Scalar.cmpi .slt v206 c0_i32_169
  let c0_i32_170 : BitVec 32 := 0#32
  let v209 : BitVec 1 := Scalar.cmpi .slt v205 c0_i32_170
  let v210 : BitVec 1 := Scalar.xori v208 v209
  let c0_i32_168 : BitVec 32 := 0#32
  let v207 : BitVec 1 := Scalar.cmpi .ne v206 c0_i32_168
  let v211 : BitVec 1 := Scalar.andi v210 v207
  let v212 : BitVec 32 := Scalar.addi v206 v205
  let v213 : BitVec 32 := Scalar.select v211 v212 v206
  ![v213.toNat]
def k1_off5 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c79_i32 : BitVec 32 := 79#32
  let v2 : BitVec 32 := Scalar.muli v1 c79_i32
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c2_i32_177 : BitVec 32 := 2#32
  let v221 : BitVec 32 := Scalar.subi v109 c2_i32_177
  let v232 : BitVec 32 := Scalar.addi v2 v221
  let c128_i32_184 : BitVec 32 := 128#32
  let v233 : BitVec 32 := Scalar.muli v232 c128_i32_184
  let c0_i32_193 : BitVec 32 := 0#32
  ![v233.toNat, 0]
def k1_off6 (k1_t1 : Fin k1_t1_loop.trips) : Fin 1 → Nat :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c2_i32_177 : BitVec 32 := 2#32
  let v221 : BitVec 32 := Scalar.subi v109 c2_i32_177
  let c3_i32_185 : BitVec 32 := 3#32
  let c0_i32_186 : BitVec 32 := 0#32
  let v234 : BitVec 1 := Scalar.cmpi .eq c3_i32_185 c0_i32_186
  let c1_i32_187 : BitVec 32 := 1#32
  let v235 : BitVec 32 := Scalar.select v234 c1_i32_187 c3_i32_185
  let v236 : BitVec 32 := Scalar.remsi v221 v235
  let c0_i32_189 : BitVec 32 := 0#32
  let v238 : BitVec 1 := Scalar.cmpi .slt v236 c0_i32_189
  let c0_i32_190 : BitVec 32 := 0#32
  let v239 : BitVec 1 := Scalar.cmpi .slt v235 c0_i32_190
  let v240 : BitVec 1 := Scalar.xori v238 v239
  let c0_i32_188 : BitVec 32 := 0#32
  let v237 : BitVec 1 := Scalar.cmpi .ne v236 c0_i32_188
  let v241 : BitVec 1 := Scalar.andi v240 v237
  let v242 : BitVec 32 := Scalar.addi v236 v235
  let v243 : BitVec 32 := Scalar.select v241 v242 v236
  ![v243.toNat]
def k1_cond2 (k1_t1 : Fin k1_t1_loop.trips) : BitVec 1 :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c2_i32_197 : BitVec 32 := 2#32
  let v252 : BitVec 32 := Scalar.addi v109 c2_i32_197
  let c79_i32_198 : BitVec 32 := 79#32
  let v253 : BitVec 1 := Scalar.cmpi .slt v252 c79_i32_198
  let v254 : BitVec 32 := Scalar.extui v253
  let c0_i32_199 : BitVec 32 := 0#32
  let v255 : BitVec 1 := Scalar.cmpi .ne v254 c0_i32_199
  v255

def k1_off7 (k1_t1 : Fin k1_t1_loop.trips) : Fin 3 → Nat :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c2_i32_200 : BitVec 32 := 2#32
  let v256 : BitVec 32 := Scalar.addi v109 c2_i32_200
  let c4_i32_202 : BitVec 32 := 4#32
  let c0_i32_203 : BitVec 32 := 0#32
  let v259 : BitVec 1 := Scalar.cmpi .eq c4_i32_202 c0_i32_203
  let c1_i32_204 : BitVec 32 := 1#32
  let v260 : BitVec 32 := Scalar.select v259 c1_i32_204 c4_i32_202
  let v261 : BitVec 32 := Scalar.remsi v256 v260
  let c0_i32_206 : BitVec 32 := 0#32
  let v263 : BitVec 1 := Scalar.cmpi .slt v261 c0_i32_206
  let c0_i32_207 : BitVec 32 := 0#32
  let v264 : BitVec 1 := Scalar.cmpi .slt v260 c0_i32_207
  let v265 : BitVec 1 := Scalar.xori v263 v264
  let c0_i32_205 : BitVec 32 := 0#32
  let v262 : BitVec 1 := Scalar.cmpi .ne v261 c0_i32_205
  let v266 : BitVec 1 := Scalar.andi v265 v262
  let v267 : BitVec 32 := Scalar.addi v261 v260
  let v268 : BitVec 32 := Scalar.select v266 v267 v261
  let c0_i32_214 : BitVec 32 := 0#32
  let c0_i32_215 : BitVec 32 := 0#32
  ![v268.toNat, 0, 0]
def k1_off8 (i : grid1.Coords) (k1_t1 : Fin k1_t1_loop.trips) : Fin 2 → Nat :=
  let c0_i32_216 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c79_i32 : BitVec 32 := 79#32
  let v2 : BitVec 32 := Scalar.muli v1 c79_i32
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c2_i32_200 : BitVec 32 := 2#32
  let v256 : BitVec 32 := Scalar.addi v109 c2_i32_200
  let v257 : BitVec 32 := Scalar.addi v2 v256
  let c128_i32_201 : BitVec 32 := 128#32
  let v258 : BitVec 32 := Scalar.muli v257 c128_i32_201
  ![0, v258.toNat]
def k1_off9 (k1_t1 : Fin k1_t1_loop.trips) : Fin 1 → Nat :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c2_i32_200 : BitVec 32 := 2#32
  let v256 : BitVec 32 := Scalar.addi v109 c2_i32_200
  let c4_i32_208 : BitVec 32 := 4#32
  let c0_i32_209 : BitVec 32 := 0#32
  let v269 : BitVec 1 := Scalar.cmpi .eq c4_i32_208 c0_i32_209
  let c1_i32_210 : BitVec 32 := 1#32
  let v270 : BitVec 32 := Scalar.select v269 c1_i32_210 c4_i32_208
  let v271 : BitVec 32 := Scalar.remsi v256 v270
  let c0_i32_212 : BitVec 32 := 0#32
  let v273 : BitVec 1 := Scalar.cmpi .slt v271 c0_i32_212
  let c0_i32_213 : BitVec 32 := 0#32
  let v274 : BitVec 1 := Scalar.cmpi .slt v270 c0_i32_213
  let v275 : BitVec 1 := Scalar.xori v273 v274
  let c0_i32_211 : BitVec 32 := 0#32
  let v272 : BitVec 1 := Scalar.cmpi .ne v271 c0_i32_211
  let v276 : BitVec 1 := Scalar.andi v275 v272
  let v277 : BitVec 32 := Scalar.addi v271 v270
  let v278 : BitVec 32 := Scalar.select v276 v277 v271
  ![v278.toNat]
def k1_cond3 (k1_t1 : Fin k1_t1_loop.trips) : BitVec 1 :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c3_i32_108 : BitVec 32 := 3#32
  let v113 : BitVec 1 := Scalar.cmpi .sge v109 c3_i32_108
  let v114 : BitVec 32 := Scalar.extui v113
  let c0_i32_109 : BitVec 32 := 0#32
  let v115 : BitVec 1 := Scalar.cmpi .ne v114 c0_i32_109
  v115

def k1_off10 (k1_t1 : Fin k1_t1_loop.trips) : Fin 3 → Nat :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c3_i32_152 : BitVec 32 := 3#32
  let v183 : BitVec 32 := Scalar.subi v109 c3_i32_152
  let c3_i32_153 : BitVec 32 := 3#32
  let c0_i32_154 : BitVec 32 := 0#32
  let v184 : BitVec 1 := Scalar.cmpi .eq c3_i32_153 c0_i32_154
  let c1_i32_155 : BitVec 32 := 1#32
  let v185 : BitVec 32 := Scalar.select v184 c1_i32_155 c3_i32_153
  let v186 : BitVec 32 := Scalar.remsi v183 v185
  let c0_i32_157 : BitVec 32 := 0#32
  let v188 : BitVec 1 := Scalar.cmpi .slt v186 c0_i32_157
  let c0_i32_158 : BitVec 32 := 0#32
  let v189 : BitVec 1 := Scalar.cmpi .slt v185 c0_i32_158
  let v190 : BitVec 1 := Scalar.xori v188 v189
  let c0_i32_156 : BitVec 32 := 0#32
  let v187 : BitVec 1 := Scalar.cmpi .ne v186 c0_i32_156
  let v191 : BitVec 1 := Scalar.andi v190 v187
  let v192 : BitVec 32 := Scalar.addi v186 v185
  let v193 : BitVec 32 := Scalar.select v191 v192 v186
  let c0_i32_166 : BitVec 32 := 0#32
  let c0_i32_167 : BitVec 32 := 0#32
  ![v193.toNat, 0, 0]
def k1_off11 (i : grid1.Coords) (k1_t1 : Fin k1_t1_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c79_i32 : BitVec 32 := 79#32
  let v2 : BitVec 32 := Scalar.muli v1 c79_i32
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c3_i32_152 : BitVec 32 := 3#32
  let v183 : BitVec 32 := Scalar.subi v109 c3_i32_152
  let v194 : BitVec 32 := Scalar.addi v2 v183
  let c128_i32_159 : BitVec 32 := 128#32
  let v195 : BitVec 32 := Scalar.muli v194 c128_i32_159
  let c0_i32_168 : BitVec 32 := 0#32
  ![v195.toNat, 0]
def k1_off12 (k1_t1 : Fin k1_t1_loop.trips) : Fin 1 → Nat :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c3_i32_152 : BitVec 32 := 3#32
  let v183 : BitVec 32 := Scalar.subi v109 c3_i32_152
  let c3_i32_160 : BitVec 32 := 3#32
  let c0_i32_161 : BitVec 32 := 0#32
  let v196 : BitVec 1 := Scalar.cmpi .eq c3_i32_160 c0_i32_161
  let c1_i32_162 : BitVec 32 := 1#32
  let v197 : BitVec 32 := Scalar.select v196 c1_i32_162 c3_i32_160
  let v198 : BitVec 32 := Scalar.remsi v183 v197
  let c0_i32_164 : BitVec 32 := 0#32
  let v200 : BitVec 1 := Scalar.cmpi .slt v198 c0_i32_164
  let c0_i32_165 : BitVec 32 := 0#32
  let v201 : BitVec 1 := Scalar.cmpi .slt v197 c0_i32_165
  let v202 : BitVec 1 := Scalar.xori v200 v201
  let c0_i32_163 : BitVec 32 := 0#32
  let v199 : BitVec 1 := Scalar.cmpi .ne v198 c0_i32_163
  let v203 : BitVec 1 := Scalar.andi v202 v199
  let v204 : BitVec 32 := Scalar.addi v198 v197
  let v205 : BitVec 32 := Scalar.select v203 v204 v198
  ![v205.toNat]
def k1_off13 (k1_t1 : Fin k1_t1_loop.trips) : Fin 3 → Nat :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c4_i32 : BitVec 32 := 4#32
  let c0_i32_111 : BitVec 32 := 0#32
  let v118 : BitVec 1 := Scalar.cmpi .eq c4_i32 c0_i32_111
  let c1_i32_112 : BitVec 32 := 1#32
  let v119 : BitVec 32 := Scalar.select v118 c1_i32_112 c4_i32
  let v120 : BitVec 32 := Scalar.remsi v109 v119
  let c0_i32_114 : BitVec 32 := 0#32
  let v122 : BitVec 1 := Scalar.cmpi .slt v120 c0_i32_114
  let c0_i32_115 : BitVec 32 := 0#32
  let v123 : BitVec 1 := Scalar.cmpi .slt v119 c0_i32_115
  let v124 : BitVec 1 := Scalar.xori v122 v123
  let c0_i32_113 : BitVec 32 := 0#32
  let v121 : BitVec 1 := Scalar.cmpi .ne v120 c0_i32_113
  let v125 : BitVec 1 := Scalar.andi v124 v121
  let v126 : BitVec 32 := Scalar.addi v120 v119
  let v127 : BitVec 32 := Scalar.select v125 v126 v120
  let c0_i32_122 : BitVec 32 := 0#32
  let c0_i32_123 : BitVec 32 := 0#32
  ![v127.toNat, 0, 0]
def k1_off14 (i : grid1.Coords) (k1_t1 : Fin k1_t1_loop.trips) : Fin 2 → Nat :=
  let c0_i32_124 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c79_i32 : BitVec 32 := 79#32
  let v2 : BitVec 32 := Scalar.muli v1 c79_i32
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let v116 : BitVec 32 := Scalar.addi v2 v109
  let c128_i32_110 : BitVec 32 := 128#32
  let v117 : BitVec 32 := Scalar.muli v116 c128_i32_110
  ![0, v117.toNat]
def k1_off15 (k1_t1 : Fin k1_t1_loop.trips) : Fin 1 → Nat :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c4_i32_116 : BitVec 32 := 4#32
  let c0_i32_117 : BitVec 32 := 0#32
  let v128 : BitVec 1 := Scalar.cmpi .eq c4_i32_116 c0_i32_117
  let c1_i32_118 : BitVec 32 := 1#32
  let v129 : BitVec 32 := Scalar.select v128 c1_i32_118 c4_i32_116
  let v130 : BitVec 32 := Scalar.remsi v109 v129
  let c0_i32_120 : BitVec 32 := 0#32
  let v132 : BitVec 1 := Scalar.cmpi .slt v130 c0_i32_120
  let c0_i32_121 : BitVec 32 := 0#32
  let v133 : BitVec 1 := Scalar.cmpi .slt v129 c0_i32_121
  let v134 : BitVec 1 := Scalar.xori v132 v133
  let c0_i32_119 : BitVec 32 := 0#32
  let v131 : BitVec 1 := Scalar.cmpi .ne v130 c0_i32_119
  let v135 : BitVec 1 := Scalar.andi v134 v131
  let v136 : BitVec 32 := Scalar.addi v130 v129
  let v137 : BitVec 32 := Scalar.select v135 v136 v130
  ![v137.toNat]
def k1_off16 (k1_t1 : Fin k1_t1_loop.trips) : Fin 3 → Nat :=
  let c0_i32_105 : BitVec 32 := 0#32
  let c0_i32_35 : BitVec 32 := 0#32
  let c1_i32_37 : BitVec 32 := 1#32
  let arg10 : BitVec 32 := Scf.iv c0_i32_35 c1_i32_37 k1_t1
  let c1_i32_104 : BitVec 32 := 1#32
  let v108 : BitVec 32 := Scalar.muli arg10 c1_i32_104
  let v109 : BitVec 32 := Scalar.addi c0_i32_105 v108
  let c3_i32_134 : BitVec 32 := 3#32
  let c0_i32_135 : BitVec 32 := 0#32
  let v156 : BitVec 1 := Scalar.cmpi .eq c3_i32_134 c0_i32_135
  let c1_i32_136 : BitVec 32 := 1#32
  let v157 : BitVec 32 := Scalar.select v156 c1_i32_136 c3_i32_134
  let v158 : BitVec 32 := Scalar.remsi v109 v157
  let c0_i32_138 : BitVec 32 := 0#32
  let v160 : BitVec 1 := Scalar.cmpi .slt v158 c0_i32_138
  let c0_i32_139 : BitVec 32 := 0#32
  let v161 : BitVec 1 := Scalar.cmpi .slt v157 c0_i32_139
  let v162 : BitVec 1 := Scalar.xori v160 v161
  let c0_i32_137 : BitVec 32 := 0#32
  let v159 : BitVec 1 := Scalar.cmpi .ne v158 c0_i32_137
  let v163 : BitVec 1 := Scalar.andi v162 v159
  let v164 : BitVec 32 := Scalar.addi v158 v157
  let v165 : BitVec 32 := Scalar.select v163 v164 v158
  let c0_i32_147 : BitVec 32 := 0#32
  let c0_i32_148 : BitVec 32 := 0#32
  ![v165.toNat, 0, 0]
def k1_off17 (i : grid1.Coords) (c77_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c79_i32 : BitVec 32 := 79#32
  let v2 : BitVec 32 := Scalar.muli v1 c79_i32
  let v51 : BitVec 32 := Scalar.addi v2 c77_i32
  let c128_i32_48 : BitVec 32 := 128#32
  let v52 : BitVec 32 := Scalar.muli v51 c128_i32_48
  let c0_i32_53 : BitVec 32 := 0#32
  ![v52.toNat, 0]
abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x32x50 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12800x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S50x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S400x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "log2" => some ((Real.log 2 : ℝ) : EReal)
  | _ => none
-- ==== ReferenceIdeal.lean ====
abbrev S4x2500x128 : Shape := ⟨3, ![4, 2500, 128]⟩
abbrev S4x2500x32 : Shape := ⟨3, ![4, 2500, 32]⟩
abbrev S4x2500x32x50 : Shape := ⟨4, ![4, 2500, 32, 50]⟩
abbrev S128x128 : Shape := ⟨2, ![128, 128]⟩
abbrev S50x128 : Shape := ⟨2, ![50, 128]⟩
abbrev S128 : Shape := ⟨1, ![128]⟩
abbrev S4x2500x32x128 : Shape := ⟨4, ![4, 2500, 32, 128]⟩
abbrev S1x1x1x128 : Shape := ⟨4, ![1, 1, 1, 128]⟩
abbrev S_ : Shape := ⟨0, ![]⟩
abbrev S4x2500x32x1 : Shape := ⟨4, ![4, 2500, 32, 1]⟩
abbrev S4x80000 : Shape := ⟨2, ![4, 80000]⟩
abbrev S4x80000x1 : Shape := ⟨3, ![4, 80000, 1]⟩
abbrev S1 : Shape := ⟨1, ![1]⟩
abbrev S1x1x1 : Shape := ⟨3, ![1, 1, 1]⟩
abbrev S4x80000x128 : Shape := ⟨3, ![4, 80000, 128]⟩
abbrev S1x1x128 : Shape := ⟨3, ![1, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S4x2500x128, .f32⟩
  | .hbm, ⟨1, _⟩ => ⟨S4x2500x32, .f32⟩
  | .hbm, ⟨2, _⟩ => ⟨S4x2500x32, .i32⟩
  | .hbm, ⟨3, _⟩ => ⟨S4x2500x32, .f32⟩
  | .hbm, ⟨4, _⟩ => ⟨S4x2500x32x50, .f32⟩
  | .hbm, ⟨5, _⟩ => ⟨S128x128, .f32⟩
  | .hbm, ⟨6, _⟩ => ⟨S50x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S4x2500x32x128, .f32⟩
  | .hbm, ⟨15, _⟩ => ⟨S1x1x1x128, .f32⟩
  | .hbm, ⟨16, _⟩ => ⟨S4x2500x32x128, .f32⟩
  | .hbm, ⟨17, _⟩ => ⟨S4x2500x32x128, .f32⟩
  | .hbm, ⟨18, _⟩ => ⟨S_, .f32⟩
  | .hbm, ⟨19, _⟩ => ⟨S4x2500x32x128, .f32⟩
  | .hbm, ⟨20, _⟩ => ⟨S4x2500x32x128, .f32⟩
  | .hbm, ⟨21, _⟩ => ⟨S4x2500x32x128, .f32⟩
  | .hbm, ⟨22, _⟩ => ⟨S4x2500x32x128, .f32⟩
  | .hbm, ⟨23, _⟩ => ⟨S4x2500x32x128, .i1⟩
  | .hbm, ⟨24, _⟩ => ⟨S4x2500x32x128, .f32⟩
  | .hbm, ⟨25, _⟩ => ⟨S4x2500x32x128, .f32⟩
  | .hbm, ⟨26, _⟩ => ⟨S4x2500x32x128, .f32⟩
  | .hbm, ⟨27, _⟩ => ⟨S4x2500x32x128, .f32⟩
  | .hbm, ⟨28, _⟩ => ⟨S4x2500x32x128, .f32⟩
  | .hbm, ⟨29, _⟩ => ⟨S4x2500x32x128, .f32⟩
  | .hbm, ⟨30, _⟩ => ⟨S4x2500x32x128, .f32⟩
  | .hbm, ⟨31, _⟩ => ⟨S4x2500x32x128, .f32⟩
  | .hbm, ⟨32, _⟩ => ⟨S_, .f32⟩
  | .hbm, ⟨33, _⟩ => ⟨S_, .f32⟩
  | .hbm, ⟨34, _⟩ => ⟨S4x2500x32x128, .f32⟩
  | .hbm, ⟨35, _⟩ => ⟨S4x2500x32x128, .f32⟩
  | .hbm, ⟨36, _⟩ => ⟨S4x2500x32x128, .f32⟩
  | .hbm, ⟨37, _⟩ => ⟨S1x1x1x128, .f32⟩
  | .hbm, ⟨38, _⟩ => ⟨S4x2500x32x128, .f32⟩
  | .hbm, ⟨39, _⟩ => ⟨S4x2500x32x128, .f32⟩
  | .hbm, ⟨40, _⟩ => ⟨S_, .f32⟩
  | .hbm, ⟨41, _⟩ => ⟨S4x2500x32, .f32⟩
  | .hbm, ⟨42, _⟩ => ⟨S4x2500x32, .i1⟩
  | .hbm, ⟨43, _⟩ => ⟨S4x2500x32, .f32⟩
  | .hbm, ⟨44, _⟩ => ⟨S4x2500x32x1, .f32⟩
  | .hbm, ⟨45, _⟩ => ⟨S4x2500x32x128, .f32⟩
  | .hbm, ⟨46, _⟩ => ⟨S4x2500x32x128, .f32⟩
  | .hbm, ⟨47, _⟩ => ⟨S4x2500x128, .f32⟩
  | .hbm, ⟨48, _⟩ => ⟨S4x80000, .i32⟩
  | .hbm, ⟨49, _⟩ => ⟨S4x80000x1, .i32⟩
  | .hbm, ⟨50, _⟩ => ⟨S_, .i32⟩
  | .hbm, ⟨51, _⟩ => ⟨S4x80000x1, .i32⟩
  | .hbm, ⟨52, _⟩ => ⟨S4x80000x1, .i1⟩
  | .hbm, ⟨53, _⟩ => ⟨S_, .i32⟩
  | .hbm, ⟨54, _⟩ => ⟨S4x80000x1, .i32⟩
  | .hbm, ⟨55, _⟩ => ⟨S4x80000x1, .i32⟩
  | .hbm, ⟨56, _⟩ => ⟨S4x80000x1, .i32⟩
  | .hbm, ⟨57, _⟩ => ⟨S1, .i32⟩
  | .hbm, ⟨58, _⟩ => ⟨S_, .i32⟩
  | .hbm, ⟨59, _⟩ => ⟨S4x80000x1, .i32⟩
  | .hbm, ⟨60, _⟩ => ⟨S4x80000x1, .i1⟩
  | .hbm, ⟨61, _⟩ => ⟨S1x1x1, .i32⟩
  | .hbm, ⟨62, _⟩ => ⟨S4x80000x1, .i32⟩
  | .hbm, ⟨63, _⟩ => ⟨S4x80000x1, .i1⟩
  | .hbm, ⟨64, _⟩ => ⟨S4x80000x1, .i1⟩
  | .hbm, ⟨65, _⟩ => ⟨S_, .i1⟩
  | .hbm, ⟨66, _⟩ => ⟨S4x80000, .i1⟩
  | .hbm, ⟨67, _⟩ => ⟨S4x80000x128, .f32⟩
  | .hbm, ⟨68, _⟩ => ⟨S4x80000x128, .i1⟩
  | .hbm, ⟨69, _⟩ => ⟨S_, .f32⟩
  | .hbm, ⟨70, _⟩ => ⟨S4x80000x128, .f32⟩
  | .hbm, ⟨71, _⟩ => ⟨S4x80000x128, .f32⟩
  | .hbm, ⟨72, _⟩ => ⟨S4x2500x32x128, .f32⟩
  | .hbm, ⟨73, _⟩ => ⟨S4x2500x32x128, .f32⟩
  | .hbm, ⟨74, _⟩ => ⟨S4x2500x32x1, .f32⟩
  | .hbm, ⟨75, _⟩ => ⟨S4x2500x32x128, .f32⟩
  | .hbm, ⟨76, _⟩ => ⟨S4x2500x32x128, .f32⟩
  | .hbm, ⟨77, _⟩ => ⟨S_, .f32⟩
  | .hbm, ⟨78, _⟩ => ⟨S4x2500x128, .f32⟩
  | .hbm, ⟨79, _⟩ => ⟨S4x2500x128, .f32⟩
  | .hbm, ⟨80, _⟩ => ⟨S1x1x128, .f32⟩
  | .hbm, ⟨81, _⟩ => ⟨S4x2500x128, .f32⟩
  | .hbm, ⟨82, _⟩ => ⟨S4x2500x128, .f32⟩
  | .hbm, ⟨83, _⟩ => ⟨S_, .f32⟩
  | .hbm, ⟨84, _⟩ => ⟨S4x2500x128, .f32⟩
  | .hbm, ⟨85, _⟩ => ⟨S4x2500x128, .f32⟩
  | .hbm, ⟨86, _⟩ => ⟨S4x2500x128, .f32⟩
  | .hbm, ⟨87, _⟩ => ⟨S4x2500x128, .f32⟩
  | .hbm, ⟨88, _⟩ => ⟨S4x2500x128, .i1⟩
  | .hbm, ⟨89, _⟩ => ⟨S4x2500x128, .f32⟩
  | .hbm, ⟨90, _⟩ => ⟨S4x2500x128, .f32⟩
  | .hbm, ⟨91, _⟩ => ⟨S4x2500x128, .f32⟩
  | .hbm, ⟨92, _⟩ => ⟨S4x2500x128, .f32⟩
  | .hbm, ⟨93, _⟩ => ⟨S4x2500x128, .f32⟩
  | .hbm, ⟨94, _⟩ => ⟨S4x2500x128, .f32⟩
  | .hbm, ⟨95, _⟩ => ⟨S4x2500x128, .f32⟩
  | .hbm, ⟨96, _⟩ => ⟨S4x2500x128, .f32⟩
  | .hbm, ⟨97, _⟩ => ⟨S_, .f32⟩
  | .hbm, ⟨98, _⟩ => ⟨S_, .f32⟩
  | .hbm, ⟨99, _⟩ => ⟨S4x2500x128, .f32⟩
  | .hbm, ⟨100, _⟩ => ⟨S4x2500x128, .f32⟩
  | .hbm, ⟨101, _⟩ => ⟨S4x2500x128, .f32⟩
  | .hbm, ⟨102, _⟩ => ⟨S1x1x128, .f32⟩
  | .hbm, ⟨103, _⟩ => ⟨S4x2500x128, .f32⟩
  | .hbm, ⟨104, _⟩ => ⟨S4x2500x128, .f32⟩
  | _, _ => ⟨S4x2500x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_c_1 : Ref sig .tc := ⟨.hbm, 57, rfl⟩
abbrev main_call0_c_2 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_c_3 : Ref sig .tc := ⟨.hbm, 65, rfl⟩
abbrev main_call0_v11 : Ref sig .tc := ⟨.hbm, 66, rfl⟩
abbrev main_call0_v12 : Ref sig .tc := ⟨.hbm, 67, rfl⟩
abbrev main_call0_v13 : Ref sig .tc := ⟨.hbm, 68, rfl⟩
abbrev main_call0_cst : Ref sig .tc := ⟨.hbm, 69, rfl⟩
abbrev main_call0_v14 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_2 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_3 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_4 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩

abbrev nD : Nat := 1
abbrev τ : Topo := Topo.v7x

variable {F : FTy → Type} [FloatOps F]
-- ==== Proof.Words.lean ====
/-
  The words of the gather's pipeline, in closed form.

  Tile `s` of SparseCore `c` moves blocks `base c s, …, base c s + 78` of 128 rows each, one per trip of the pipeline's
  loop. The loop carries five counters; before trip `k` they are `w6 k, …, w10 k` below: the index fetches started, the
  index fetches used, the row blocks started out, the row blocks waited for, and the step. Each offset, condition and
  assumed bound the loop computes from them is decided here, over every tile and every trip at once.
-/
module

public import proofs.«01_k».proof.Defs
public import proofs.«01_k».proof.Proof.Gen.GatherIdeal
public import Idealize.ShloMosaic.Lib.Ring.Trips
public import Idealize.ShloMosaic.Lib.Ring.WriteBehind

@[expose] public section

namespace Cert.Proof.Words

open Idealize.ShloMosaic Cert.GatherIdeal Cert.GatherIdeal.Gen

/-- The grid point of tile `s` of SparseCore `c`. -/
def at2 (c : Fin 2) (s : Fin 16) : grid0.Coords := fun | 0 => c | 1 => s | ⟨_ + 2, h⟩ => absurd h (Nat.not_lt.2 (Nat.le_add_left _ _))

/-- The tile's number among the 32. -/
def tileNo (c : Fin 2) (s : Fin 16) : ℕ := 16 * c.val + s.val
/-- The tile's first block. -/
def base (c : Fin 2) (s : Fin 16) : ℕ := 79 * tileNo c s

theorem base_le (c : Fin 2) (s : Fin 16) : base c s + 79 ≤ 2528 := by
  have := c.isLt; have := s.isLt; unfold base tileNo; omega

/-- The counters before trip `k`. -/
def w6 (k : ℕ) : BitVec 32 := BitVec.ofNat 32 (min (k + 1) 79)
def w7 (k : ℕ) : BitVec 32 := BitVec.ofNat 32 k
def w8 (k : ℕ) : BitVec 32 := BitVec.ofNat 32 k
def w9 (k : ℕ) : BitVec 32 := BitVec.ofNat 32 (k - 1)
def w10 (k : ℕ) : BitVec 32 := BitVec.ofNat 32 (k % 79)

theorem trips_eq : k0_t1_loop.trips = 79 := by decide +kernel

/-! ### The offsets -/

theorem off4_eq : ∀ k : Fin 79, k.val + 1 < 79 → k0_off4 (w6 k) = ![(Ring.sl 2 (k.val + 1)).val, 0, 0] := by decide +kernel
theorem off5_eq : ∀ (c : Fin 2) (s : Fin 16) (k : Fin 79), k.val + 1 < 79 → k0_off5 (at2 c s) (w10 k) = ![0, 128 * (base c s + (k.val + 1))] := by decide +kernel
theorem off6_eq : ∀ k : Fin 79, k.val + 1 < 79 → k0_off6 (w6 k) = ![(Ring.sl 2 (k.val + 1)).val] := by decide +kernel
theorem off7_eq : ∀ k : Fin 79, k0_off7 (w7 k) = ![(Ring.sl 2 k.val).val, 0, 0] := by decide +kernel
theorem off8_eq : ∀ (c : Fin 2) (s : Fin 16) (k : Fin 79), k0_off8 (at2 c s) (w10 k) = ![0, 128 * (base c s + k.val)] := by decide +kernel
theorem off9_eq : ∀ k : Fin 79, k0_off9 (w7 k) = ![(Ring.sl 2 k.val).val] := by decide +kernel
theorem off10_eq : ∀ k : Fin 79, k0_off10 (w8 k) = ![(Ring.sl 2 k.val).val, 0, 0] := by decide +kernel
theorem off11_eq : ∀ k : Fin 79, k0_off11 (w7 k) = ![(Ring.sl 2 k.val).val, 0, 0] := by decide +kernel
theorem off12_eq : ∀ k : Fin 79, k0_off12 (w8 k) = ![(Ring.sl 2 k.val).val, 0, 0] := by decide +kernel
theorem off13_eq : ∀ (c : Fin 2) (s : Fin 16) (k : Fin 79), k0_off13 (at2 c s) (w10 k) = ![128 * (base c s + k.val), 0] := by decide +kernel
theorem off14_eq : ∀ k : Fin 79, k0_off14 (w8 k) = ![(Ring.sl 2 k.val).val] := by decide +kernel
theorem off15_eq : ∀ k : Fin 79, 1 ≤ k.val → k0_off15 (w9 k) = ![(Ring.sl 2 (k.val - 1)).val, 0, 0] := by decide +kernel
theorem off16_eq : ∀ (c : Fin 2) (s : Fin 16) (k : Fin 79), 1 ≤ k.val → k0_off16 (at2 c s) (w10 k) = ![128 * (base c s + (k.val - 1)), 0] := by decide +kernel
theorem off17_eq : ∀ k : Fin 79, 1 ≤ k.val → k0_off17 (w9 k) = ![(Ring.sl 2 (k.val - 1)).val] := by decide +kernel
/-- Before the loop: block 0's index fetch. -/
theorem off1_eq : k0_off1 = ![(Ring.sl 2 0).val, 0, 0] := by decide +kernel
theorem off2_eq : ∀ (c : Fin 2) (s : Fin 16), k0_off2 (at2 c s) = ![0, 128 * (base c s + 0)] := by decide +kernel
theorem off3_eq : k0_off3 = ![(Ring.sl 2 0).val] := by decide +kernel
/-- After it: block 78's copy out. -/
theorem off18_eq : k0_off18 (w9 79) = ![(Ring.sl 2 78).val, 0, 0] := by decide +kernel
theorem off19_eq : ∀ (c : Fin 2) (s : Fin 16), k0_off19 (at2 c s) (w10 79) = ![128 * (base c s + 78), 0] := by decide +kernel
theorem off20_eq : k0_off20 (w9 79) = ![(Ring.sl 2 78).val] := by decide +kernel
theorem off21_eq : k0_off21 (w9 79) = ![(Ring.sl 2 78).val, 0, 0] := by decide +kernel

/-! ### The conditions -/

theorem cond1_pos : ∀ (c : Fin 2) (s : Fin 16) (k : Fin 79), k.val + 1 < 79 → k0_cond1 (at2 c s) k (w10 k) = 1#1 := by decide +kernel
theorem cond1_neg : ∀ (c : Fin 2) (s : Fin 16) (k : Fin 79), ¬ k.val + 1 < 79 → ¬ k0_cond1 (at2 c s) k (w10 k) = 1#1 := by decide +kernel
theorem cond2_pos : ∀ (c : Fin 2) (s : Fin 16) (k : Fin 79), k0_cond2 (at2 c s) k (w10 k) = 1#1 := by decide +kernel
theorem cond5_pos : ∀ (c : Fin 2) (s : Fin 16) (k : Fin 79), k0_cond5 (at2 c s) k (w10 k) = 1#1 := by decide +kernel
theorem cond7_pos : ∀ (c : Fin 2) (s : Fin 16) (k : Fin 79), 1 ≤ k.val → k0_cond7 (at2 c s) k (w10 k) = 1#1 := by decide +kernel
theorem cond7_neg : ∀ (c : Fin 2) (s : Fin 16) (k : Fin 79), ¬ 1 ≤ k.val → ¬ k0_cond7 (at2 c s) k (w10 k) = 1#1 := by decide +kernel

/-! ### The assumed bounds -/

/-- The loop's bounds, offset by offset, from the closed forms. -/
theorem chk1 : ∀ (c : Fin 2) (s : Fin 16) (k : Fin 79), k0_chk1 (at2 c s) k (w6 k) (w7 k) (w8 k) (w9 k) (w10 k) := by
  intro c s k
  have hj := base_le c s
  have hk := k.isLt
  have hsl : ∀ j, (Ring.sl 2 j).val ≤ 1 := fun j => Nat.lt_succ_iff.mp (Ring.sl 2 j).isLt
  by_cases h1 : k.val + 1 < 79 <;> by_cases h7 : 1 ≤ k.val <;>
    refine ⟨fun h a => ?_, fun h a => ?_, fun h a => ?_, fun h a => ?_, fun h a => ?_, fun h a => ?_, fun h a => ?_, fun h a => ?_,
      fun h a => ?_, fun h a => ?_, fun h a => ?_, fun h a => ?_⟩ <;>
    first
    | exact absurd h (cond1_neg c s k h1)
    | exact absurd h (cond7_neg c s k h7)
    | rw [off4_eq k h1] | rw [off5_eq c s k h1] | rw [off6_eq k h1] | rw [off7_eq k] | rw [off8_eq c s k] | rw [off9_eq k]
    | rw [off12_eq k] | rw [off13_eq c s k] | rw [off14_eq k] | rw [off15_eq k h7] | rw [off16_eq c s k h7] | rw [off17_eq k h7]
  all_goals
    have := hsl k.val; have := hsl (k.val + 1); have := hsl (k.val - 1)
    fin_cases a <;> simp <;> omega
theorem chk2 : ∀ k : Fin 79, k0_chk2 (w8 k) := by decide +kernel
theorem chk3 : ∀ k : Fin 79, k0_chk3 (w7 k) := by decide +kernel
theorem chk4 : k0_chk4 (w9 79) := by decide +kernel
theorem chk5 : ∀ (c : Fin 2) (s : Fin 16), k0_chk5 (at2 c s) (w10 79) := by decide +kernel

end Cert.Proof.Words
-- ==== Proof.Names.lean ====
/-
  The gather's pipeline on one tile: the pieces its copies move, and one trip of its loop.

  The pipeline reads the index list and writes the result in blocks of 128 rows, through two index slots and two row
  slots in the tile's memory. Trip `k` starts the fetch of index block `k + 1`, waits for block `k`'s, gathers the 128
  rows it names into row slot `k % 2`, waits for the gather, starts that slot's copy out to result block `k`, and waits for
  block `k - 1`'s copy. So before trip `k` one index fetch (block `k`) and one copy out (block `k - 1`) are in flight,
  and every other piece is at home. The invariant says so, with the contents: a result block that has come home holds
  the gathered rows `G`.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.VecWindow
public import proofs.«01_k».proof.Proof.Gen.GatherIdeal
public import proofs.«01_k».proof.Proof.Gen.GatherIdeal.Skeleton

@[expose] public section

noncomputable section

namespace Cert.Proof.Gather

open Cert.GatherIdeal Cert.GatherIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the resource algebra -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

/-! ## The pieces' names -/

abbrev xM : Memref sig .scVector .hbm S10008x128 .f32 := Memref.whole main_arg0_scv
abbrev iM : Memref sig .scVector .hbm S1x323584 .i32 := Memref.whole main_arg1_scv
abbrev oM : Memref sig .scVector .hbm S323584x128 .f32 := Memref.whole main_v0_scv
abbrev sM : Memref sig .scVector .vmem S2x1x128 .i32 := Memref.whole cc0_scoped0
abbrev rM : Memref sig .scVector .vmem S2x128x128 .f32 := Memref.whole cc0_scoped2

/-- Block `k` of the tile, among the 2528. -/
def blk (c : Fin 2) (s : Fin 16) (k : Fin 79) : Fin 2528 := ⟨base c s + k.val, by have := base_le c s; omega⟩

theorem inb_i (b : Fin 2528) : ∀ a, (![0, 128 * b.val] : Fin 2 → ℕ) a + S1x128.size a ≤ S1x323584.size a := by
  have := b.isLt; intro a; fin_cases a <;> simp <;> omega
theorem inb_o (b : Fin 2528) : ∀ a, (![128 * b.val, 0] : Fin 2 → ℕ) a + S128x128.size a ≤ S323584x128.size a := by
  have := b.isLt; intro a; fin_cases a <;> simp <;> omega
theorem inb_s (j : Fin 2) : ∀ a, (![j.val, 0, 0] : Fin 3 → ℕ) a + S1x1x128.size a ≤ S2x1x128.size a := by
  have := j.isLt; intro a; fin_cases a <;> simp <;> omega
theorem inb_r (j : Fin 2) : ∀ a, (![j.val, 0, 0] : Fin 3 → ℕ) a + S1x128x128.size a ≤ S2x128x128.size a := by
  have := j.isLt; intro a; fin_cases a <;> simp <;> omega
theorem inb_c (j : Fin 2) : ∀ a, (![j.val] : Fin 1 → ℕ) a + S1.size a ≤ S2.size a := by
  have := j.isLt; intro a; fin_cases a; simp; omega

/-- Block `b` of the index list; of the result. -/
def iBlk (b : Fin 2528) : Memref sig .scVector .hbm S1x128 .i32 := iM.slice (Rect.unit (s := S1x323584) ![0, 128 * b.val] S1x128.size (inb_i b)) (fun _ => rfl)
def oBlk (b : Fin 2528) : Memref sig .scVector .hbm S128x128 .f32 := oM.slice (Rect.unit (s := S323584x128) ![128 * b.val, 0] S128x128.size (inb_o b)) (fun _ => rfl)
/-- Index slot `j`; row slot `j`; the index slot as the gather's list. -/
def sSlot (j : Fin 2) : Memref sig .scVector .vmem S1x128 .i32 :=
  (sM.slice (Rect.unit (s := S2x1x128) ![j.val, 0, 0] S1x1x128.size (inb_s j)) (fun _ => rfl)).squeeze S1x128 squeezes_S1x1x128_S1x128
def rSlot (j : Fin 2) : Memref sig .scVector .vmem S128x128 .f32 :=
  (rM.slice (Rect.unit (s := S2x128x128) ![j.val, 0, 0] S1x128x128.size (inb_r j)) (fun _ => rfl)).squeeze S128x128 squeezes_S1x128x128_S128x128
def lSlot (j : Fin 2) : Memref sig .scVector .vmem S128 .i32 :=
  ((sSlot j).slice (Rect.unit (s := S1x128) ![0, 0] S1x128.size inb_S1x128_S1x128_0_0) (fun _ => rfl)).squeeze S128 squeezes_S1x128_S128
/-- The table as the gather's source. -/
def xAll : Memref sig .scVector .hbm S10008x128 .f32 := xM.slice (Rect.unit (s := S10008x128) ![0, 0] S10008x128.size inb_S10008x128_S10008x128_0_0) (fun _ => rfl)
/-- The cells of index slot `j` and of row slot `j`, and the gather's. -/
def sCell (j : Fin 2) : DmaSems sig S_ := (cc0_scoped1.slice (Rect.unit (s := S2) ![j.val] S1.size (inb_c j))).squeeze S_ squeezes_S1_S_
def rCell (j : Fin 2) : DmaSems sig S_ := (cc0_scoped3.slice (Rect.unit (s := S2) ![j.val] S1.size (inb_c j))).squeeze S_ squeezes_S1_S_

/-! ## The body's slices are these -/

section Canon

theorem iBlk_congr {off : Fin 2 → ℕ} {b : Fin 2528} (e : off = ![0, 128 * b.val]) (hh hs) :
    iM.slice (Rect.unit (s := S1x323584) off S1x128.size hh) hs = iBlk b := Memref.slice_unit_congr _ e _ _ _ (fun _ => rfl)
theorem oBlk_congr {off : Fin 2 → ℕ} {b : Fin 2528} (e : off = ![128 * b.val, 0]) (hh hs) :
    oM.slice (Rect.unit (s := S323584x128) off S128x128.size hh) hs = oBlk b := Memref.slice_unit_congr _ e _ _ _ (fun _ => rfl)
theorem sSlot_congr {off : Fin 3 → ℕ} {j : Fin 2} (e : off = ![j.val, 0, 0]) (hh hs) :
    (sM.slice (Rect.unit (s := S2x1x128) off S1x1x128.size hh) hs).squeeze S1x128 squeezes_S1x1x128_S1x128 = sSlot j :=
  congrArg (fun M : Memref sig .scVector .vmem S1x1x128 .i32 => M.squeeze S1x128 squeezes_S1x1x128_S1x128) (Memref.slice_unit_congr _ e _ _ _ _)
theorem rSlot_congr {off : Fin 3 → ℕ} {j : Fin 2} (e : off = ![j.val, 0, 0]) (hh hs) :
    (rM.slice (Rect.unit (s := S2x128x128) off S1x128x128.size hh) hs).squeeze S128x128 squeezes_S1x128x128_S128x128 = rSlot j :=
  congrArg (fun M : Memref sig .scVector .vmem S1x128x128 .f32 => M.squeeze S128x128 squeezes_S1x128x128_S128x128) (Memref.slice_unit_congr _ e _ _ _ _)
theorem sCell_congr {off : Fin 1 → ℕ} {j : Fin 2} (e : off = ![j.val]) (hh) :
    (cc0_scoped1.slice (Rect.unit (s := S2) off S1.size hh)).squeeze S_ squeezes_S1_S_ = sCell j :=
  congrArg (fun A : DmaSems sig S1 => A.squeeze S_ squeezes_S1_S_) (SemArray.slice_unit_congr _ e _ _)
theorem rCell_congr {off : Fin 1 → ℕ} {j : Fin 2} (e : off = ![j.val]) (hh) :
    (cc0_scoped3.slice (Rect.unit (s := S2) off S1.size hh)).squeeze S_ squeezes_S1_S_ = rCell j :=
  congrArg (fun A : DmaSems sig S1 => A.squeeze S_ squeezes_S1_S_) (SemArray.slice_unit_congr _ e _ _)

/-- Block `p` of the tile, `p` a step's number. -/
abbrev bkN (c : Fin 2) (s : Fin 16) (p : ℕ) : Fin 2528 := blk c s (Ring.bk 79 p)
theorem bkN_val (c : Fin 2) (s : Fin 16) {p : ℕ} (h : p < 79) : (bkN c s p).val = base c s + p := by
  show base c s + (Ring.bk 79 p).val = _; rw [Ring.bk_val h]

variable (c : Fin 2) (s : Fin 16) (k : Fin k0_t1_loop.trips)

theorem lt79 (k : Fin k0_t1_loop.trips) : k.val < 79 := Nat.lt_of_lt_of_eq k.isLt trips_eq

@[sl_canon] theorem canon4 (h : k.val + 1 < 79) (hh hs) :
    (sM.slice (Rect.unit (s := S2x1x128) (k0_off4 (w6 k)) S1x1x128.size hh) hs).squeeze S1x128 squeezes_S1x1x128_S1x128 = sSlot (Ring.sl 2 (k.val + 1)) :=
  sSlot_congr (off4_eq k h) _ _
@[sl_canon] theorem canon5 (h : k.val + 1 < 79) (hh hs) :
    iM.slice (Rect.unit (s := S1x323584) (k0_off5 (at2 c s) (w10 k)) S1x128.size hh) hs = iBlk (bkN c s (k.val + 1)) :=
  iBlk_congr ((off5_eq c s k h).trans (by rw [bkN_val c s h])) _ _
@[sl_canon] theorem canon6 (h : k.val + 1 < 79) (hh) :
    (cc0_scoped1.slice (Rect.unit (s := S2) (k0_off6 (w6 k)) S1.size hh)).squeeze S_ squeezes_S1_S_ = sCell (Ring.sl 2 (k.val + 1)) :=
  sCell_congr (off6_eq k h) _
@[sl_canon] theorem canon7 (hh hs) :
    (sM.slice (Rect.unit (s := S2x1x128) (k0_off7 (w7 k)) S1x1x128.size hh) hs).squeeze S1x128 squeezes_S1x1x128_S1x128 = sSlot (Ring.sl 2 k.val) :=
  sSlot_congr (off7_eq k) _ _
@[sl_canon] theorem canon8 (hh hs) :
    iM.slice (Rect.unit (s := S1x323584) (k0_off8 (at2 c s) (w10 k)) S1x128.size hh) hs = iBlk (bkN c s k.val) :=
  iBlk_congr ((off8_eq c s k).trans (by rw [bkN_val c s (lt79 k)])) _ _
@[sl_canon] theorem canon9 (hh) :
    (cc0_scoped1.slice (Rect.unit (s := S2) (k0_off9 (w7 k)) S1.size hh)).squeeze S_ squeezes_S1_S_ = sCell (Ring.sl 2 k.val) :=
  sCell_congr (off9_eq k) _
@[sl_canon] theorem canon10 (hh hs) :
    (rM.slice (Rect.unit (s := S2x128x128) (k0_off10 (w8 k)) S1x128x128.size hh) hs).squeeze S128x128 squeezes_S1x128x128_S128x128 = rSlot (Ring.sl 2 k.val) :=
  rSlot_congr (off10_eq k) _ _
@[sl_canon] theorem canon11 (hh hs) :
    (sM.slice (Rect.unit (s := S2x1x128) (k0_off11 (w7 k)) S1x1x128.size hh) hs).squeeze S1x128 squeezes_S1x1x128_S1x128 = sSlot (Ring.sl 2 k.val) :=
  sSlot_congr (off11_eq k) _ _
@[sl_canon] theorem canon12 (hh hs) :
    (rM.slice (Rect.unit (s := S2x128x128) (k0_off12 (w8 k)) S1x128x128.size hh) hs).squeeze S128x128 squeezes_S1x128x128_S128x128 = rSlot (Ring.sl 2 k.val) :=
  rSlot_congr (off12_eq k) _ _
@[sl_canon] theorem canon13 (hh hs) :
    oM.slice (Rect.unit (s := S323584x128) (k0_off13 (at2 c s) (w10 k)) S128x128.size hh) hs = oBlk (bkN c s k.val) :=
  oBlk_congr ((off13_eq c s k).trans (by rw [bkN_val c s (lt79 k)])) _ _
@[sl_canon] theorem canon14 (hh) :
    (cc0_scoped3.slice (Rect.unit (s := S2) (k0_off14 (w8 k)) S1.size hh)).squeeze S_ squeezes_S1_S_ = rCell (Ring.sl 2 k.val) :=
  rCell_congr (off14_eq k) _
@[sl_canon] theorem canon15 (h : 1 ≤ k.val) (hh hs) :
    (rM.slice (Rect.unit (s := S2x128x128) (k0_off15 (w9 k)) S1x128x128.size hh) hs).squeeze S128x128 squeezes_S1x128x128_S128x128 = rSlot (Ring.sl 2 (k.val - 1)) :=
  rSlot_congr (off15_eq k h) _ _
@[sl_canon] theorem canon16 (h : 1 ≤ k.val) (hh hs) :
    oM.slice (Rect.unit (s := S323584x128) (k0_off16 (at2 c s) (w10 k)) S128x128.size hh) hs = oBlk (bkN c s (k.val - 1)) :=
  oBlk_congr ((off16_eq c s k h).trans (by rw [bkN_val c s (by have := lt79 k; omega)])) _ _
@[sl_canon] theorem canon17 (h : 1 ≤ k.val) (hh) :
    (cc0_scoped3.slice (Rect.unit (s := S2) (k0_off17 (w9 k)) S1.size hh)).squeeze S_ squeezes_S1_S_ = rCell (Ring.sl 2 (k.val - 1)) :=
  rCell_congr (off17_eq k h) _
/-- Before the loop, and after it. -/
@[sl_canon] theorem canon1 (hh hs) :
    (sM.slice (Rect.unit (s := S2x1x128) k0_off1 S1x1x128.size hh) hs).squeeze S1x128 squeezes_S1x1x128_S1x128 = sSlot (Ring.sl 2 0) := sSlot_congr off1_eq _ _
@[sl_canon] theorem canon2 (hh hs) :
    iM.slice (Rect.unit (s := S1x323584) (k0_off2 (at2 c s)) S1x128.size hh) hs = iBlk (bkN c s 0) :=
  iBlk_congr ((off2_eq c s).trans (by rw [bkN_val c s (by decide)])) _ _
@[sl_canon] theorem canon3 (hh) :
    (cc0_scoped1.slice (Rect.unit (s := S2) k0_off3 S1.size hh)).squeeze S_ squeezes_S1_S_ = sCell (Ring.sl 2 0) := sCell_congr off3_eq _
@[sl_canon] theorem canon18 (hh hs) :
    (rM.slice (Rect.unit (s := S2x128x128) (k0_off18 (w9 79)) S1x128x128.size hh) hs).squeeze S128x128 squeezes_S1x128x128_S128x128 = rSlot (Ring.sl 2 78) := rSlot_congr off18_eq _ _
@[sl_canon] theorem canon19 (hh hs) :
    oM.slice (Rect.unit (s := S323584x128) (k0_off19 (at2 c s) (w10 79)) S128x128.size hh) hs = oBlk (bkN c s 78) :=
  oBlk_congr ((off19_eq c s).trans (by rw [bkN_val c s (by decide)])) _ _
@[sl_canon] theorem canon20 (hh) :
    (cc0_scoped3.slice (Rect.unit (s := S2) (k0_off20 (w9 79)) S1.size hh)).squeeze S_ squeezes_S1_S_ = rCell (Ring.sl 2 78) := rCell_congr off20_eq _
@[sl_canon] theorem canon21 (hh hs) :
    (rM.slice (Rect.unit (s := S2x128x128) (k0_off21 (w9 79)) S1x128x128.size hh) hs).squeeze S128x128 squeezes_S1x128x128_S128x128 = rSlot (Ring.sl 2 78) := rSlot_congr off21_eq _ _
/-- The gather's list and its source. -/
@[sl_canon] theorem canonL (j : Fin 2) (hh hs) :
    ((sSlot j).slice (Rect.unit (s := S1x128) ![0, 0] S1x128.size hh) hs).squeeze S128 squeezes_S1x128_S128 = lSlot j := Eq.trans (by rfl) rfl
@[sl_canon] theorem canonX (hh hs) :
    xM.slice (Rect.unit (s := S10008x128) ![0, 0] S10008x128.size hh) hs = xAll := Eq.trans (by rfl) rfl

end Canon

end Cert.Proof.Gather

end
-- ==== Proof.Values.lean ====
/-
  The pieces a tile of the gather holds, and what they hold: a block of the index list fetched into a slot is the list
  the gather reads, and the rows it brings are the same block of the gathered array.
-/
module

public import proofs.«01_k».proof.Proof.Names

@[expose] public section

noncomputable section

namespace Cert.Proof.Gather

open Cert.GatherIdeal Cert.GatherIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- The tile's thread. -/
abbrev thr (d : Dev nD) (c : Fin 2) (s : Fin 16) : Thread nD τ := V d ((at2 c s 0).castLE hcore0) ((at2 c s 1).castLE hsub0)

/-- Row `x 0` of the gathered array is the table's row that word `x 0` of the index list names. -/
def gathered (T : S10008x128.Idx → Elt F .f32) (I : S1x323584.Idx → Elt F .i32) : S323584x128.Idx → Elt F .f32 :=
  fun x => T (fun | 0 => Fin.ofNat 10008 (I (fun | 0 => (0 : Fin 1) | 1 => x 0)).toNat | 1 => x 1)

/-! ## The pieces held -/

section Pieces
variable (d : Dev nD) (c : Fin 2) (s : Fin 16)

abbrev iPts (I : Buf (Elt F) (iLoc d)) (b : Fin 2528) : sProp 𝕄 := (iBlk b).view.loc (thr d c s) ↦[(iBlk b).view.set]{fullShare} I
abbrev oPts (f : Buf (Elt F) (oLoc d)) (b : Fin 2528) : sProp 𝕄 := (oBlk b).view.loc (thr d c s) ↦[(oBlk b).view.set]{fullShare} f
abbrev sPts (j : Fin 2) (f : Buf (Elt F) ((sSlot j).view.loc (thr d c s))) : sProp 𝕄 := (sSlot j).view.loc (thr d c s) ↦[(sSlot j).view.set]{fullShare} f
abbrev rPts (j : Fin 2) (f : Buf (Elt F) ((rSlot j).view.loc (thr d c s))) : sProp 𝕄 := (rSlot j).view.loc (thr d c s) ↦[(rSlot j).view.set]{fullShare} f
abbrev sSem (j : Fin 2) : sProp 𝕄 := semVal (thr d c s, .dma (sCell j).sem) 0
abbrev rSem (j : Fin 2) : sProp 𝕄 := semVal (thr d c s, .dma (rCell j).sem) 0
abbrev gSem : sProp 𝕄 := semVal (thr d c s, .dma (cc0_scoped4).sem) 0
abbrev xPts (q : PosShare TreeShare) (f : Buf (Elt F) (xLoc d)) : sProp 𝕄 := (xAll).view.loc (thr d c s) ↦[(xAll).view.set]{q} f

end Pieces

/-! ## What the pieces hold -/

section Values

theorem set_lSlot (j : Fin 2) : (lSlot j).view.set = (sSlot j).view.set := by
  unfold lSlot
  rw [Memref.set_view_squeeze]
  exact (View.set_slice _ _).trans (by rw [Rect.set_eq_univ_of_whole _ (fun a => ⟨by fin_cases a <;> rfl, rfl, by fin_cases a <;> rfl⟩)]; rfl)

theorem set_xAll : (xAll).view.set = Finset.univ := by
  unfold xAll
  exact (View.set_slice_whole _ _).trans (Rect.set_eq_univ_of_whole _ (fun a => ⟨by fin_cases a <;> rfl, rfl, by fin_cases a <;> rfl⟩))

theorem read_xAll (T : S10008x128.Idx → Elt F .f32) : (xAll).view.read (Elt F) T = T := by
  funext x
  refine ((View.read_apply _ _).trans (cast_eq _ _)).trans (congrArg T ?_)
  exact Rect.emb_unit_full (s := S10008x128) _ x

theorem read_iBlk (I : S1x323584.Idx → Elt F .i32) (b : Fin 2528) (y : S1x128.Idx) :
    (iBlk b).view.read (Elt F) I y = I (fun | 0 => (0 : Fin 1) | 1 => ⟨128 * b.val + (y 1).val, by have := b.isLt; have : (y 1).val < 128 := (y 1).isLt; show _ < 323584; omega⟩) := by
  refine ((View.read_apply _ _).trans (cast_eq _ _)).trans (congrArg I ?_)
  refine funext fun (a : Fin 2) => Fin.ext ?_
  match a with
  | 0 => show 0 + 1 * (y 0).val = 0; have : (y 0).val < 1 := (y 0).isLt; omega
  | 1 => show 128 * b.val + 1 * (y 1).val = _; simp

theorem read_oBlk (G : S323584x128.Idx → Elt F .f32) (b : Fin 2528) (y : S128x128.Idx) :
    (oBlk b).view.read (Elt F) G y = G (fun | 0 => ⟨128 * b.val + (y 0).val, by have := b.isLt; have : (y 0).val < 128 := (y 0).isLt; show _ < 323584; omega⟩ | 1 => y 1) := by
  refine ((View.read_apply _ _).trans (cast_eq _ _)).trans (congrArg G ?_)
  refine funext fun (a : Fin 2) => Fin.ext ?_
  match a with
  | 0 => show 128 * b.val + 1 * (y 0).val = _; simp
  | 1 => show 0 + 1 * (y 1).val = (y 1).val; simp

/-- Word `p` of the list, in row-major order, is word `p` of the index slot. -/
theorem read_lSlot (j : Fin 2) (f : (sSlot j).view.ty.Contents (Elt F)) (p : Fin 128) :
    (lSlot j).view.read (Elt F) f (S128.rowMajor.symm (p.cast (by decide))) = (sSlot j).view.read (Elt F) f (fun | 0 => (0 : Fin 1) | 1 => p) := by
  unfold lSlot
  rw [Memref.read_squeeze_full (sSlot j) inb_S1x128_S1x128_0_0 squeezes_S1x128_S128]
  refine congrArg ((sSlot j).view.read (Elt F) f) ?_
  apply S1x128.rowMajor.injective
  apply Fin.ext
  rw [Shape.rowMajor_reshapeEquiv, Equiv.apply_symm_apply]
  rw [show (S1x128.rowMajor (fun | 0 => (0 : Fin 1) | 1 => p)).val = _ from Shape.rowMajor_pair_val (d := ![1, 128]) (0 : Fin 1) p]
  simp

theorem word_lSlot (I : S1x323584.Idx → Elt F .i32) (j : Fin 2) (b : Fin 2528) (f : (sSlot j).view.ty.Contents (Elt F))
    (hf : (sSlot j).view.read (Elt F) f = (iBlk b).view.read (Elt F) I) (p : Fin 128) :
    (lSlot j).view.read (Elt F) f (S128.rowMajor.symm (p.cast (by decide)))
      = I (fun | 0 => (0 : Fin 1) | 1 => ⟨128 * b.val + p.val, by have := b.isLt; have := p.isLt; show _ < 323584; omega⟩) := by
  rw [read_lSlot, hf, read_iBlk]

/-- The list's words name rows of the table. -/
theorem list_lt {I : S1x323584.Idx → Elt F .i32} (hI : ∀ x, (I x).toNat < 10008) (j : Fin 2) (b : Fin 2528) (f : (sSlot j).view.ty.Contents (Elt F))
    (hf : (sSlot j).view.read (Elt F) f = (iBlk b).view.read (Elt F) I) (x : S128.Idx) : ((lSlot j).view.read (Elt F) f x).toNat < 10008 := by
  have hx : x = S128.rowMajor.symm (((S128.rowMajor x).cast (by decide) : Fin 128).cast (by decide)) := by
    rw [show ((((S128.rowMajor x).cast (by decide) : Fin 128).cast (by decide)) : Fin S128.numel) = S128.rowMajor x from rfl, Equiv.symm_apply_apply]
  rw [hx, word_lSlot I j b f hf]; exact hI _

/-- The rows the gather brings for block `b`'s list are block `b` of the gathered array. -/
theorem gather_value (T : S10008x128.Idx → Elt F .f32) {I : S1x323584.Idx → Elt F .i32} (hI : ∀ x, (I x).toNat < 10008) (j : Fin 2) (b : Fin 2528)
    (f : (sSlot j).view.ty.Contents (Elt F)) (hf : (sSlot j).view.read (Elt F) f = (iBlk b).view.read (Elt F) I)
    (hg : S10008x128.Gathers 0 S128x128) (hn : S128.numel = S128x128.size hg.axis') (h : ∀ x, ((lSlot j).view.read (Elt F) f x).toNat < S10008x128.size hg.axis) :
    SparseCore.gatherPayload hg ((xAll).view.read (Elt F) T) (SparseCore.rows ((lSlot j).view.read (Elt F) f) hn h)
      = (oBlk b).view.read (Elt F) (gathered T I) := by
  funext y
  rw [read_oBlk]
  unfold SparseCore.gatherPayload gathered
  rw [read_xAll]
  refine congrArg T (funext fun (a : Fin 2) => Fin.ext ?_)
  match a with
  | 0 =>
    refine (congrArg Fin.val (Shape.Gathers.idx_axis hg _ y)).trans ?_
    refine (congrArg BitVec.toNat (word_lSlot I j b f hf (y 0))).trans ?_
    exact (Nat.mod_eq_of_lt (hI _)).symm
  | 1 => exact Shape.Gathers.idx_of_ne hg _ y 1 (by decide)

end Values

end Cert.Proof.Gather

end
-- ==== Proof.Tile.lean ====
/-
  The gather's pipeline on one tile: one trip of its loop, the loop, and the body.
-/
module

public import proofs.«01_k».proof.Proof.Values

@[expose] public section

noncomputable section

namespace Cert.Proof.Gather

open Cert.GatherIdeal Cert.GatherIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## The blocks at home before and after a trip -/

section Sets
variable {M : Type _} [URA M] (Φ : Fin 79 → sProp M) (k : ℕ)

theorem home_out (h : k + 1 < 79) :
    bigSep (Ring.homeSet (NB := 79) 1 k) Φ = iprop(Φ (Ring.bk 79 (k + 1)) ∗ bigSep ((Ring.homeSet (NB := 79) 1 k).erase (Ring.bk 79 (k + 1))) Φ) :=
  Ring.bigSep_take (b := Ring.bk 79 (k + 1)) ((Ring.mem_homeSet ..).mpr (by rw [Ring.bk_val h]; omega)) Φ
theorem home_back (h : k + 1 < 79) :
    bigSep (Ring.homeSet (NB := 79) 1 (k + 1)) Φ = iprop(Φ (Ring.bk 79 k) ∗ bigSep ((Ring.homeSet (NB := 79) 1 k).erase (Ring.bk 79 (k + 1))) Φ) := by
  rw [Ring.homeSet_succ  1 k h, Ring.bigSep_put (Ring.bk_not_mem_erase 1 k (by omega) (by omega))]
theorem home_back_last (h : k < 79) (h' : ¬ k + 1 < 79) :
    bigSep (Ring.homeSet (NB := 79) 1 (k + 1)) Φ = iprop(Φ (Ring.bk 79 k) ∗ bigSep (Ring.homeSet (NB := 79) 1 k) Φ) := by
  rw [Ring.homeSet_succ_tail  1 k (by omega) h, Ring.bigSep_put (Ring.bk_not_mem_homeSet 1 k h (by omega))]
theorem ahead_out (h : k < 79) :
    bigSep (Ring.aheadSet (NB := 79) k) Φ = iprop(Φ (Ring.bk 79 k) ∗ bigSep (Ring.aheadSet (NB := 79) (k + 1)) Φ) := by
  rw [Ring.aheadSet_open k h, Ring.bigSep_put (Ring.bk_not_mem_aheadSet_succ k h)]
theorem behind_back (h : 1 ≤ k) (hk : k < 79) :
    bigSep (Ring.behindSet (NB := 79) 1 (k + 1)) Φ = iprop(Φ (Ring.bk 79 (k - 1)) ∗ bigSep (Ring.behindSet (NB := 79) 1 k) Φ) := by
  rw [Ring.behindSet_close 1 k h hk, Ring.bigSep_put (Ring.bk_not_mem_behindSet 1 k h hk)]
theorem behind_first (h : k = 0) : Ring.behindSet (NB := 79) 1 (k + 1) = Ring.behindSet (NB := 79) 1 k := by
  subst h; rw [Ring.behindSet_boot 1 1 (by omega), Ring.behindSet_boot 1 0 (by omega)]
theorem home_zero : Ring.homeSet (NB := 79) 1 0 = Finset.univ.erase (Ring.bk 79 0) := by
  ext u; rw [Ring.mem_homeSet, Finset.mem_erase, Ne, Fin.ext_iff, Ring.bk_val (by omega)]; simp; omega
theorem behind_last : Ring.behindSet (NB := 79) 1 79 = Finset.univ.erase (Ring.bk 79 78) := by
  ext u; rw [Ring.mem_behindSet, Finset.mem_erase, Ne, Fin.ext_iff, Ring.bk_val (by omega)]; have := u.isLt; simp; omega
end Sets

variable [FloatOps F]

/-! ## The invariant -/

section Tile
variable (d : Dev nD) (c : Fin 2) (s : Fin 16) (q : PosShare TreeShare)
  (X : Buf (Elt F) (xLoc d)) (I : Buf (Elt F) (iLoc d)) (fo : Buf (Elt F) (oLoc d))

/-- The gathered array, as contents of the result. -/
abbrev outAll : Buf (Elt F) (oLoc d) := gathered (F := F) X I

/-- Index slot `j` holding index block `b`'s words. -/
abbrev sHas (j : Fin 2) (b : Fin 2528) : sProp 𝕄 := sPts d c s j ((sSlot j).view.rep ((iBlk b).view.read (Elt F) I))

/-- The fetch of index block `b` into slot `j`, in flight; the copy of row slot `j` to result block `b`, in flight. -/
abbrev sFly (j : Fin 2) (b : Fin 2528) : sProp 𝕄 :=
  Transfers.Flight countersEmb (thr d c s) (SemLoc.dma (sCell j).sem) (default : HIx 1) 4096 iprop(sHas d c s I j b ∗ iPts d c s I b)
abbrev rFly (j : Fin 2) (b : Fin 2528) : sProp 𝕄 :=
  Transfers.Flight countersEmb (thr d c s) (SemLoc.dma (rCell j).sem) (default : HIx 1) 524288
    iprop(oPts d c s (outAll d X I) b ∗ rPts d c s j ((rSlot j).view.rep ((oBlk b).view.read (Elt F) (outAll d X I))))
abbrev sFree (j : Fin 2) : sProp 𝕄 := iprop((∃ f, sPts (F := F) d c s j f) ∗ sSem (F := F) d c s j)
abbrev rFree (j : Fin 2) : sProp 𝕄 := iprop((∃ f, rPts (F := F) d c s j f) ∗ rSem (F := F) d c s j)

/-- The counters the loop carries. -/
abbrev words (k : ℕ) : BitVec 32 × BitVec 32 × BitVec 32 × BitVec 32 × BitVec 32 := (w6 k, w7 k, w8 k, w9 k, w10 k)

/-- Before trip `k`. -/
def inv (O : CellTallies nD τ sig (HIx 1)) (W : Waits sig (HIx 1)) (k : ℕ) (acc : BitVec 32 × BitVec 32 × BitVec 32 × BitVec 32 × BitVec 32) : sProp 𝕄 :=
  iprop(Transfers.MayWaits (thr d c s) (none : HIx 1) O
    ∗ ⌜acc = words k⌝
    ∗ xPts d c s q X
    ∗ bigSep (Ring.homeSet (NB := 79) 1 k) (fun u => iPts d c s I (blk c s u))
    ∗ bigSep (Ring.aheadSet (NB := 79) k) (fun u => oPts d c s fo (blk c s u))
    ∗ bigSep (Ring.behindSet (NB := 79) 1 k) (fun u => oPts d c s (outAll d X I) (blk c s u))
    ∗ (if k < 79 then sFly d c s I (Ring.sl 2 k) (bkN c s k) else sFree d c s (Ring.sl 2 k))
    ∗ sFree d c s (Ring.sl 2 (k + 1))
    ∗ rFree d c s (Ring.sl 2 k)
    ∗ (if 1 ≤ k then rFly d c s X I (Ring.sl 2 (k - 1)) (bkN c s (k - 1)) else rFree d c s (Ring.sl 2 (k + 1)))
    ∗ gSem (F := F) d c s
    ∗ ∃ W', ⌜∀ p ∈ W', p ∈ W ∨ p.2 = none⌝ ∗ owes (thr d c s) O W')

omit [FloatOps F] in
/-- An index slot is held as the gather's list. -/
theorem pts_list (j : Fin 2) (f : Buf (Elt F) ((sSlot j).view.loc (thr d c s))) :
    ((lSlot j).view.loc (thr d c s) ↦[(lSlot j).view.set]{fullShare} f : sProp 𝕄) = sPts d c s j f :=
  congrArg (fun S => ((sSlot j).view.loc (thr d c s) ↦[S]{fullShare} f : sProp 𝕄)) (set_lSlot j)

/-! ## What a trip hands on -/

/-- A fetch into an index slot delivers the slot at the block's words. -/
theorem has_idx (j : Fin 2) (b : Fin 2528) (f : Buf (Elt F) ((sSlot j).view.loc (thr d c s))) (w : S1x128.Idx → Elt F .i32)
    (h : w = (iBlk b).view.read (Elt F) I) :
    sPts d c s j ((sSlot j).view.writes (Elt F) f [⟨Rect.whole S1x128, w⟩]) ⊢ sHas d c s I j b := by
  subst h
  exact pointsTo_rep_of_read (thr d c s) (sSlot j) _ _ _ (View.read_writes_whole _ _ _)

/-- A row slot that holds the gathered block. -/
theorem has_row (j : Fin 2) (b : Fin 2528) (g : Buf (Elt F) ((rSlot j).view.loc (thr d c s))) (w : S128x128.Idx → Elt F .f32)
    (h : w = (oBlk b).view.read (Elt F) (outAll d X I)) :
    rPts d c s j ((rSlot j).view.writes (Elt F) g [⟨Rect.whole S128x128, w⟩]) ⊢ rPts d c s j ((rSlot j).view.rep ((oBlk b).view.read (Elt F) (outAll d X I))) := by
  subst h
  exact pointsTo_rep_of_read (thr d c s) (rSlot j) _ _ _ (View.read_writes_whole _ _ _)

/-- A copy of the gathered block leaves the result's block at the gathered array. -/
theorem has_out (b : Fin 2528) (f : Buf (Elt F) (oLoc d)) (w : S128x128.Idx → Elt F .f32)
    (h : w = (oBlk b).view.read (Elt F) (outAll d X I)) :
    oPts d c s ((oBlk b).view.writes (Elt F) f [⟨Rect.whole S128x128, w⟩]) b ⊢ oPts d c s (outAll d X I) b := by
  refine (pointsTo_rep_of_read (thr d c s) (oBlk b) _ _ _ ((View.read_writes_whole _ _ _).trans h)).trans ?_
  exact Entails.of_eq (pointsTo_rep (thr d c s) (oBlk b) _ _).symm

/-- The fetch in flight, at the block's words. -/
theorem fly_idx {sm : SemLoc sig} (j : Fin 2) (b : Fin 2528) (f : Buf (Elt F) ((sSlot j).view.loc (thr d c s))) (w : S1x128.Idx → Elt F .i32)
    (h : w = (iBlk b).view.read (Elt F) I) :
    (Transfers.Flight countersEmb (thr d c s) sm (default : HIx 1) 4096
        iprop(sPts d c s j ((sSlot j).view.writes (Elt F) f [⟨Rect.whole S1x128, w⟩]) ∗ iPts d c s I b) : sProp 𝕄)
      ⊢ Transfers.Flight countersEmb (thr d c s) sm (default : HIx 1) 4096 iprop(sHas d c s I j b ∗ iPts d c s I b) := by
  have hw := has_idx d c s I j b f w h
  refine Transfers.Flight_mono countersEmb (thr d c s) ?_
  iintro ⟨H, H'⟩
  isplitl [H]
  · iapply hw; iexact H
  · iexact H'

/-- The copy out in flight, at the gathered block. -/
theorem fly_row (j : Fin 2) (b : Fin 2528) (f : Buf (Elt F) (oLoc d)) (g : Buf (Elt F) ((rSlot j).view.loc (thr d c s)))
    (w w' : S128x128.Idx → Elt F .f32)
    (h : w = (rSlot j).view.read (Elt F) ((rSlot j).view.writes (Elt F) g [⟨Rect.whole S128x128, w'⟩])) (h' : w' = (oBlk b).view.read (Elt F) (outAll d X I)) :
    (Transfers.Flight countersEmb (thr d c s) (SemLoc.dma (rCell j).sem) (default : HIx 1) 524288
        iprop(oPts d c s ((oBlk b).view.writes (Elt F) f [⟨Rect.whole S128x128, w⟩]) b
          ∗ rPts d c s j ((rSlot j).view.writes (Elt F) g [⟨Rect.whole S128x128, w'⟩])) : sProp 𝕄)
      ⊢ rFly d c s X I j b := by
  have ho := has_out d c s X I b f w (h.trans ((View.read_writes_whole _ _ _).trans h'))
  have hr := has_row d c s X I j b g w' h'
  refine Transfers.Flight_mono countersEmb (thr d c s) ?_
  iintro ⟨H, H'⟩
  isplitl [H]
  · iapply ho; iexact H
  · iapply hr; iexact H'

/-- Before the first trip. -/
theorem inv_zero (O : CellTallies nD τ sig (HIx 1)) (W : Waits sig (HIx 1)) (acc : BitVec 32 × BitVec 32 × BitVec 32 × BitVec 32 × BitVec 32) :
    iprop(Transfers.MayWaits (thr d c s) (none : HIx 1) O
        ∗ ⌜acc = words 0⌝
        ∗ xPts d c s q X
        ∗ bigSep (Finset.univ.erase (Ring.bk 79 0)) (fun u => iPts d c s I (blk c s u))
        ∗ bigSep Finset.univ (fun u : Fin 79 => oPts d c s fo (blk c s u))
        ∗ sFly d c s I (Ring.sl 2 0) (bkN c s 0)
        ∗ sFree d c s (Ring.sl 2 1) ∗ rFree d c s (Ring.sl 2 0) ∗ rFree d c s (Ring.sl 2 1)
        ∗ gSem (F := F) d c s
        ∗ owes (thr d c s) O W)
      ⊢ inv d c s q X I fo O W 0 acc := by
  unfold inv
  rw [home_zero, Ring.aheadSet_zero, Ring.behindSet_boot 1 0 (by omega), if_pos (show 0 < 79 by decide), if_neg (show ¬ 1 ≤ 0 by decide)]
  iintro ⟨Hmw, %hacc, Hx, Hi, Ho, Hc, Hs, Hr, Hr', Hg, HO⟩
  isplitl [Hmw]; · iexact Hmw
  isplitr; · ipureintro; exact hacc
  isplitl [Hx]; · iexact Hx
  isplitl [Hi]; · iexact Hi
  isplitl [Ho]; · iexact Ho
  isplitr; · iapply (Entails.of_eq bigSep_empty.symm); iempintro
  isplitl [Hc]; · iexact Hc
  isplitl [Hs]; · iexact Hs
  isplitl [Hr]; · iexact Hr
  isplitl [Hr']; · iexact Hr'
  isplitl [Hg]; · iexact Hg
  iexists W; isplitr; · ipureintro; exact fun p hp => .inl hp
  iexact HO

/-- After the last trip: the last copy out is in flight, everything else is at home. -/
theorem inv_end (O : CellTallies nD τ sig (HIx 1)) (W : Waits sig (HIx 1)) (acc : BitVec 32 × BitVec 32 × BitVec 32 × BitVec 32 × BitVec 32) :
    inv d c s q X I fo O W 79 acc ⊢
      iprop(⌜acc = words 79⌝
        ∗ xPts d c s q X
        ∗ bigSep Finset.univ (fun u : Fin 79 => iPts d c s I (blk c s u))
        ∗ bigSep (Finset.univ.erase (Ring.bk 79 78)) (fun u => oPts d c s (outAll d X I) (blk c s u))
        ∗ sFree d c s (Ring.sl 2 0) ∗ sFree d c s (Ring.sl 2 1) ∗ rFree d c s (Ring.sl 2 1)
        ∗ rFly d c s X I (Ring.sl 2 78) (bkN c s 78)
        ∗ gSem (F := F) d c s
        ∗ ∃ W', ⌜∀ p ∈ W', p ∈ W ∨ p.2 = none⌝ ∗ owes (thr d c s) O W') := by
  unfold inv
  rw [Ring.homeSet_last 1 79 le_rfl, behind_last, if_neg (show ¬ 79 < 79 by decide), if_pos (show 1 ≤ 79 by decide),
    show Ring.sl 2 (79 + 1) = Ring.sl 2 0 by decide, show Ring.sl 2 79 = Ring.sl 2 1 by decide]
  iintro ⟨-, %hacc, Hx, Hi, -, Hb, Hs1, Hs0, Hr, Hf, Hg, HO⟩
  isplitr; · ipureintro; exact hacc
  isplitl [Hx]; · iexact Hx
  isplitl [Hi]; · iexact Hi
  isplitl [Hb]; · iexact Hb
  isplitl [Hs0]; · iexact Hs0
  isplitl [Hs1]; · iexact Hs1
  isplitl [Hr]; · iexact Hr
  isplitl [Hf]; · iexact Hf
  isplitl [Hg]; · iexact Hg
  iexact HO

omit [FloatOps F] in
/-- A recorded wait under the transfers' own level. -/
theorem waits_insert {W W' : Waits sig (HIx 1)} {a : SemLoc sig} (h : ∀ p ∈ W', p ∈ W ∨ p.2 = none) :
    ∀ p ∈ insert (a, (default : HIx 1)) W', p ∈ W ∨ p.2 = none := fun p hp =>
  (Finset.mem_insert.mp hp).elim (fun e => .inr (e ▸ rfl)) (h p)

/-- A trip's end is the invariant before the next. -/
theorem inv_next (O : CellTallies nD τ sig (HIx 1)) (W : Waits sig (HIx 1)) (k : ℕ)
    (acc : BitVec 32 × BitVec 32 × BitVec 32 × BitVec 32 × BitVec 32) :
    iprop(Transfers.MayWaits (thr d c s) (none : HIx 1) O
        ∗ ⌜acc = words (k + 1)⌝
        ∗ xPts d c s q X
        ∗ bigSep (Ring.homeSet (NB := 79) 1 (k + 1)) (fun u => iPts d c s I (blk c s u))
        ∗ bigSep (Ring.aheadSet (NB := 79) (k + 1)) (fun u => oPts d c s fo (blk c s u))
        ∗ bigSep (Ring.behindSet (NB := 79) 1 (k + 1)) (fun u => oPts d c s (outAll d X I) (blk c s u))
        ∗ (if k + 1 < 79 then sFly d c s I (Ring.sl 2 (k + 1)) (bkN c s (k + 1)) else sFree d c s (Ring.sl 2 (k + 1)))
        ∗ (∃ f, (lSlot (Ring.sl 2 k)).view.loc (thr d c s) ↦[(lSlot (Ring.sl 2 k)).view.set]{fullShare} f)
        ∗ sSem (F := F) d c s (Ring.sl 2 k)
        ∗ rFree d c s (Ring.sl 2 (k + 1))
        ∗ rFly d c s X I (Ring.sl 2 k) (bkN c s k)
        ∗ gSem (F := F) d c s
        ∗ ∃ W', ⌜∀ p ∈ W', p ∈ W ∨ p.2 = none⌝ ∗ owes (thr d c s) O W')
      ⊢ inv d c s q X I fo O W (k + 1) acc := by
  unfold inv
  iintro ⟨Hmw, %hacc, Hx, Hi, Ho, Hb, Hc, ⟨%f, Hs⟩, Hsc, Hr, Hf, Hg, HO⟩
  ihave Hs := (Entails.of_eq (pts_list (F := F) d c s (Ring.sl 2 k) f)) $$ Hs
  isplitl [Hmw]; · iexact Hmw
  isplitr; · ipureintro; exact hacc
  isplitl [Hx]; · iexact Hx
  isplitl [Hi]; · iexact Hi
  isplitl [Ho]; · iexact Ho
  isplitl [Hb]; · iexact Hb
  isplitl [Hc]; · iexact Hc
  isplitl [Hs Hsc]
  · iapply (Entails.of_eq (congrArg (fun j => sFree (F := F) d c s j) (Ring.sl_add 2 k).symm))
    isplitl [Hs]; · iexists _; iexact Hs
    iexact Hsc
  isplitl [Hr]; · iexact Hr
  isplitl [Hf]; · iapply (Entails.of_eq (if_pos (Nat.le_add_left 1 k)).symm); iexact Hf
  isplitl [Hg]; · iexact Hg
  iexact HO

set_option maxHeartbeats 4000000 in
theorem tile_run (hI : ∀ x, (I x : BitVec 32).toNat < 10008) (O : CellTallies nD τ sig (HIx 1)) (W : Waits sig (HIx 1)) :
    iprop(Transfers.MayWaits (thr d c s) (none : HIx 1) O ∗ xPts d c s q X
        ∗ bigSep Finset.univ (fun u : Fin 79 => iPts d c s I (blk c s u))
        ∗ bigSep Finset.univ (fun u : Fin 79 => oPts d c s fo (blk c s u))
        ∗ sFree d c s (Ring.sl 2 0) ∗ sFree d c s (Ring.sl 2 1) ∗ rFree d c s (Ring.sl 2 0) ∗ rFree d c s (Ring.sl 2 1) ∗ gSem (F := F) d c s ∗ owes (thr d c s) O W)
      ⊢ wp frame (wpE (defs₀ (F := F)) 𝒱₀ (thr d c s) none) Set.univ
          (cc0_run (at2 c s) xM (Memref.isWhole_whole _) iM (Memref.isWhole_whole _) oM (Memref.isWhole_whole _)
            sM (Memref.isWhole_whole _) cc0_scoped1 rM (Memref.isWhole_whole _) cc0_scoped3 cc0_scoped4)
          fun _ => iprop(xPts d c s q X
        ∗ bigSep Finset.univ (fun u : Fin 79 => iPts d c s I (blk c s u))
        ∗ bigSep Finset.univ (fun u : Fin 79 => oPts d c s (outAll d X I) (blk c s u))
        ∗ sFree d c s (Ring.sl 2 0) ∗ sFree d c s (Ring.sl 2 1) ∗ rFree d c s (Ring.sl 2 0) ∗ rFree d c s (Ring.sl 2 1) ∗ gSem (F := F) d c s
        ∗ ∃ W', ⌜∀ p ∈ W', p ∈ W ∨ p.2 = none⌝ ∗ owes (thr d c s) O W') := by
  simp only [cc0_run_eq_skeleton]; unfold cc0_run_skel
  iintro ⟨#Hmw, Hx, Hi, Ho, ⟨⟨%f0, Hs0⟩, HC0⟩, HS1, HR0, HR1, Hg, HO⟩
  ihave Hi := (Entails.of_eq (Ring.bigSep_take (Finset.mem_univ (Ring.bk 79 0)) _)) $$ Hi
  icases Hi with ⟨Hi0, Hi⟩
  sl_exec
  sl_for (inv d c s q X I fo O W) $$ [Hx Hi Ho HC0 HS1 HR0 HR1 Hg HO]
  case region =>
    intro k acc
    rw [inv.eq_1 d c s q X I fo O W k.val acc]
    iintro ⟨#Hmw, %hacc, Hx, Hi, Ho, Hb, Hcur, ⟨⟨%f1, Hs1⟩, Hc1⟩, ⟨⟨%g0, Hr0⟩, Hd0⟩, Hprev, Hg, %W', %hW, HO⟩
    subst hacc
    have hk : k.val < 79 := lt79 k
    have hc2 := cond2_pos c s k
    have hc5 := cond5_pos c s k
    have hk1 := chk1 c s k
    have hk2 := chk2 k
    have hk3 := chk3 k
    have hin := list_lt hI (Ring.sl 2 k.val) (bkN c s k.val) _ (View.read_rep (sSlot (Ring.sl 2 k.val)).view ((iBlk (bkN c s k.val)).view.read (Elt F) I))
    ihave Hcur := (Entails.of_eq (if_pos hk)) $$ Hcur
    ihave Ho := (Entails.of_eq (ahead_out _ k.val hk)) $$ Ho
    icases Ho with ⟨Hok, Ho⟩
    rcases (show (k.val + 1 < 79 ∧ ¬ 1 ≤ k.val) ∨ (k.val + 1 < 79 ∧ 1 ≤ k.val) ∨ (¬ k.val + 1 < 79 ∧ 1 ≤ k.val) by omega) with ⟨h1, h2⟩ | ⟨h1, h2⟩ | ⟨h1, h2⟩
    -- the fetch of the next block, but on the last trip; the wait for the last copy out, but on the first
    · have hc1 := cond1_pos c s k h1
      ihave Hi := (Entails.of_eq (home_out _ k.val h1)) $$ Hi
      icases Hi with ⟨Hin, Hi⟩
      have hc7 := cond7_neg c s k h2
      ihave Hprev := (Entails.of_eq (if_neg h2)) $$ Hprev
      sl_exec
      ihave Hcur_dst := (Entails.of_eq (pts_list (F := F) d c s _ _).symm) $$ Hcur_dst
      sl_exec
      sl_step
      ihave Hi := (Entails.of_eq (home_back (fun u => iPts d c s I (blk c s u)) k.val h1).symm) $$ [Hi Hcur_src]
      · isplitl [Hcur_src]; · iexact Hcur_src
        iexact Hi
      ihave Hb := (Entails.of_eq (congrArg (fun S => bigSep S (fun u => oPts d c s (outAll d X I) (blk c s u))) (behind_first k.val (by omega)).symm)) $$ Hb
      ihave Hc1 := (fly_idx d c s I (Ring.sl 2 (k.val + 1)) (bkN c s (k.val + 1)) f1 (tile_run.sl.dma0_1 d c s I k) rfl) $$ Hc1
      ihave Hd0 := (fly_row d c s X I (Ring.sl 2 k.val) (bkN c s k.val) fo g0 (tile_run.sl.dma0_2 d c s X I k g0 hin) (tile_run.sl.gather0 d c s X I k hin) rfl
        (gather_value X hI (Ring.sl 2 k.val) (bkN c s k.val) _ (View.read_rep _ _) gathers_S10008x128_S128x128 rfl hin)) $$ Hd0
      iapply (inv_next d c s q X I fo O W k.val _) $$ [Hx Hi Ho Hb Hc1 Hcur_dst Hcur Hprev Hd0 Hg HO]
      · isplitr; · iexact Hmw
        isplitr; · ipureintro; clear * - c s k; revert c s k; decide +kernel
        isplitl [Hx]; · iexact Hx
        isplitl [Hi]; · iexact Hi
        isplitl [Ho]; · iexact Ho
        isplitl [Hb]; · iexact Hb
        isplitl [Hc1]; · iapply (Entails.of_eq (if_pos h1).symm); iexact Hc1
        isplitl [Hcur_dst]; · iexists _; iexact Hcur_dst
        isplitl [Hcur]; · iexact Hcur
        isplitl [Hprev]; · iexact Hprev
        isplitl [Hd0]; · iexact Hd0
        isplitl [Hg]; · iexact Hg
        iexists _; isplitr
        swap; · iexact HO
        ipureintro
        repeat first | exact hW | refine waits_insert ?_
    · have hc1 := cond1_pos c s k h1
      ihave Hi := (Entails.of_eq (home_out _ k.val h1)) $$ Hi
      icases Hi with ⟨Hin, Hi⟩
      have hc7 := cond7_pos c s k h2
      ihave Hprev := (Entails.of_eq (if_pos h2)) $$ Hprev
      sl_exec
      ihave Hcur_dst := (Entails.of_eq (pts_list (F := F) d c s _ _).symm) $$ Hcur_dst
      sl_exec
      sl_step
      ihave Hi := (Entails.of_eq (home_back (fun u => iPts d c s I (blk c s u)) k.val h1).symm) $$ [Hi Hcur_src]
      · isplitl [Hcur_src]; · iexact Hcur_src
        iexact Hi
      ihave Hb := (Entails.of_eq (behind_back (fun u => oPts d c s (outAll d X I) (blk c s u)) k.val h2 hk).symm) $$ [Hb Hprev_dst]
      · isplitl [Hprev_dst]; · iexact Hprev_dst
        iexact Hb
      ihave Hprev := (Entails.of_eq (congrArg (fun j => rFree (F := F) d c s j) (Ring.sl2_succ_eq_pred k.val h2).symm)) $$ [Hprev Hprev_src]
      · isplitl [Hprev_src]; · iexists _; iexact Hprev_src
        iexact Hprev
      ihave Hc1 := (fly_idx d c s I (Ring.sl 2 (k.val + 1)) (bkN c s (k.val + 1)) f1 (tile_run.sl.dma0_3 d c s I k) rfl) $$ Hc1
      ihave Hd0 := (fly_row d c s X I (Ring.sl 2 k.val) (bkN c s k.val) fo g0 (tile_run.sl.dma0_4 d c s X I k g0 hin) (tile_run.sl.gather0_1 d c s X I k hin) rfl
        (gather_value X hI (Ring.sl 2 k.val) (bkN c s k.val) _ (View.read_rep _ _) gathers_S10008x128_S128x128 rfl hin)) $$ Hd0
      iapply (inv_next d c s q X I fo O W k.val _) $$ [Hx Hi Ho Hb Hc1 Hcur_dst Hcur Hprev Hd0 Hg HO]
      · isplitr; · iexact Hmw
        isplitr; · ipureintro; clear * - c s k; revert c s k; decide +kernel
        isplitl [Hx]; · iexact Hx
        isplitl [Hi]; · iexact Hi
        isplitl [Ho]; · iexact Ho
        isplitl [Hb]; · iexact Hb
        isplitl [Hc1]; · iapply (Entails.of_eq (if_pos h1).symm); iexact Hc1
        isplitl [Hcur_dst]; · iexists _; iexact Hcur_dst
        isplitl [Hcur]; · iexact Hcur
        isplitl [Hprev]; · iexact Hprev
        isplitl [Hd0]; · iexact Hd0
        isplitl [Hg]; · iexact Hg
        iexists _; isplitr
        swap; · iexact HO
        ipureintro
        repeat first | exact hW | refine waits_insert ?_
    · have hc1 := cond1_neg c s k h1
      have hc7 := cond7_pos c s k h2
      ihave Hprev := (Entails.of_eq (if_pos h2)) $$ Hprev
      sl_exec
      ihave Hcur_dst := (Entails.of_eq (pts_list (F := F) d c s _ _).symm) $$ Hcur_dst
      sl_exec
      sl_step
      ihave Hi := (Entails.of_eq (home_back_last (fun u => iPts d c s I (blk c s u)) k.val hk h1).symm) $$ [Hi Hcur_src]
      · isplitl [Hcur_src]; · iexact Hcur_src
        iexact Hi
      ihave Hb := (Entails.of_eq (behind_back (fun u => oPts d c s (outAll d X I) (blk c s u)) k.val h2 hk).symm) $$ [Hb Hprev_dst]
      · isplitl [Hprev_dst]; · iexact Hprev_dst
        iexact Hb
      ihave Hprev := (Entails.of_eq (congrArg (fun j => rFree (F := F) d c s j) (Ring.sl2_succ_eq_pred k.val h2).symm)) $$ [Hprev Hprev_src]
      · isplitl [Hprev_src]; · iexists _; iexact Hprev_src
        iexact Hprev
      ihave Hd0 := (fly_row d c s X I (Ring.sl 2 k.val) (bkN c s k.val) fo g0 (tile_run.sl.dma0_5 d c s X I k g0 hin) (tile_run.sl.gather0_2 d c s X I k hin) rfl
        (gather_value X hI (Ring.sl 2 k.val) (bkN c s k.val) _ (View.read_rep _ _) gathers_S10008x128_S128x128 rfl hin)) $$ Hd0
      iapply (inv_next d c s q X I fo O W k.val _) $$ [Hx Hi Ho Hb Hs1 Hc1 Hcur_dst Hcur Hprev Hd0 Hg HO]
      · isplitr; · iexact Hmw
        isplitr; · ipureintro; clear * - c s k; revert c s k; decide +kernel
        isplitl [Hx]; · iexact Hx
        isplitl [Hi]; · iexact Hi
        isplitl [Ho]; · iexact Ho
        isplitl [Hb]; · iexact Hb
        isplitl [Hs1 Hc1]
        · iapply (Entails.of_eq (if_neg h1).symm)
          isplitl [Hs1]; · iexists f1; iexact Hs1
          iexact Hc1
        isplitl [Hcur_dst]; · iexists _; iexact Hcur_dst
        isplitl [Hcur]; · iexact Hcur
        isplitl [Hprev]; · iexact Hprev
        isplitl [Hd0]; · iexact Hd0
        isplitl [Hg]; · iexact Hg
        iexists _; isplitr
        swap; · iexact HO
        ipureintro
        repeat first | exact hW | refine waits_insert ?_
  · ihave HC0 := (fly_idx d c s I (Ring.sl 2 0) (bkN c s 0) f0 (tile_run.sl.dma0 d c s I) rfl) $$ HC0
    iapply (inv_zero d c s q X I fo O W _) $$ [Hx Hi Ho HC0 HS1 HR0 HR1 Hg HO]
    isplitr; · iexact Hmw
    isplitr; · ipureintro; rfl
    isplitl [Hx]; · iexact Hx
    isplitl [Hi]; · iexact Hi
    isplitl [Ho]; · iexact Ho
    isplitl [HC0]; · iexact HC0
    isplitl [HS1]; · iexact HS1
    isplitl [HR0]; · iexact HR0
    isplitl [HR1]; · iexact HR1
    isplitl [Hg]; · iexact Hg
    iexact HO
  iintro %acc Hinv
  ihave Hinv := ((Entails.of_eq (congrArg (fun n => inv d c s q X I fo O W n acc) trips_eq)).trans (inv_end d c s q X I fo O W acc)) $$ Hinv
  icases Hinv with ⟨%hacc, Hx, Hi, Ho, HS0, HS1, HR1, Hf, Hg, %W', %hW, HO⟩
  subst hacc
  have hk4 := chk4
  have hk5 := chk5 c s
  sl_exec
  sl_step
  isplitl [Hx]; · iexact Hx
  isplitl [Hi]; · iexact Hi
  isplitl [Ho Hf_dst]
  · iapply (Entails.of_eq (Ring.bigSep_take (Finset.mem_univ (Ring.bk 79 78)) (fun u => oPts d c s (outAll d X I) (blk c s u))).symm)
    isplitl [Hf_dst]; · iexact Hf_dst
    iexact Ho
  isplitl [HS0]; · iexact HS0
  isplitl [HS1]; · iexact HS1
  isplitl [Hf_src Hf]
  · isplitl [Hf_src]; · iexists _; iexact Hf_src
    iexact Hf
  isplitl [HR1]; · iexact HR1
  isplitl [Hg]; · iexact Hg
  iexists _; isplitr
  swap; · iexact HO
  ipureintro
  exact waits_insert hW
end Tile

end Cert.Proof.Gather

end
-- ==== Proof.Own.lean ====
/-
  The gather's task on one vector subcore, as the launch hands it over: the subcore's own scratch and semaphores are
  opened at the slots and cells of the pipeline, the body runs, and they are packed again.
-/
module

public import proofs.«01_k».proof.Proof.Tile

@[expose] public section

noncomputable section

namespace Cert.Proof.Gather

open Cert.GatherIdeal Cert.GatherIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## The two slots of each scratch buffer -/

section Slots
variable (d : Dev nD) (c : Fin 2) (s : Fin 16)

abbrev sSet (j : Fin 2) : Finset S2x1x128.Idx := (Rect.unit (s := S2x1x128) ![j.val, 0, 0] S1x1x128.size (inb_s j)).set
abbrev rSet (j : Fin 2) : Finset S2x128x128.Idx := (Rect.unit (s := S2x128x128) ![j.val, 0, 0] S1x128x128.size (inb_r j)).set

theorem sSet_eq (j : Fin 2) : (sSlot j).view.set = sSet j := by
  simp only [sSlot, Memref.view_squeeze, View.set_reshape]; exact View.set_slice_whole _ _
theorem rSet_eq (j : Fin 2) : (rSlot j).view.set = rSet j := by
  simp only [rSlot, Memref.view_squeeze, View.set_reshape]; exact View.set_slice_whole _ _

theorem sSet_disjoint (j j' : Fin 2) (h : j ≠ j') : Disjoint (sSet j) (sSet j') :=
  Ring.lead_disjoint (s := S2x1x128) (0 : Fin 3) 1 (fun j : Fin 2 => (![j.val, 0, 0] : Fin 3 → ℕ)) S1x1x128.size inb_s (fun j => by simp) rfl j j' h
theorem rSet_disjoint (j j' : Fin 2) (h : j ≠ j') : Disjoint (rSet j) (rSet j') :=
  Ring.lead_disjoint (s := S2x128x128) (0 : Fin 3) 1 (fun j : Fin 2 => (![j.val, 0, 0] : Fin 3 → ℕ)) S1x128x128.size inb_r (fun j => by simp) rfl j j' h
theorem sSet_cover : Finset.univ.biUnion sSet = Finset.univ :=
  Ring.lead_cover (s := S2x1x128) (0 : Fin 3) 1 (fun j : Fin 2 => (![j.val, 0, 0] : Fin 3 → ℕ)) S1x1x128.size inb_s (fun j => by simp)
    (fun j a ha => by fin_cases a <;> first | exact absurd rfl ha | rfl) rfl (fun a ha => by fin_cases a <;> first | exact absurd rfl ha | rfl) rfl
theorem rSet_cover : Finset.univ.biUnion rSet = Finset.univ :=
  Ring.lead_cover (s := S2x128x128) (0 : Fin 3) 1 (fun j : Fin 2 => (![j.val, 0, 0] : Fin 3 → ℕ)) S1x128x128.size inb_r (fun j => by simp)
    (fun j a ha => by fin_cases a <;> first | exact absurd rfl ha | rfl) rfl (fun a ha => by fin_cases a <;> first | exact absurd rfl ha | rfl) rfl

theorem sPts_eq (j : Fin 2) (f) : sPts (F := F) d c s j f = ((thr d c s).loc cc0_scoped0 ↦[sSet j]{fullShare} f : sProp 𝕄) :=
  congrArg (fun A => ((thr d c s).loc cc0_scoped0 ↦[A]{fullShare} f : sProp 𝕄)) (sSet_eq j)
theorem rPts_eq (j : Fin 2) (f) : rPts (F := F) d c s j f = ((thr d c s).loc cc0_scoped2 ↦[rSet j]{fullShare} f : sProp 𝕄) :=
  congrArg (fun A => ((thr d c s).loc cc0_scoped2 ↦[A]{fullShare} f : sProp 𝕄)) (rSet_eq j)

/-- The index scratch at anything is its two slots at something each, and back; the row scratch likewise. -/
theorem sSlots_in : iprop(∃ f, (thr d c s).loc cc0_scoped0 ↦{fullShare} f)
    ⊢ (iprop((∃ f, sPts (F := F) d c s (Ring.sl 2 0) f) ∗ ∃ f, sPts (F := F) d c s (Ring.sl 2 1) f) : sProp 𝕄) :=
  Ring.slots2_split (U := UU) (ℓ := (thr d c s).loc cc0_scoped0) (q := fullShare) sSet sSet_disjoint sSet_cover
    (sPts (F := F) d c s 0) (sPts (F := F) d c s 1) (sPts_eq d c s 0) (sPts_eq d c s 1)
theorem sSlots_out : (iprop((∃ f, sPts (F := F) d c s (Ring.sl 2 0) f) ∗ ∃ f, sPts (F := F) d c s (Ring.sl 2 1) f) : sProp 𝕄)
    ⊢ iprop(∃ f, (thr d c s).loc cc0_scoped0 ↦{fullShare} f) :=
  Ring.slots2_join (U := UU) (ℓ := (thr d c s).loc cc0_scoped0) (q := fullShare) sSet sSet_disjoint sSet_cover
    (sPts (F := F) d c s 0) (sPts (F := F) d c s 1) (sPts_eq d c s 0) (sPts_eq d c s 1)
theorem rSlots_in : iprop(∃ f, (thr d c s).loc cc0_scoped2 ↦{fullShare} f)
    ⊢ (iprop((∃ f, rPts (F := F) d c s (Ring.sl 2 0) f) ∗ ∃ f, rPts (F := F) d c s (Ring.sl 2 1) f) : sProp 𝕄) :=
  Ring.slots2_split (U := UU) (ℓ := (thr d c s).loc cc0_scoped2) (q := fullShare) rSet rSet_disjoint rSet_cover
    (rPts (F := F) d c s 0) (rPts (F := F) d c s 1) (rPts_eq d c s 0) (rPts_eq d c s 1)
theorem rSlots_out : (iprop((∃ f, rPts (F := F) d c s (Ring.sl 2 0) f) ∗ ∃ f, rPts (F := F) d c s (Ring.sl 2 1) f) : sProp 𝕄)
    ⊢ iprop(∃ f, (thr d c s).loc cc0_scoped2 ↦{fullShare} f) :=
  Ring.slots2_join (U := UU) (ℓ := (thr d c s).loc cc0_scoped2) (q := fullShare) rSet rSet_disjoint rSet_cover
    (rPts (F := F) d c s 0) (rPts (F := F) d c s 1) (rPts_eq d c s 0) (rPts_eq d c s 1)

end Slots

/-! ## The subcore's own cells and buffers -/

section Own
variable (d : Dev nD) (c : Fin 2) (s : Fin 16)

/-- The pipeline's five cells: two of the index slots, two of the row slots, the gather's. -/
def cellNo : Fin 5 → DmaSem sig
  | 0 => (sCell (Ring.sl 2 0)).sem
  | 1 => (sCell (Ring.sl 2 1)).sem
  | 2 => (rCell (Ring.sl 2 0)).sem
  | 3 => (rCell (Ring.sl 2 1)).sem
  | 4 => cc0_scoped4.sem

theorem cellNo_val : ∀ k, (cellNo k).val = k.val := by decide

abbrev cellAt (k : Fin 5) : GSem nD τ sig := (thr d c s, .dma (cellNo k))

theorem cellAt_injOn : Set.InjOn (cellAt d c s) (Finset.univ : Finset (Fin 5)) := fun a _ b _ h => by
  have h' : (SemLoc.dma (cellNo a) : SemLoc sig) = SemLoc.dma (cellNo b) := congrArg (fun g : GSem nD τ sig => g.2) h
  rw [SemLoc.dma.injEq] at h'
  exact Fin.ext (by rw [← cellNo_val a, ← cellNo_val b, h'])

theorem cellAt_mem (k : Fin 5) : cellAt d c s k ∈ ownCells (thr d c s) :=
  mem_ownCells.mpr ⟨rfl, (show ∀ a : DmaSem sig, (SemLoc.dma a : SemLoc sig).isScoped .scVector = true by decide) _⟩

/-- The subcore's cells at zero are the pipeline's five and the rest. -/
theorem ownSems0_tile :
    (ownSems0 (thr d c s) : sProp 𝕄)
      = iprop((sSem (F := F) d c s (Ring.sl 2 0) ∗ sSem (F := F) d c s (Ring.sl 2 1) ∗ rSem (F := F) d c s (Ring.sl 2 0) ∗ rSem (F := F) d c s (Ring.sl 2 1) ∗ gSem (F := F) d c s)
          ∗ bigSep (ownCells (thr d c s) \ Finset.univ.image (cellAt d c s)) fun g => semVal g 0) := by
  unfold SparseCore.Cfg.ownSems0
  rw [SparseCore.bigSep_sdiff_split' (t := Finset.univ.image (cellAt d c s)) (Finset.image_subset_iff.mpr fun k _ => cellAt_mem d c s k),
    SparseCore.bigSep_image_of_injOn (cellAt_injOn d c s)]
  rw [show (Finset.univ : Finset (Fin 5)) = {0, 1, 2, 3, 4} by decide,
    SparseCore.bigSep_insert' (by decide), SparseCore.bigSep_insert' (by decide), SparseCore.bigSep_insert' (by decide), SparseCore.bigSep_insert' (by decide),
    bigSep_singleton]
  rfl

/-- The subcore's buffers are the two scratches, at some contents, and the rest. -/
theorem ownBufs_tile :
    (ownBufs (thr d c s) : sProp 𝕄)
      = iprop((∃ f, (thr d c s).loc cc0_scoped0 ↦{fullShare} f) ∗ (∃ f, (thr d c s).loc cc0_scoped2 ↦{fullShare} f)
          ∗ bigSep (((ownRefs (τ := τ) (thr d c s).2).erase ((thr d c s).2.devRef cc0_scoped0)).erase ((thr d c s).2.devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := (thr d c s).2) (b := (thr d c s).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (thr d c s).2) (b := (thr d c s).2.devRef cc0_scoped2) rfl⟩)]

end Own

/-! ## The task -/

variable [FloatOps F] (m : (ℓ : Loc nD τ sig) → Buf (Elt F) ℓ)

/-- What the proof asks of the launch memory: every word of the index list names a row of the table. -/
def PreOK : Prop := ∀ (d : Dev nD) (x : S1x323584.Idx), (m (iLoc d) x : BitVec 32).toNat < 10008

/-- The gathered array of the launch memory. -/
abbrev outOf (d : Dev nD) : Buf (Elt F) (oLoc d) := outAll d (m (xLoc d)) (m (iLoc d))

/-- The tile's share of the table: one of 32 pieces of the whole. -/
def tileIx (c : Fin 2) (s : Fin 16) : Fin 32 := finProdFinEquiv (c, s)
abbrev xq (c : Fin 2) (s : Fin 16) : PosShare TreeShare := pieceOf fullShare 32 (by decide) (tileIx c s)

/-- A tile's holdings: its share of the table, its 79 blocks of the index list, its 79 blocks of the result at `f`. -/
def tileHas (d : Dev nD) (c : Fin 2) (s : Fin 16) (f : Buf (Elt F) (oLoc d)) : sProp 𝕄 :=
  iprop((xLoc d ↦{xq c s} m (xLoc d))
    ∗ bigSep Finset.univ (fun u : Fin 79 => iPts d c s (m (iLoc d)) (blk c s u))
    ∗ bigSep Finset.univ (fun u : Fin 79 => oPts d c s f (blk c s u)))

omit [FloatOps F] in
theorem pts_xAll (d : Dev nD) (c : Fin 2) (s : Fin 16) (q : PosShare TreeShare) (X : Buf (Elt F) (xLoc d)) :
    xPts (F := F) d c s q X = (xLoc d ↦{q} X : sProp 𝕄) :=
  congrArg (fun A => (xLoc d ↦[A]{q} X : sProp 𝕄)) set_xAll

theorem tile_body (hF : (K (F := F)).Facts) (hpre : PreOK m) (d : Dev nD) (c : Fin 2) (s : Fin 16)
    (O : CellTallies nD τ sig (HIx 1)) (W : Waits sig (HIx 1)) (hO : ∀ g, O g none = 0) :
    iprop(levAts (K (F := F)).L (K (F := F)).lev ∗ emp ∗ tileHas m d c s (m (oLoc d))
        ∗ scopedBufs (thr d c s) ∗ scopedSems0 (thr d c s) ∗ owes (thr d c s) O W)
      ⊢ wp frame (wpE (defs₀ (F := F)) 𝒱₀ (thr d c s) none) Set.univ
          (cc0_run (at2 c s) xM (Memref.isWhole_whole _) iM (Memref.isWhole_whole _) oM (Memref.isWhole_whole _)
            sM (Memref.isWhole_whole _) cc0_scoped1 rM (Memref.isWhole_whole _) cc0_scoped3 cc0_scoped4)
          fun _ => iprop(tileHas m d c s (outOf m d) ∗ scopedBufs (thr d c s) ∗ scopedSems0 (thr d c s)
            ∗ ∃ W', ⌜∀ p ∈ W', p ∈ W ∨ p.2 = none⌝ ∗ owes (thr d c s) O W') := by
  unfold tileHas
  rw [(K (F := F)).scopedBufs_V hF d _ _, SparseCore.Cfg.scopedSems0_V (Val := Elt F) d _ _, ownSems0_tile, ownBufs_tile]
  iintro ⟨#Hlv, -, ⟨Hx, Hi, Ho⟩, ⟨Hs, Hr, Hbufs⟩, ⟨⟨Hc0, Hc1, Hd0, Hd1, Hg⟩, Hsems⟩, HO⟩
  ihave Hmw := ((K (F := F)).mayWaits_none (thr := thr d c s) hO) $$ Hlv
  ihave Hx := (Entails.of_eq (pts_xAll (F := F) d c s _ _).symm) $$ Hx
  ihave Hs := (sSlots_in (F := F) d c s) $$ Hs
  icases Hs with ⟨Hs0, Hs1⟩
  ihave Hr := (rSlots_in (F := F) d c s) $$ Hr
  icases Hr with ⟨Hr0, Hr1⟩
  iapply (wp_wand_r Idealize.ShloMosaic.frame (wpE (defs₀ (F := F)) 𝒱₀ (thr d c s) none) Set.univ)
  isplitl [Hx Hi Ho Hs0 Hs1 Hr0 Hr1 Hc0 Hc1 Hd0 Hd1 Hg HO]
  · iapply (tile_run d c s (xq c s) (m (xLoc d)) (m (iLoc d)) (m (oLoc d)) (hpre d) O W)
    isplitr; · iexact Hmw
    isplitl [Hx]; · iexact Hx
    isplitl [Hi]; · iexact Hi
    isplitl [Ho]; · iexact Ho
    isplitl [Hs0 Hc0]
    · isplitl [Hs0]; · iexact Hs0
      iexact Hc0
    isplitl [Hs1 Hc1]
    · isplitl [Hs1]; · iexact Hs1
      iexact Hc1
    isplitl [Hr0 Hd0]
    · isplitl [Hr0]; · iexact Hr0
      iexact Hd0
    isplitl [Hr1 Hd1]
    · isplitl [Hr1]; · iexact Hr1
      iexact Hd1
    isplitl [Hg]; · iexact Hg
    iexact HO
  iintro %_ ⟨Hx, Hi, Ho, ⟨Hs0, Hc0⟩, ⟨Hs1, Hc1⟩, ⟨Hr0, Hd0⟩, ⟨Hr1, Hd1⟩, Hg, HO⟩
  ihave Hx := (Entails.of_eq (pts_xAll (F := F) d c s _ _)) $$ Hx
  ihave Hs := (sSlots_out (F := F) d c s) $$ [Hs0 Hs1]
  · isplitl [Hs0]; · iexact Hs0
    iexact Hs1
  ihave Hr := (rSlots_out (F := F) d c s) $$ [Hr0 Hr1]
  · isplitl [Hr0]; · iexact Hr0
    iexact Hr1
  isplitl [Hx Hi Ho]
  · isplitl [Hx]; · iexact Hx
    isplitl [Hi]; · iexact Hi
    iexact Ho
  isplitl [Hs Hr Hbufs]
  · isplitl [Hs]; · iexact Hs
    isplitl [Hr]; · iexact Hr
    iexact Hbufs
  isplitl [Hc0 Hc1 Hd0 Hd1 Hg Hsems]
  · isplitr [Hsems]
    · isplitl [Hc0]; · iexact Hc0
      isplitl [Hc1]; · iexact Hc1
      isplitl [Hd0]; · iexact Hd0
      isplitl [Hd1]; · iexact Hd1
      iexact Hg
    iexact Hsems
  iexact HO

end Cert.Proof.Gather

end
-- ==== Proof.Launch.lean ====
/-
  The gather's launch: the arrays are dealt to the 32 tiles and collected from them, and the program's run, from any
  launch memory whose index list names rows of the table, ends with the gathered array as its result.
-/
module

public import proofs.«01_k».proof.Proof.Own

@[expose] public section

noncomputable section

namespace Cert.Proof.Gather

open Cert.GatherIdeal Cert.GatherIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays as the tiles' pieces -/

section Split

abbrev iSet (b : Fin 2528) : Finset S1x323584.Idx := (Rect.unit (s := S1x323584) ![0, 128 * b.val] S1x128.size (inb_i b)).set
abbrev oSet (b : Fin 2528) : Finset S323584x128.Idx := (Rect.unit (s := S323584x128) ![128 * b.val, 0] S128x128.size (inb_o b)).set

theorem iSet_eq (b : Fin 2528) : (iBlk b).view.set = iSet b := by unfold iBlk; exact View.set_slice_whole _ _
theorem oSet_eq (b : Fin 2528) : (oBlk b).view.set = oSet b := by unfold oBlk; exact View.set_slice_whole _ _

theorem iSet_disjoint (b b' : Fin 2528) (h : b ≠ b') : Disjoint (iSet b) (iSet b') :=
  Ring.lead_disjoint (s := S1x323584) (1 : Fin 2) 128 (fun b : Fin 2528 => (![0, 128 * b.val] : Fin 2 → ℕ)) S1x128.size inb_i (fun b => by simp) rfl b b' h
theorem oSet_disjoint (b b' : Fin 2528) (h : b ≠ b') : Disjoint (oSet b) (oSet b') :=
  Ring.lead_disjoint (s := S323584x128) (0 : Fin 2) 128 (fun b : Fin 2528 => (![128 * b.val, 0] : Fin 2 → ℕ)) S128x128.size inb_o (fun b => by simp) rfl b b' h
theorem iSet_cover : Finset.univ.biUnion iSet = Finset.univ :=
  Ring.lead_cover (s := S1x323584) (1 : Fin 2) 128 (fun b : Fin 2528 => (![0, 128 * b.val] : Fin 2 → ℕ)) S1x128.size inb_i (fun b => by simp)
    (fun b a ha => by fin_cases a <;> first | exact absurd rfl ha | rfl) rfl (fun a ha => by fin_cases a <;> first | exact absurd rfl ha | rfl) (by decide)
theorem oSet_cover : Finset.univ.biUnion oSet = Finset.univ :=
  Ring.lead_cover (s := S323584x128) (0 : Fin 2) 128 (fun b : Fin 2528 => (![128 * b.val, 0] : Fin 2 → ℕ)) S128x128.size inb_o (fun b => by simp)
    (fun b a ha => by fin_cases a <;> first | exact absurd rfl ha | rfl) rfl (fun a ha => by fin_cases a <;> first | exact absurd rfl ha | rfl) (by decide)

/-- A block's number is its tile's and its own within the tile. -/
def blkEquiv : (Fin 2 × Fin 16) × Fin 79 ≃ Fin 2528 :=
  (Equiv.prodCongr (finProdFinEquiv : Fin 2 × Fin 16 ≃ Fin 32) (Equiv.refl (Fin 79))).trans (finProdFinEquiv : Fin 32 × Fin 79 ≃ Fin 2528)

theorem blkEquiv_eq (c : Fin 2) (s : Fin 16) (u : Fin 79) : blkEquiv ((c, s), u) = blk c s u := by
  apply Fin.ext
  show u.val + 79 * (s.val + 16 * c.val) = 79 * (16 * c.val + s.val) + u.val
  omega

variable {M : Type _} [URA M]

/-- A family over the blocks, tile by tile. -/
theorem blocks_tiles (Φ : Fin 2528 → sProp M) :
    bigSep Finset.univ Φ = bigSep Finset.univ fun c : Fin 2 => bigSep Finset.univ fun s : Fin 16 => bigSep Finset.univ fun u : Fin 79 => Φ (blk c s u) := by
  rw [bigSep_univ_equiv blkEquiv Φ, bigSep_univ_prod, bigSep_univ_prod]
  exact bigSep_congr fun c _ => bigSep_congr fun s _ => bigSep_congr fun u _ => congrArg Φ (blkEquiv_eq c s u)

/-- A family over the 32 tiles, core by core. -/
theorem tiles_cores (Φ : Fin 32 → sProp M) :
    bigSep Finset.univ Φ = bigSep Finset.univ fun c : Fin 2 => bigSep Finset.univ fun s : Fin 16 => Φ (tileIx c s) := by
  rw [bigSep_univ_equiv (finProdFinEquiv : Fin 2 × Fin 16 ≃ Fin 32) Φ, bigSep_univ_prod]
  rfl

end Split

variable [FloatOps F] (m : (ℓ : Loc nD τ sig) → Buf (Elt F) ℓ) (ρ : Dev nD → PrngReg)

abbrev xWhole (d : Dev nD) : sProp 𝕄 := xLoc d ↦{fullShare} m (xLoc d)
abbrev iWhole (d : Dev nD) : sProp 𝕄 := iLoc d ↦{fullShare} m (iLoc d)
abbrev oWhole (d : Dev nD) (f : Buf (Elt F) (oLoc d)) : sProp 𝕄 := oLoc d ↦{fullShare} f

/-- The three arrays whole are the tiles' holdings. -/
theorem deal (d : Dev nD) (f : Buf (Elt F) (oLoc d)) :
    (iprop(xWhole m d ∗ iWhole m d ∗ oWhole d f) : sProp 𝕄)
      = bigSep Finset.univ fun c : Fin 2 => bigSep Finset.univ fun s : Fin 16 => tileHas m d c s f := by
  have hx : xWhole m d = bigSep Finset.univ fun c : Fin 2 => bigSep Finset.univ fun s : Fin 16 => (xLoc d ↦{xq c s} m (xLoc d) : sProp 𝕄) :=
    (pointsTo_piecesOf Finset.univ (m (xLoc d)) (by decide : 0 < 32) fullShare).trans (tiles_cores _)
  have hi : iWhole m d = bigSep Finset.univ fun c : Fin 2 => bigSep Finset.univ fun s : Fin 16 => bigSep Finset.univ fun u : Fin 79 => iPts d c s (m (iLoc d)) (blk c s u) :=
    (Ring.pointsTo_blocks (ℓ := iLoc d) iSet iSet_disjoint iSet_cover (m (iLoc d))).trans ((blocks_tiles _).trans
      (bigSep_congr fun c _ => bigSep_congr fun s _ => bigSep_congr fun u _ =>
        congrArg (fun A => (iLoc d ↦[A]{fullShare} m (iLoc d) : sProp 𝕄)) (iSet_eq (blk c s u)).symm))
  have ho : oWhole d f = bigSep Finset.univ fun c : Fin 2 => bigSep Finset.univ fun s : Fin 16 => bigSep Finset.univ fun u : Fin 79 => oPts d c s f (blk c s u) :=
    (Ring.pointsTo_blocks (ℓ := oLoc d) oSet oSet_disjoint oSet_cover f).trans ((blocks_tiles _).trans
      (bigSep_congr fun c _ => bigSep_congr fun s _ => bigSep_congr fun u _ =>
        congrArg (fun A => (oLoc d ↦[A]{fullShare} f : sProp 𝕄)) (oSet_eq (blk c s u)).symm))
  unfold tileHas
  simp only [bigSep_sep']
  rw [← hx, ← hi, ← ho]

/-! ## What the handshakes carry -/

omit [FloatOps F] in
theorem pts_storable (ℓ : Loc nD τ sig) (I : Finset (Idx ℓ)) (q : PosShare TreeShare) (f : Buf (Elt F) ℓ) :
    BI.Storable (upEmb : UEmb _ 𝕄) (ℓ ↦[I]{q} f) := inferInstance

instance tileHas_storable (d : Dev nD) (c : Fin 2) (s : Fin 16) (f : Buf (Elt F) (oLoc d)) :
    BI.Storable (upEmb : UEmb _ 𝕄) (tileHas m d c s f) := by
  have hi : ∀ u : Fin 79, BI.Storable (upEmb : UEmb _ 𝕄) (iPts d c s (m (iLoc d)) (blk c s u)) := fun u => pts_storable _ _ _ _
  have ho : ∀ u : Fin 79, BI.Storable (upEmb : UEmb _ 𝕄) (oPts d c s f (blk c s u)) := fun u => pts_storable _ _ _ _
  unfold tileHas
  exact BI.Storable.sep _ _ _

attribute [local irreducible] tileHas

/-- What the tiles of one SparseCore hold. -/
def coreHas (d : Dev nD) (c : Fin 2) (f : Buf (Elt F) (oLoc d)) : sProp 𝕄 := bigSep Finset.univ fun s : Fin 16 => tileHas m d c s f

instance coreHas_storable (d : Dev nD) (c : Fin 2) (f : Buf (Elt F) (oLoc d)) : BI.Storable (upEmb : UEmb _ 𝕄) (coreHas m d c f) := by
  unfold coreHas; infer_instance

theorem deal_cores (d : Dev nD) (f : Buf (Elt F) (oLoc d)) :
    (bigSep Finset.univ fun c : Fin 2 => coreHas m d c f) = iprop(xWhole m d ∗ iWhole m d ∗ oWhole d f) := by
  unfold coreHas; exact (deal m d f).symm

attribute [local irreducible] coreHas

/-- The call takes the three arrays as the tiles' holdings, and brings them back with the result gathered. -/
def P : (K (F := F)).Pay (nD := nD) (Val := Elt F) (Name := ℕ) (U := UU) where
  st := fun q d c => match q with | 0 => coreHas m d (Fin.cast nCore_zero c) (m (oLoc d))
  dn := fun q d c => match q with | 0 => coreHas m d (Fin.cast nCore_zero c) (outOf m d)
  go := fun q d c s => match q with | 0 => tileHas m d (Fin.cast nCore_zero c) (Fin.cast nSub_zero s) (m (oLoc d))
  td := fun q d c s => match q with | 0 => tileHas m d (Fin.cast nCore_zero c) (Fin.cast nSub_zero s) (outOf m d)
  x := fun _ _ => iprop(emp)

instance P_storable : (P (F := F) m).IsStorable where
  st q d c := match q with | 0 => coreHas_storable m d (Fin.cast nCore_zero c) (m (oLoc d))
  dn q d c := match q with | 0 => coreHas_storable m d (Fin.cast nCore_zero c) (outOf m d)
  go q d c s := match q with | 0 => tileHas_storable m d (Fin.cast nCore_zero c) (Fin.cast nSub_zero s) (m (oLoc d))
  td q d c s := match q with | 0 => tileHas_storable m d (Fin.cast nCore_zero c) (Fin.cast nSub_zero s) (outOf m d)

/-! ## The obligation -/

theorem defs₀_vector (c : Fin τ.nSC) (s : Fin τ.nSub) :
    defs₀ (F := F) (.scVector c s) 0 ()
      = SparseCore.onTile hcore0 hsub0 (fun c s => cc0_run (at2 c s) xM (Memref.isWhole_whole _) iM (Memref.isWhole_whole _) oM (Memref.isWhole_whole _)
          sM (Memref.isWhole_whole _) cc0_scoped1 rM (Memref.isWhole_whole _) cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d (Fin.cast nCore_zero c) (Fin.cast nSub_zero i) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show coreHas m d (Fin.cast nCore_zero c) (m (oLoc d)) ⊢ |={Set.univ}=> iprop(
      (bigSep Finset.univ fun i : Fin ((K (F := F)).nSub 0) => tileHas m d (Fin.cast nCore_zero c) (Fin.cast nSub_zero i) (m (oLoc d)))
      ∗ ((bigSep Finset.univ fun i : Fin ((K (F := F)).nSub 0) => tileHas m d (Fin.cast nCore_zero c) (Fin.cast nSub_zero i) (outOf m d))
          -∗ coreHas m d (Fin.cast nCore_zero c) (outOf m d)))
  rw [bigSep_tasks (F := F) (fun i => tileHas m d (Fin.cast nCore_zero c) i (m (oLoc d))), bigSep_tasks (F := F) (fun i => tileHas m d (Fin.cast nCore_zero c) i (outOf m d))]
  unfold coreHas
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(xWhole m d ∗ iWhole m d ∗ oWhole d (m (oLoc d))) :=
  (bigSep_cores (F := F) fun c => coreHas m d c (m (oLoc d))).trans (deal_cores m d _)
theorem dn0_eq (d : Dev nD) : (bigSep Finset.univ fun c : Fin ((K (F := F)).nCore 0) => (P m).dn 0 d c) = iprop(xWhole m d ∗ iWhole m d ∗ oWhole d (outOf m d)) :=
  (bigSep_cores (F := F) fun c => coreHas m d c (outOf m d)).trans (deal_cores m d _)

abbrev FIN (d : Dev nD) : sProp 𝕄 := iprop(xWhole m d ∗ iWhole m d ∗ oWhole d (outOf m d))

/-- @main on device `d`'s TensorCore: the one call, from the table, the list and the result; the three kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Ho⟩, Hts, -⟩, -⟩
  iapply ((K (F := F)).wp_run (D (F := F)) 𝒱 (EH := EH) (P := P m) κ d 0) $$ [Hst Hi Hx Ho Hb Hts]
  isplitr; · iexact Hctx
  isplitl [Hst]; · iexact Hst
  isplitl [Hi Hx Ho]
  · rw [st0_eq]
    isplitl [Hx]; · iexact Hx
    isplitl [Hi]; · iexact Hi
    iexact Ho
  iintro ⟨Hst, Hdn⟩
  ihave Hdn' := (Entails.of_eq (dn0_eq m d)) $$ Hdn
  imodintro
  isplitl [Hst]; · iexact Hst
  isplitr [Hb Hts]; · iexact Hdn'
  isplitl [Hb] <;> iassumption

def fq (d : Dev nD) (s' : Phys nD τ sig (Elt F)) : Prop :=
  s'.mem.mem (oLoc d) = outOf m d ∧ s'.mem.mem (xLoc d) = m (xLoc d) ∧ s'.mem.mem (iLoc d) = m (iLoc d)

set_option maxRecDepth 16384 in
theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := outOf m d)) $$ [HSI Ho]
  · isplitl [HSI] <;> iassumption
  icases H with %h3
  ipureintro; exact ⟨funext fun i => h3 i (Finset.mem_univ i), funext fun i => h2 i (Finset.mem_univ i), funext fun i => h1 i (Finset.mem_univ i)⟩

/-! ## The program's run -/

def QC : PUnit × MemSt nD τ sig (Elt F) → Prop := fun r =>
  (∀ c : Dev nD, r.2.mem (oLoc c) = outOf m c ∧ r.2.mem (xLoc c) = m (xLoc c) ∧ r.2.mem (iLoc c) = m (iLoc c)) ∧ r.2.sem = fun _ => 0

/-- The gather runs; its result is the gathered array, its arguments are unchanged, every semaphore is at zero. -/
theorem run_main [∀ e, Nonempty (Elt F e)] (hpre : PreOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Ref.lean ====
/-
  The reference's run: where the index list names rows of the table, its result is the gathered array.
-/
module

public import proofs.«01_k».proof.Proof.Values
public import Idealize.ShloMosaic.Lib.Routing.Ops
public import Idealize.ShloMosaic.Lib.ReduceAll
public import proofs.«01_k».proof.Proof.Gen.GatherRows
public import proofs.«01_k».proof.Proof.Gen.GatherRows.Run
public import proofs.«01_k».proof.Proof.Gen.GatherRowsIdeal
public import proofs.«01_k».proof.Proof.Gen.GatherRowsIdeal.Run

@[expose] public section

noncomputable section

namespace Cert.Proof.Ref

open Cert.GatherRowsIdeal Cert.GatherRowsIdeal.Gen Idealize.ShloMosaic Idealize.ShloMosaic.ValueIdx Idealize.ShloMosaic.Routing
open Idealize.SL.Sem

variable {F : FTy → Type} [FloatOps F]

/-! ## A word that names a row -/

theorem not_neg {v : BitVec 32} (h : v.toNat < 10008) : IntOp.cmpi .slt v 0#32 = 0#1 := by
  have : v.slt 0#32 = false := by
    rw [BitVec.slt_eq_decide, BitVec.toInt_eq_toNat_cond]; simp; omega
  simp [IntOp.cmpi, this]
theorem nonneg {v : BitVec 32} (h : v.toNat < 10008) : IntOp.cmpi .sge v 0#32 = 1#1 := by
  have : (0#32).sle v = true := by
    rw [BitVec.sle_eq_decide, BitVec.toInt_eq_toNat_cond, BitVec.toInt_eq_toNat_cond]; simp; omega
  simp [IntOp.cmpi, this]
theorem below {v : BitVec 32} (h : v.toNat < 10008) : IntOp.cmpi .sle v 10007#32 = 1#1 := by
  have : v.sle 10007#32 = true := by
    rw [BitVec.sle_eq_decide, BitVec.toInt_eq_toNat_cond, BitVec.toInt_eq_toNat_cond]; simp; omega
  simp [IntOp.cmpi, this]

/-! ## The list as a column, and the row numbers read from it -/

section Value
variable (T : S10008x128.Idx → Elt F .f32) (I : S1x323584.Idx → Elt F .i32)

/-- The list as a column. -/
abbrev col : S323584x1.Idx → BitVec 32 := broadcastInDim S323584x1 ![0] bcast_S323584_S323584x1_0 (shapeCast S323584 I shapeCasts_S1x323584_S323584)

/-- The row numbers: a negative word counts from the table's end. -/
abbrev rowNo : S323584x1.Idx → BitVec 32 :=
  select (cmpi .slt (col (F := F) I) (broadcastInDim S323584x1 ![] bcast_S_S323584x1 (constantI S_ 32 0#32)))
    (addi (col (F := F) I) (broadcastInDim S323584x1 ![] bcast_S_S323584x1 (constantI S_ 32 10008#32))) (col (F := F) I)

omit [FloatOps F] in
theorem col_apply (p : Fin 323584) (z : Fin 1) : col (F := F) I (ix2 p z) = I (ix2 (0 : Fin 1) p) := by
  refine Eq.trans ?_ (cast21 I shapeCasts_S1x323584_S323584 (0 : Fin 1) p p (by simp))
  show shapeCast S323584 I shapeCasts_S1x323584_S323584 _ = _
  congr 1
  funext (a : Fin 1)
  match a with
  | 0 => exact (dif_neg (show ¬ (323584 : ℕ) = 1 by decide)).trans rfl

omit [FloatOps F] in
theorem rowNo_apply (hI : ∀ x, (I x : BitVec 32).toNat < 10008) (p : Fin 323584) (z : Fin 1) : rowNo (F := F) I (ix2 p z) = I (ix2 (0 : Fin 1) p) := by
  have h : IntOp.cmpi .slt (col (F := F) I (ix2 p z)) 0#32 = 0#1 := by rw [col_apply]; exact not_neg (hI _)
  show (if IntOp.cmpi .slt (col (F := F) I (ix2 p z)) 0#32 = 1#1 then _ else col (F := F) I (ix2 p z)) = _
  rw [h, if_neg (by decide), col_apply]

/-- Which row numbers lie in the table. -/
abbrev inTable : S323584.Idx → BitVec 1 :=
  Host.reduce IntOp.andi
    (andi (cmpi .sge (rowNo (F := F) I) (broadcastInDim S323584x1 ![] bcast_S_S323584x1 (constantI S_ 32 0#32)))
      (cmpi .sle (rowNo (F := F) I) (broadcastInDim S323584x1 ![0, 1] bcast_S1x1_S323584x1_0_1 (broadcastInDim S1x1 ![1] bcast_S1_S1x1_1 (constantI S1 32 10007#32)))))
    (constantI S_ 1 1#1) reducesTo_S323584x1_S323584_d1 h_S_

omit [FloatOps F] in
theorem inTable_eq (hI : ∀ x, (I x : BitVec 32).toNat < 10008) (j : S323584.Idx) : inTable (F := F) I j = 1#1 := by
  refine Host.reduce_andi_one _ _ _ _ j rfl fun i => ?_
  obtain ⟨p, z, rfl⟩ : ∃ (p : Fin 323584) (z : Fin 1), i = ix2 p z := ⟨i 0, i 1, eq_ix2 i⟩
  show IntOp.andi (IntOp.cmpi .sge (rowNo (F := F) I (ix2 p z)) 0#32) (IntOp.cmpi .sle (rowNo (F := F) I (ix2 p z)) 10007#32) = 1#1
  rw [rowNo_apply I hI, nonneg (hI _), below (hI _)]; rfl

/-- The reference's result, from the table and the list. -/
abbrev result : S323584x128.Idx → Elt F .f32 :=
  select (broadcastInDim S323584x128 ![0] bcast_S323584_S323584x128_0 (inTable (F := F) I))
    (Host.gather gather_S10008x128_S323584x1_S323584x128_1_0_n_n_0_1_1128 T (rowNo (F := F) I))
    (broadcastInDim S323584x128 ![] bcast_S_S323584x128 (constant S_ .f32 0x7FC00000#32))

theorem result_eq (hI : ∀ x, (I x : BitVec 32).toNat < 10008) : result T I = Cert.Proof.Gather.gathered (F := F) T I := by
  funext y
  obtain ⟨p, u, rfl⟩ : ∃ (p : Fin 323584) (u : Fin 128), y = ix2 p u := ⟨y 0, y 1, eq_ix2 y⟩
  have hall := inTable_eq I hI
  unfold result
  generalize inTable (F := F) I = r at hall
  refine (if_pos (hall _)).trans ?_
  have hlt := hI (ix2 (0 : Fin 1) p)
  refine (gather_row _ rfl rfl rfl rfl rfl T (rowNo (F := F) I) p u ⟨(I (ix2 (0 : Fin 1) p) : BitVec 32).toNat, hlt⟩ ?_ (by decide)).trans ?_
  · rw [rowNo_apply I hI]; exact ((BitVec.ofNat_toNat 32 _).trans (BitVec.setWidth_eq _)).symm
  · show _ = T (fun | 0 => Fin.ofNat 10008 (I (fun | 0 => (0 : Fin 1) | 1 => p)).toNat | 1 => u)
    have hi : (fun | 0 => (0 : Fin 1) | 1 => p : S1x323584.Idx) = ix2 (0 : Fin 1) p := funext fun (a : Fin 2) => by match a with | 0 => rfl | 1 => rfl
    rw [hi]
    refine congrArg T (funext fun (a : Fin 2) => ?_)
    match a with
    | 0 => exact Fin.ext (Nat.mod_eq_of_lt hlt).symm
    | 1 => rfl

end Value

end Cert.Proof.Ref

end
-- ==== Proof.Claims.lean ====
/-
  The certificate's claims, from the kernel's run and the reference's.
-/
module

public import proofs.«01_k».proof.Defs
public import proofs.«01_k».proof.Proof.Launch
public import proofs.«01_k».proof.Proof.Ref
public import proofs.«01_k».proof.Proof.Gen.Gather
public import proofs.«01_k».proof.Proof.Gen.Pre_names_rows

@[expose] public section

noncomputable section

namespace Cert.Proof.Claims

open Idealize.ShloMosaic Idealize.ShloMosaic.TcCoe Idealize.SL.Sem
open Cert.Proof.Gather

/-! ## The precondition, word by word -/

/-- The precondition, read at one word of the list. -/
theorem toNat_lt {F : FTy → Type} [FloatOps F] (T : Cert.GatherIdeal.S10008x128.Idx → Elt F .f32) (I : Cert.GatherIdeal.S1x323584.Idx → Elt F .i32)
    (h : Cert.Pre_names_rows.fn T I = fun _ => 1#1) (x : Cert.GatherIdeal.S1x323584.Idx) : (I x : BitVec 32).toNat < 10008 := by
  have andi_ofBool (p q : Bool) : IntOp.andi (BitVec.ofBool p) (BitVec.ofBool q) = BitVec.ofBool (p && q) := by cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 10008#32) = 1#1 → v.toNat < 10008 := by
    intro v e
    simp only [IntOp.cmpi, andi_ofBool, ofBool_eq_one, Bool.and_eq_true, BitVec.sle_eq_decide, BitVec.slt_eq_decide, decide_eq_true_eq,
      BitVec.toInt_eq_toNat_cond, BitVec.toNat_ofNat, Nat.reducePow, Nat.reduceMod] at e
    omega
  have e := congrFun h x
  simp only [Cert.Pre_names_rows.fn, andi, cmpi, broadcastInDim, constantI] at e
  exact key _ e

theorem ok_gather (m : (ℓ : Loc Cert.Gather.nD Cert.Gather.τ Cert.Gather.sig) → Buf (Elt Bits) ℓ) (h : Cert.Pre_Gather m) : PreOK (F := Bits) m :=
  fun d x => toNat_lt _ _ (h d) x
theorem ok_ideal (m : (ℓ : Loc Cert.GatherIdeal.nD Cert.GatherIdeal.τ Cert.GatherIdeal.sig) → Buf (Elt Ideal) ℓ) (h : Cert.Pre_GatherIdeal m) : PreOK m :=
  fun d x => toNat_lt _ _ (h d) x

/-! ## The frames -/

theorem frame_gather : Cert.quiescent_Gather := fun m ρ h =>
  (θ_run Cert.GatherIdeal.defs _ _).mono (fun _ h => ⟨fun c => (h.1 c).2, h.2⟩) (run_main (F := Bits) m ρ (ok_gather m h))
theorem frame_ideal : Cert.quiescent_GatherIdeal := fun m ρ h =>
  (θ_run Cert.GatherIdeal.defs _ _).mono (fun _ h => ⟨fun c => (h.1 c).2, h.2⟩) (run_main m ρ (ok_ideal m h))
theorem frame_rows : Cert.quiescent_GatherRows := fun m ρ _ =>
  (θ_run Cert.GatherRows.defs _ _).mono (fun r h => ⟨fun c => (h c).2, sem_eq_zero_of_no_sems (by decide) r.2⟩) (Cert.GatherRows.Value.run (F := Bits) m ρ)
theorem frame_rowsIdeal : Cert.quiescent_GatherRowsIdeal := fun m ρ _ =>
  (θ_run Cert.GatherRowsIdeal.defs _ _).mono (fun r h => ⟨fun c => (h c).2, sem_eq_zero_of_no_sems (by decide) r.2⟩)
    (Cert.GatherRowsIdeal.Value.run (F := Ideal) m ρ)

/-! ## The values -/

/-- Of the words themselves: the kernel's result and the reference's are the gathered array. -/
theorem bitexact : Cert.bitexact_Gather_GatherRows := by
  intro m ρ m' ρ' h hagree
  refine ⟨outOf (F := Bits) m,
    (θ_run Cert.GatherIdeal.defs _ _).mono (fun _ h => h.1) (run_main (F := Bits) m ρ (ok_gather m h)),
    (θ_run Cert.GatherRows.defs _ _).mono (fun r hr c => ⟨(hr c).1.trans ?_, (hr c).2⟩) (Cert.GatherRows.Value.run (F := Bits) m' ρ')⟩
  rw [(hagree c).1, (hagree c).2]
  exact Ref.result_eq (F := Bits) _ _ (ok_gather m h c)

/-- The same at the ideal instance. -/
theorem algebraic : Cert.algebraic_GatherIdeal_GatherRowsIdeal := by
  intro m ρ m' ρ' h hagree
  refine ⟨outOf m,
    (θ_run Cert.GatherIdeal.defs _ _).mono (fun _ h => h.1) (run_main m ρ (ok_ideal m h)),
    (θ_run Cert.GatherRowsIdeal.defs _ _).mono (fun r hr c => ⟨(hr c).1.trans ?_, (hr c).2⟩) (Cert.GatherRowsIdeal.Value.run (F := Ideal) m' ρ')⟩
  rw [(hagree c).1, (hagree c).2]
  exact Ref.result_eq (F := Ideal) _ _ (ok_ideal m h c)

end Cert.Proof.Claims

end
-- ==== Proof.AsyncWords.lean ====
/-
  The words of the SparseCore call of the whole kernel, in closed form.

  The call moves the same blocks as the pipelined gather: tile `s` of SparseCore `c` has blocks `base c s, …, base c s + 78`
  of 128 rows. Its loop is written by hand, and its trip `k` works on three blocks at once: it waits for the gather of block
  `k - 2`, starts that block's copy out and the fetch of index block `k + 2`; it waits for the copy out of block `k - 3`; and
  it waits for index block `k` and starts its gather. Index block `p` lives in slot `p % 4`, row block `p` in slot `p % 3`.
-/
module

public import proofs.«01_k».proof.Defs
public import proofs.«01_k».proof.Proof.Gen.KernelIdeal
public import Idealize.ShloMosaic.Lib.Ring.Trips
public import Idealize.ShloMosaic.Lib.Ring.WriteBehind

@[expose] public section

namespace Cert.Proof.AsyncWords

open Idealize.ShloMosaic Cert.KernelIdeal Cert.KernelIdeal.Gen

/-- The grid point of tile `s` of SparseCore `c`. -/
def at2 (c : Fin 2) (s : Fin 16) : grid1.Coords := fun | 0 => c | 1 => s | ⟨_ + 2, h⟩ => absurd h (Nat.not_lt.2 (Nat.le_add_left _ _))

/-- The tile's first block. -/
def base (c : Fin 2) (s : Fin 16) : ℕ := 79 * (16 * c.val + s.val)

theorem base_le (c : Fin 2) (s : Fin 16) : base c s + 79 ≤ 2528 := by
  have := c.isLt; have := s.isLt; unfold base; omega

theorem trips_eq : k1_t1_loop.trips = 79 := by decide +kernel
theorem lt79 (k : Fin k1_t1_loop.trips) : k.val < 79 := Nat.lt_of_lt_of_eq k.isLt trips_eq

/-! ### The conditions -/

theorem cond1_iff : ∀ k : Fin k1_t1_loop.trips, k1_cond1 k = 1#1 ↔ 2 ≤ k.val := by decide +kernel
theorem cond2_iff : ∀ k : Fin k1_t1_loop.trips, k1_cond2 k = 1#1 ↔ k.val + 2 < 79 := by decide +kernel
theorem cond3_iff : ∀ k : Fin k1_t1_loop.trips, k1_cond3 k = 1#1 ↔ 3 ≤ k.val := by decide +kernel

/-! ### The offsets -/

theorem off2_eq : ∀ k : Fin k1_t1_loop.trips, 2 ≤ k.val → k1_off2 k = ![(Ring.sl 3 (k.val + 1)).val, 0, 0] := by decide +kernel
theorem off4_eq : ∀ k : Fin k1_t1_loop.trips, 2 ≤ k.val → k1_off4 k = ![(Ring.sl 4 (k.val + 2)).val] := by decide +kernel
theorem off5_eq : ∀ (c : Fin 2) (s : Fin 16) (k : Fin k1_t1_loop.trips), 2 ≤ k.val → k1_off5 (at2 c s) k = ![128 * (base c s + (k.val - 2)), 0] := by decide +kernel
theorem off6_eq : ∀ k : Fin k1_t1_loop.trips, 2 ≤ k.val → k1_off6 k = ![(Ring.sl 3 (k.val + 1)).val] := by decide +kernel
theorem off7_eq : ∀ k : Fin k1_t1_loop.trips, k1_off7 k = ![(Ring.sl 4 (k.val + 2)).val, 0, 0] := by decide +kernel
theorem off8_eq : ∀ (c : Fin 2) (s : Fin 16) (k : Fin k1_t1_loop.trips), k1_off8 (at2 c s) k = ![0, 128 * (base c s + (k.val + 2))] := by decide +kernel
theorem off9_eq : ∀ k : Fin k1_t1_loop.trips, k1_off9 k = ![(Ring.sl 4 (k.val + 2)).val] := by decide +kernel
theorem off10_eq : ∀ k : Fin k1_t1_loop.trips, 3 ≤ k.val → k1_off10 k = ![(Ring.sl 3 k.val).val, 0, 0] := by decide +kernel
theorem off11_eq : ∀ (c : Fin 2) (s : Fin 16) (k : Fin k1_t1_loop.trips), 3 ≤ k.val → k1_off11 (at2 c s) k = ![128 * (base c s + (k.val - 3)), 0] := by decide +kernel
theorem off12_eq : ∀ k : Fin k1_t1_loop.trips, 3 ≤ k.val → k1_off12 k = ![(Ring.sl 3 k.val).val] := by decide +kernel
theorem off13_eq : ∀ k : Fin k1_t1_loop.trips, k1_off13 k = ![(Ring.sl 4 k.val).val, 0, 0] := by decide +kernel
theorem off14_eq : ∀ (c : Fin 2) (s : Fin 16) (k : Fin k1_t1_loop.trips), k1_off14 (at2 c s) k = ![0, 128 * (base c s + k.val)] := by decide +kernel
theorem off15_eq : ∀ k : Fin k1_t1_loop.trips, k1_off15 k = ![(Ring.sl 4 k.val).val] := by decide +kernel
theorem off16_eq : ∀ k : Fin k1_t1_loop.trips, k1_off16 k = ![(Ring.sl 3 k.val).val, 0, 0] := by decide +kernel
/-- Before the loop: the first four index fetches. -/
theorem off1_eq : ∀ (c : Fin 2) (s : Fin 16) (r : Fin 4), k1_off1 (at2 c s) (BitVec.ofNat 32 r.val) = ![0, 128 * (base c s + r.val)] := by decide +kernel
/-- After it: the last three copies out. -/
theorem off17_eq : ∀ (c : Fin 2) (s : Fin 16) (r : Fin 3), k1_off17 (at2 c s) (BitVec.ofNat 32 (76 + r.val)) = ![128 * (base c s + (76 + r.val)), 0] := by decide +kernel

end Cert.Proof.AsyncWords
-- ==== Proof.AsyncNames.lean ====
/-
  The whole kernel's program as its launch sees it, and the names of the pieces its SparseCore call moves.
-/
module

public import proofs.«01_k».proof.Defs
public import proofs.«01_k».proof.Proof.AsyncWords
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.VecWindow
public import proofs.«01_k».proof.Proof.Gen.KernelIdeal
public import proofs.«01_k».proof.Proof.Gen.KernelIdeal.Skeleton

@[expose] public section

noncomputable section

namespace Cert.Proof.Whole

open Cert.KernelIdeal Cert.KernelIdeal.Gen Cert.Proof.AsyncWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it, and the resource algebra -/

abbrev ΛP [FloatOps F] [Named F] : Labels := Pipeline.Sig Λ₀ (Fin 2) fun p => (pcfgs (F := F) p).Adm
abbrev K [FloatOps F] [Named F] : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds; the TensorCore pipelines' rounds, and the transfers' counters. -/
abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) :=
  (Emb.inl : Emb (UR sig nD τ) (UR sig nD τ × Counters)).trans (embR : Emb (UR sig nD τ × Counters) (MT nD τ sig (HIx 1) (Elt F) ℕ UU ℕ))

/-- The SparseCore call's three arrays: the table, the list, the gathered rows. -/
abbrev xLoc (d : Dev nD) : Loc nD τ sig := (SparseCore.T d).loc main_v2
abbrev iLoc (d : Dev nD) : Loc nD τ sig := (SparseCore.T d).loc main_v17
abbrev oLoc (d : Dev nD) : Loc nD τ sig := (SparseCore.T d).loc main_v18

/-! ## The pieces' names -/

abbrev xM : Memref sig .scVector .hbm S10008x128 .f32 := Memref.whole main_v2_scv
abbrev iM : Memref sig .scVector .hbm S1x323584 .i32 := Memref.whole main_v17_scv
abbrev oM : Memref sig .scVector .hbm S323584x128 .f32 := Memref.whole main_v18_scv
abbrev sM : Memref sig .scVector .vmem S4x1x128 .i32 := Memref.whole cc1_scratch0
abbrev rM : Memref sig .scVector .vmem S3x128x128 .f32 := Memref.whole cc1_scratch1

/-- Block `k` of the tile, among the 2528. -/
def blk (c : Fin 2) (s : Fin 16) (k : Fin 79) : Fin 2528 := ⟨base c s + k.val, by have := base_le c s; omega⟩

theorem inb_i (b : Fin 2528) : ∀ a, (![0, 128 * b.val] : Fin 2 → ℕ) a + S1x128.size a ≤ S1x323584.size a := by
  have := b.isLt; intro a; fin_cases a <;> simp <;> omega
theorem inb_o (b : Fin 2528) : ∀ a, (![128 * b.val, 0] : Fin 2 → ℕ) a + S128x128.size a ≤ S323584x128.size a := by
  have := b.isLt; intro a; fin_cases a <;> simp <;> omega
theorem inb_s (j : Fin 4) : ∀ a, (![j.val, 0, 0] : Fin 3 → ℕ) a + S1x1x128.size a ≤ S4x1x128.size a := by
  have := j.isLt; intro a; fin_cases a <;> simp <;> omega
theorem inb_r (j : Fin 3) : ∀ a, (![j.val, 0, 0] : Fin 3 → ℕ) a + S1x128x128.size a ≤ S3x128x128.size a := by
  have := j.isLt; intro a; fin_cases a <;> simp <;> omega
theorem inb_c4 (j : Fin 4) : ∀ a, (![j.val] : Fin 1 → ℕ) a + S1.size a ≤ S4.size a := by
  have := j.isLt; intro a; fin_cases a; simp
theorem inb_c3 (j : Fin 3) : ∀ a, (![j.val] : Fin 1 → ℕ) a + S1.size a ≤ S3.size a := by
  have := j.isLt; intro a; fin_cases a; simp

/-- Block `b` of the index list; of the result. -/
def iBlk (b : Fin 2528) : Memref sig .scVector .hbm S1x128 .i32 := iM.slice (Rect.unit (s := S1x323584) ![0, 128 * b.val] S1x128.size (inb_i b)) (fun _ => rfl)
def oBlk (b : Fin 2528) : Memref sig .scVector .hbm S128x128 .f32 := oM.slice (Rect.unit (s := S323584x128) ![128 * b.val, 0] S128x128.size (inb_o b)) (fun _ => rfl)
/-- Index slot `j`; row slot `j`; the index slot as the gather's list. -/
def sSlot (j : Fin 4) : Memref sig .scVector .vmem S1x128 .i32 :=
  (sM.slice (Rect.unit (s := S4x1x128) ![j.val, 0, 0] S1x1x128.size (inb_s j)) (fun _ => rfl)).squeeze S1x128 squeezes_S1x1x128_S1x128
def rSlot (j : Fin 3) : Memref sig .scVector .vmem S128x128 .f32 :=
  (rM.slice (Rect.unit (s := S3x128x128) ![j.val, 0, 0] S1x128x128.size (inb_r j)) (fun _ => rfl)).squeeze S128x128 squeezes_S1x128x128_S128x128
def lSlot (j : Fin 4) : Memref sig .scVector .vmem S128 .i32 :=
  (sM.slice (Rect.unit (s := S4x1x128) ![j.val, 0, 0] S1x1x128.size (inb_s j)) (fun _ => rfl)).squeeze S128 squeezes_S1x1x128_S128
/-- The table as the gather's source. -/
def xAll : Memref sig .scVector .hbm S10008x128 .f32 := xM.slice (Rect.unit (s := S10008x128) ![0, 0] S10008x128.size inb_S10008x128_S10008x128_0_0) (fun _ => rfl)
/-- The cells of the fetch into index slot `j`, of the gather from it, and of the copy out of row slot `j`. -/
def sCell (j : Fin 4) : DmaSems sig S_ := (cc1_scratch2.slice (Rect.unit (s := S4) ![j.val] S1.size (inb_c4 j))).squeeze S_ squeezes_S1_S_
def gCell (j : Fin 4) : DmaSems sig S_ := (cc1_scratch3.slice (Rect.unit (s := S4) ![j.val] S1.size (inb_c4 j))).squeeze S_ squeezes_S1_S_
def rCell (j : Fin 3) : DmaSems sig S_ := (cc1_scratch4.slice (Rect.unit (s := S3) ![j.val] S1.size (inb_c3 j))).squeeze S_ squeezes_S1_S_

/-! ## The body's slices are these -/

section Canon

theorem iBlk_congr {off : Fin 2 → ℕ} {b : Fin 2528} (e : off = ![0, 128 * b.val]) (hh hs) :
    iM.slice (Rect.unit (s := S1x323584) off S1x128.size hh) hs = iBlk b := Memref.slice_unit_congr _ e _ _ _ (fun _ => rfl)
theorem oBlk_congr {off : Fin 2 → ℕ} {b : Fin 2528} (e : off = ![128 * b.val, 0]) (hh hs) :
    oM.slice (Rect.unit (s := S323584x128) off S128x128.size hh) hs = oBlk b := Memref.slice_unit_congr _ e _ _ _ (fun _ => rfl)
theorem sSlot_congr {off : Fin 3 → ℕ} {j : Fin 4} (e : off = ![j.val, 0, 0]) (hh hs) :
    (sM.slice (Rect.unit (s := S4x1x128) off S1x1x128.size hh) hs).squeeze S1x128 squeezes_S1x1x128_S1x128 = sSlot j :=
  congrArg (fun M : Memref sig .scVector .vmem S1x1x128 .i32 => M.squeeze S1x128 squeezes_S1x1x128_S1x128) (Memref.slice_unit_congr _ e _ _ _ _)
theorem lSlot_congr {off : Fin 3 → ℕ} {j : Fin 4} (e : off = ![j.val, 0, 0]) (hh hs) :
    (sM.slice (Rect.unit (s := S4x1x128) off S1x1x128.size hh) hs).squeeze S128 squeezes_S1x1x128_S128 = lSlot j :=
  congrArg (fun M : Memref sig .scVector .vmem S1x1x128 .i32 => M.squeeze S128 squeezes_S1x1x128_S128) (Memref.slice_unit_congr _ e _ _ _ _)
theorem rSlot_congr {off : Fin 3 → ℕ} {j : Fin 3} (e : off = ![j.val, 0, 0]) (hh hs) :
    (rM.slice (Rect.unit (s := S3x128x128) off S1x128x128.size hh) hs).squeeze S128x128 squeezes_S1x128x128_S128x128 = rSlot j :=
  congrArg (fun M : Memref sig .scVector .vmem S1x128x128 .f32 => M.squeeze S128x128 squeezes_S1x128x128_S128x128) (Memref.slice_unit_congr _ e _ _ _ _)
theorem sCell_congr {off : Fin 1 → ℕ} {j : Fin 4} (e : off = ![j.val]) (hh) :
    (cc1_scratch2.slice (Rect.unit (s := S4) off S1.size hh)).squeeze S_ squeezes_S1_S_ = sCell j :=
  congrArg (fun A : DmaSems sig S1 => A.squeeze S_ squeezes_S1_S_) (SemArray.slice_unit_congr _ e _ _)
theorem gCell_congr {off : Fin 1 → ℕ} {j : Fin 4} (e : off = ![j.val]) (hh) :
    (cc1_scratch3.slice (Rect.unit (s := S4) off S1.size hh)).squeeze S_ squeezes_S1_S_ = gCell j :=
  congrArg (fun A : DmaSems sig S1 => A.squeeze S_ squeezes_S1_S_) (SemArray.slice_unit_congr _ e _ _)
theorem rCell_congr {off : Fin 1 → ℕ} {j : Fin 3} (e : off = ![j.val]) (hh) :
    (cc1_scratch4.slice (Rect.unit (s := S3) off S1.size hh)).squeeze S_ squeezes_S1_S_ = rCell j :=
  congrArg (fun A : DmaSems sig S1 => A.squeeze S_ squeezes_S1_S_) (SemArray.slice_unit_congr _ e _ _)

/-- Block `p` of the tile, `p` a trip's number. -/
abbrev bkN (c : Fin 2) (s : Fin 16) (p : ℕ) : Fin 2528 := blk c s (Ring.bk 79 p)
theorem bkN_val (c : Fin 2) (s : Fin 16) {p : ℕ} (h : p < 79) : (bkN c s p).val = base c s + p := by
  show base c s + (Ring.bk 79 p).val = _; rw [Ring.bk_val h]

variable (c : Fin 2) (s : Fin 16) (k : Fin k1_t1_loop.trips)

@[sl_canon] theorem canon2 (h : 2 ≤ k.val) (hh hs) :
    (rM.slice (Rect.unit (s := S3x128x128) (k1_off2 k) S1x128x128.size hh) hs).squeeze S128x128 squeezes_S1x128x128_S128x128 = rSlot (Ring.sl 3 (k.val + 1)) :=
  rSlot_congr (off2_eq k h) _ _
@[sl_canon] theorem canon4 (h : 2 ≤ k.val) (hh) :
    (cc1_scratch3.slice (Rect.unit (s := S4) (k1_off4 k) S1.size hh)).squeeze S_ squeezes_S1_S_ = gCell (Ring.sl 4 (k.val + 2)) :=
  gCell_congr (off4_eq k h) _
@[sl_canon] theorem canon5 (h : 2 ≤ k.val) (hh hs) :
    oM.slice (Rect.unit (s := S323584x128) (k1_off5 (at2 c s) k) S128x128.size hh) hs = oBlk (bkN c s (k.val - 2)) :=
  oBlk_congr ((off5_eq c s k h).trans (by rw [bkN_val c s (by have := lt79 k; omega)])) _ _
@[sl_canon] theorem canon6 (h : 2 ≤ k.val) (hh) :
    (cc1_scratch4.slice (Rect.unit (s := S3) (k1_off6 k) S1.size hh)).squeeze S_ squeezes_S1_S_ = rCell (Ring.sl 3 (k.val + 1)) :=
  rCell_congr (off6_eq k h) _
@[sl_canon] theorem canon7 (hh hs) :
    (sM.slice (Rect.unit (s := S4x1x128) (k1_off7 k) S1x1x128.size hh) hs).squeeze S1x128 squeezes_S1x1x128_S1x128 = sSlot (Ring.sl 4 (k.val + 2)) :=
  sSlot_congr (off7_eq k) _ _
@[sl_canon] theorem canon8 (h : k.val + 2 < 79) (hh hs) :
    iM.slice (Rect.unit (s := S1x323584) (k1_off8 (at2 c s) k) S1x128.size hh) hs = iBlk (bkN c s (k.val + 2)) :=
  iBlk_congr ((off8_eq c s k).trans (by rw [bkN_val c s h])) _ _
@[sl_canon] theorem canon9 (hh) :
    (cc1_scratch2.slice (Rect.unit (s := S4) (k1_off9 k) S1.size hh)).squeeze S_ squeezes_S1_S_ = sCell (Ring.sl 4 (k.val + 2)) :=
  sCell_congr (off9_eq k) _
@[sl_canon] theorem canon10 (h : 3 ≤ k.val) (hh hs) :
    (rM.slice (Rect.unit (s := S3x128x128) (k1_off10 k) S1x128x128.size hh) hs).squeeze S128x128 squeezes_S1x128x128_S128x128 = rSlot (Ring.sl 3 k.val) :=
  rSlot_congr (off10_eq k h) _ _
@[sl_canon] theorem canon11 (h : 3 ≤ k.val) (hh hs) :
    oM.slice (Rect.unit (s := S323584x128) (k1_off11 (at2 c s) k) S128x128.size hh) hs = oBlk (bkN c s (k.val - 3)) :=
  oBlk_congr ((off11_eq c s k h).trans (by rw [bkN_val c s (by have := lt79 k; omega)])) _ _
@[sl_canon] theorem canon12 (h : 3 ≤ k.val) (hh) :
    (cc1_scratch4.slice (Rect.unit (s := S3) (k1_off12 k) S1.size hh)).squeeze S_ squeezes_S1_S_ = rCell (Ring.sl 3 k.val) :=
  rCell_congr (off12_eq k h) _
@[sl_canon] theorem canon13 (hh hs) :
    (sM.slice (Rect.unit (s := S4x1x128) (k1_off13 k) S1x1x128.size hh) hs).squeeze S1x128 squeezes_S1x1x128_S1x128 = sSlot (Ring.sl 4 k.val) :=
  sSlot_congr (off13_eq k) _ _
@[sl_canon] theorem canonL (hh hs) :
    (sM.slice (Rect.unit (s := S4x1x128) (k1_off13 k) S1x1x128.size hh) hs).squeeze S128 squeezes_S1x1x128_S128 = lSlot (Ring.sl 4 k.val) :=
  lSlot_congr (off13_eq k) _ _
@[sl_canon] theorem canon14 (hh hs) :
    iM.slice (Rect.unit (s := S1x323584) (k1_off14 (at2 c s) k) S1x128.size hh) hs = iBlk (bkN c s k.val) :=
  iBlk_congr ((off14_eq c s k).trans (by rw [bkN_val c s (lt79 k)])) _ _
@[sl_canon] theorem canon15s (hh) :
    (cc1_scratch2.slice (Rect.unit (s := S4) (k1_off15 k) S1.size hh)).squeeze S_ squeezes_S1_S_ = sCell (Ring.sl 4 k.val) :=
  sCell_congr (off15_eq k) _
@[sl_canon] theorem canon15g (hh) :
    (cc1_scratch3.slice (Rect.unit (s := S4) (k1_off15 k) S1.size hh)).squeeze S_ squeezes_S1_S_ = gCell (Ring.sl 4 k.val) :=
  gCell_congr (off15_eq k) _
@[sl_canon] theorem canon16 (hh hs) :
    (rM.slice (Rect.unit (s := S3x128x128) (k1_off16 k) S1x128x128.size hh) hs).squeeze S128x128 squeezes_S1x128x128_S128x128 = rSlot (Ring.sl 3 k.val) :=
  rSlot_congr (off16_eq k) _ _
/-- The table. -/
@[sl_canon] theorem canonX (hh hs) :
    xM.slice (Rect.unit (s := S10008x128) ![0, 0] S10008x128.size hh) hs = xAll := Eq.trans (by rfl) rfl
/-- Before the loop: the four index slots, their blocks and their cells. -/
@[sl_canon] theorem canon1_0 (hh hs) : iM.slice (Rect.unit (s := S1x323584) (k1_off1 (at2 c s) 0#32) S1x128.size hh) hs = iBlk (bkN c s 0) :=
  iBlk_congr ((off1_eq c s 0).trans (by rw [bkN_val c s (by decide)]; rfl)) _ _
@[sl_canon] theorem canon1_1 (hh hs) : iM.slice (Rect.unit (s := S1x323584) (k1_off1 (at2 c s) 1#32) S1x128.size hh) hs = iBlk (bkN c s 1) :=
  iBlk_congr ((off1_eq c s 1).trans (by rw [bkN_val c s (by decide)]; rfl)) _ _
@[sl_canon] theorem canon1_2 (hh hs) : iM.slice (Rect.unit (s := S1x323584) (k1_off1 (at2 c s) 2#32) S1x128.size hh) hs = iBlk (bkN c s 2) :=
  iBlk_congr ((off1_eq c s 2).trans (by rw [bkN_val c s (by decide)]; rfl)) _ _
@[sl_canon] theorem canon1_3 (hh hs) : iM.slice (Rect.unit (s := S1x323584) (k1_off1 (at2 c s) 3#32) S1x128.size hh) hs = iBlk (bkN c s 3) :=
  iBlk_congr ((off1_eq c s 3).trans (by rw [bkN_val c s (by decide)]; rfl)) _ _
@[sl_canon] theorem canon_s0 (hh hs) : (sM.slice (Rect.unit (s := S4x1x128) ![0, 0, 0] S1x1x128.size hh) hs).squeeze S1x128 squeezes_S1x1x128_S1x128 = sSlot 0 := sSlot_congr (j := (0 : Fin 4)) rfl _ _
@[sl_canon] theorem canon_s1 (hh hs) : (sM.slice (Rect.unit (s := S4x1x128) ![1, 0, 0] S1x1x128.size hh) hs).squeeze S1x128 squeezes_S1x1x128_S1x128 = sSlot 1 := sSlot_congr (j := (1 : Fin 4)) rfl _ _
@[sl_canon] theorem canon_s2 (hh hs) : (sM.slice (Rect.unit (s := S4x1x128) ![2, 0, 0] S1x1x128.size hh) hs).squeeze S1x128 squeezes_S1x1x128_S1x128 = sSlot 2 := sSlot_congr (j := (2 : Fin 4)) rfl _ _
@[sl_canon] theorem canon_s3 (hh hs) : (sM.slice (Rect.unit (s := S4x1x128) ![3, 0, 0] S1x1x128.size hh) hs).squeeze S1x128 squeezes_S1x1x128_S1x128 = sSlot 3 := sSlot_congr (j := (3 : Fin 4)) rfl _ _
@[sl_canon] theorem canon_c0 (hh) : (cc1_scratch2.slice (Rect.unit (s := S4) ![0] S1.size hh)).squeeze S_ squeezes_S1_S_ = sCell 0 := sCell_congr (j := (0 : Fin 4)) rfl _
@[sl_canon] theorem canon_c1 (hh) : (cc1_scratch2.slice (Rect.unit (s := S4) ![1] S1.size hh)).squeeze S_ squeezes_S1_S_ = sCell 1 := sCell_congr (j := (1 : Fin 4)) rfl _
@[sl_canon] theorem canon_c2 (hh) : (cc1_scratch2.slice (Rect.unit (s := S4) ![2] S1.size hh)).squeeze S_ squeezes_S1_S_ = sCell 2 := sCell_congr (j := (2 : Fin 4)) rfl _
@[sl_canon] theorem canon_c3 (hh) : (cc1_scratch2.slice (Rect.unit (s := S4) ![3] S1.size hh)).squeeze S_ squeezes_S1_S_ = sCell 3 := sCell_congr (j := (3 : Fin 4)) rfl _
/-- After it: the last gathers' cells, the row slots and the blocks of the last three copies out. -/
@[sl_canon] theorem canon_g1 (hh) : (cc1_scratch3.slice (Rect.unit (s := S4) ![1] S1.size hh)).squeeze S_ squeezes_S1_S_ = gCell 1 := gCell_congr (j := (1 : Fin 4)) rfl _
@[sl_canon] theorem canon_g2 (hh) : (cc1_scratch3.slice (Rect.unit (s := S4) ![2] S1.size hh)).squeeze S_ squeezes_S1_S_ = gCell 2 := gCell_congr (j := (2 : Fin 4)) rfl _
@[sl_canon] theorem canon_r0 (hh hs) : (rM.slice (Rect.unit (s := S3x128x128) ![0, 0, 0] S1x128x128.size hh) hs).squeeze S128x128 squeezes_S1x128x128_S128x128 = rSlot 0 := rSlot_congr (j := (0 : Fin 3)) rfl _ _
@[sl_canon] theorem canon_r1 (hh hs) : (rM.slice (Rect.unit (s := S3x128x128) ![1, 0, 0] S1x128x128.size hh) hs).squeeze S128x128 squeezes_S1x128x128_S128x128 = rSlot 1 := rSlot_congr (j := (1 : Fin 3)) rfl _ _
@[sl_canon] theorem canon_r2 (hh hs) : (rM.slice (Rect.unit (s := S3x128x128) ![2, 0, 0] S1x128x128.size hh) hs).squeeze S128x128 squeezes_S1x128x128_S128x128 = rSlot 2 := rSlot_congr (j := (2 : Fin 3)) rfl _ _
@[sl_canon] theorem canon_d0 (hh) : (cc1_scratch4.slice (Rect.unit (s := S3) ![0] S1.size hh)).squeeze S_ squeezes_S1_S_ = rCell 0 := rCell_congr (j := (0 : Fin 3)) rfl _
@[sl_canon] theorem canon_d1 (hh) : (cc1_scratch4.slice (Rect.unit (s := S3) ![1] S1.size hh)).squeeze S_ squeezes_S1_S_ = rCell 1 := rCell_congr (j := (1 : Fin 3)) rfl _
@[sl_canon] theorem canon_d2 (hh) : (cc1_scratch4.slice (Rect.unit (s := S3) ![2] S1.size hh)).squeeze S_ squeezes_S1_S_ = rCell 2 := rCell_congr (j := (2 : Fin 3)) rfl _
@[sl_canon] theorem canon17_0 (hh hs) : oM.slice (Rect.unit (s := S323584x128) (k1_off17 (at2 c s) 76#32) S128x128.size hh) hs = oBlk (bkN c s 76) :=
  oBlk_congr ((off17_eq c s 0).trans (by rw [bkN_val c s (by decide)]; rfl)) _ _
@[sl_canon] theorem canon17_1 (hh hs) : oM.slice (Rect.unit (s := S323584x128) (k1_off17 (at2 c s) 77#32) S128x128.size hh) hs = oBlk (bkN c s 77) :=
  oBlk_congr ((off17_eq c s 1).trans (by rw [bkN_val c s (by decide)]; rfl)) _ _
@[sl_canon] theorem canon17_2 (hh hs) : oM.slice (Rect.unit (s := S323584x128) (k1_off17 (at2 c s) 78#32) S128x128.size hh) hs = oBlk (bkN c s 78) :=
  oBlk_congr ((off17_eq c s 2).trans (by rw [bkN_val c s (by decide)]; rfl)) _ _

end Canon

end Cert.Proof.Whole

end
-- ==== Proof.AsyncValues.lean ====
/-
  The pieces a tile of the whole kernel's SparseCore call holds, and what they hold: a block of the index list fetched
  into a slot is the list the gather reads, and the rows it brings are the same block of the gathered array.
-/
module

public import proofs.«01_k».proof.Proof.AsyncNames
public import Idealize.ShloMosaic.Lib.Pipeline.Value

@[expose] public section

noncomputable section

namespace Cert.Proof.Whole

open Cert.KernelIdeal Cert.KernelIdeal.Gen Cert.Proof.AsyncWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- The tile's thread. -/
abbrev thr (d : Dev nD) (c : Fin 2) (s : Fin 16) : Thread nD τ := V d ((at2 c s 0).castLE hcore1) ((at2 c s 1).castLE hsub1)

/-- Row `x 0` of the gathered array is the table's row that word `x 0` of the index list names. -/
def gathered (T : S10008x128.Idx → Elt F .f32) (I : S1x323584.Idx → Elt F .i32) : S323584x128.Idx → Elt F .f32 :=
  fun x => T (fun | 0 => Fin.ofNat 10008 (I (fun | 0 => (0 : Fin 1) | 1 => x 0)).toNat | 1 => x 1)

/-! ## The pieces held -/

section Pieces
variable (d : Dev nD) (c : Fin 2) (s : Fin 16)

abbrev iPts (I : Buf (Elt F) (iLoc d)) (b : Fin 2528) : sProp 𝕄 := (iBlk b).view.loc (thr d c s) ↦[(iBlk b).view.set]{fullShare} I
abbrev oPts (f : Buf (Elt F) (oLoc d)) (b : Fin 2528) : sProp 𝕄 := (oBlk b).view.loc (thr d c s) ↦[(oBlk b).view.set]{fullShare} f
abbrev sPts (j : Fin 4) (f : Buf (Elt F) ((sSlot j).view.loc (thr d c s))) : sProp 𝕄 := (sSlot j).view.loc (thr d c s) ↦[(sSlot j).view.set]{fullShare} f
abbrev rPts (j : Fin 3) (f : Buf (Elt F) ((rSlot j).view.loc (thr d c s))) : sProp 𝕄 := (rSlot j).view.loc (thr d c s) ↦[(rSlot j).view.set]{fullShare} f
abbrev sSem (j : Fin 4) : sProp 𝕄 := semVal (thr d c s, .dma (sCell j).sem) 0
abbrev rSem (j : Fin 3) : sProp 𝕄 := semVal (thr d c s, .dma (rCell j).sem) 0
abbrev gSem (j : Fin 4) : sProp 𝕄 := semVal (thr d c s, .dma (gCell j).sem) 0
abbrev xPts (q : PosShare TreeShare) (f : Buf (Elt F) (xLoc d)) : sProp 𝕄 := (xAll).view.loc (thr d c s) ↦[(xAll).view.set]{q} f

end Pieces

/-! ## What the pieces hold -/

section Values

theorem set_lSlot (j : Fin 4) : (lSlot j).view.set = (sSlot j).view.set := by
  unfold lSlot sSlot
  rw [Memref.set_view_squeeze, Memref.set_view_squeeze]

theorem set_xAll : (xAll).view.set = Finset.univ := by
  unfold xAll
  exact (View.set_slice_whole _ _).trans (Rect.set_eq_univ_of_whole _ (fun a => ⟨by fin_cases a <;> rfl, rfl, by fin_cases a <;> rfl⟩))

theorem read_xAll (T : S10008x128.Idx → Elt F .f32) : (xAll).view.read (Elt F) T = T := by
  funext x
  refine ((View.read_apply _ _).trans (cast_eq _ _)).trans (congrArg T ?_)
  exact Rect.emb_unit_full (s := S10008x128) _ x

theorem read_iBlk (I : S1x323584.Idx → Elt F .i32) (b : Fin 2528) (y : S1x128.Idx) :
    (iBlk b).view.read (Elt F) I y = I (fun | 0 => (0 : Fin 1) | 1 => ⟨128 * b.val + (y 1).val, by have := b.isLt; have : (y 1).val < 128 := (y 1).isLt; show _ < 323584; omega⟩) := by
  refine ((View.read_apply _ _).trans (cast_eq _ _)).trans (congrArg I ?_)
  refine funext fun (a : Fin 2) => Fin.ext ?_
  match a with
  | 0 => show 0 + 1 * (y 0).val = 0; have : (y 0).val < 1 := (y 0).isLt; omega
  | 1 => show 128 * b.val + 1 * (y 1).val = _; simp

theorem read_oBlk (G : S323584x128.Idx → Elt F .f32) (b : Fin 2528) (y : S128x128.Idx) :
    (oBlk b).view.read (Elt F) G y = G (fun | 0 => ⟨128 * b.val + (y 0).val, by have := b.isLt; have : (y 0).val < 128 := (y 0).isLt; show _ < 323584; omega⟩ | 1 => y 1) := by
  refine ((View.read_apply _ _).trans (cast_eq _ _)).trans (congrArg G ?_)
  refine funext fun (a : Fin 2) => Fin.ext ?_
  match a with
  | 0 => show 128 * b.val + 1 * (y 0).val = _; simp
  | 1 => show 0 + 1 * (y 1).val = (y 1).val; simp

/-- Word `p` of the list, in row-major order, is word `p` of the index slot. -/
theorem read_lSlot (j : Fin 4) (f : (sSlot j).view.ty.Contents (Elt F)) (p : Fin 128) :
    (lSlot j).view.read (Elt F) f (S128.rowMajor.symm (p.cast (by decide))) = (sSlot j).view.read (Elt F) f (fun | 0 => (0 : Fin 1) | 1 => p) := by
  refine (congrFun (Memref.read_squeeze_slice (Val := Elt F) sM (Rect.unit (s := S4x1x128) ![j.val, 0, 0] S1x1x128.size (inb_s j)) (fun _ => rfl)
    squeezes_S1x1x128_S128 rfl f) _).trans (Eq.trans ?_ (congrFun (Memref.read_squeeze_slice (Val := Elt F) sM
    (Rect.unit (s := S4x1x128) ![j.val, 0, 0] S1x1x128.size (inb_s j)) (fun _ => rfl) squeezes_S1x1x128_S1x128 rfl f) _).symm)
  refine congrArg (sM.view.readAt (Elt F) (Rect.unit (s := S4x1x128) ![j.val, 0, 0] S1x1x128.size (inb_s j)).toLoadRect f) ?_
  apply S1x1x128.rowMajor.injective
  apply Fin.ext
  refine (Shape.rowMajor_reshapeEquiv _ _).trans (Eq.trans ?_ (Shape.rowMajor_reshapeEquiv _ _).symm)
  rw [Equiv.apply_symm_apply]
  rw [show (S1x128.rowMajor (fun | 0 => (0 : Fin 1) | 1 => p)).val = _ from Shape.rowMajor_pair_val (d := ![1, 128]) (0 : Fin 1) p]
  simp

theorem word_lSlot (I : S1x323584.Idx → Elt F .i32) (j : Fin 4) (b : Fin 2528) (f : (sSlot j).view.ty.Contents (Elt F))
    (hf : (sSlot j).view.read (Elt F) f = (iBlk b).view.read (Elt F) I) (p : Fin 128) :
    (lSlot j).view.read (Elt F) f (S128.rowMajor.symm (p.cast (by decide)))
      = I (fun | 0 => (0 : Fin 1) | 1 => ⟨128 * b.val + p.val, by have := b.isLt; have := p.isLt; show _ < 323584; omega⟩) := by
  rw [read_lSlot, hf, read_iBlk]

/-- The list's words name rows of the table. -/
theorem list_lt {I : S1x323584.Idx → Elt F .i32} (hI : ∀ x, (I x).toNat < 10008) (j : Fin 4) (b : Fin 2528) (f : (sSlot j).view.ty.Contents (Elt F))
    (hf : (sSlot j).view.read (Elt F) f = (iBlk b).view.read (Elt F) I) (x : S128.Idx) : ((lSlot j).view.read (Elt F) f x).toNat < 10008 := by
  have hx : x = S128.rowMajor.symm (((S128.rowMajor x).cast (by decide) : Fin 128).cast (by decide)) := by
    rw [show ((((S128.rowMajor x).cast (by decide) : Fin 128).cast (by decide)) : Fin S128.numel) = S128.rowMajor x from rfl, Equiv.symm_apply_apply]
  rw [hx, word_lSlot I j b f hf]; exact hI _

/-- The rows the gather brings for block `b`'s list are block `b` of the gathered array. -/
theorem gather_value (T : S10008x128.Idx → Elt F .f32) {I : S1x323584.Idx → Elt F .i32} (hI : ∀ x, (I x).toNat < 10008) (j : Fin 4) (b : Fin 2528)
    (f : (sSlot j).view.ty.Contents (Elt F)) (hf : (sSlot j).view.read (Elt F) f = (iBlk b).view.read (Elt F) I)
    (hg : S10008x128.Gathers 0 S128x128) (hn : S128.numel = S128x128.size hg.axis') (h : ∀ x, ((lSlot j).view.read (Elt F) f x).toNat < S10008x128.size hg.axis) :
    SparseCore.gatherPayload hg ((xAll).view.read (Elt F) T) (SparseCore.rows ((lSlot j).view.read (Elt F) f) hn h)
      = (oBlk b).view.read (Elt F) (gathered T I) := by
  funext y
  rw [read_oBlk]
  unfold SparseCore.gatherPayload gathered
  rw [read_xAll]
  refine congrArg T (funext fun (a : Fin 2) => Fin.ext ?_)
  match a with
  | 0 =>
    refine (congrArg Fin.val (Shape.Gathers.idx_axis hg _ y)).trans ?_
    refine (congrArg BitVec.toNat (word_lSlot I j b f hf (y 0))).trans ?_
    exact (Nat.mod_eq_of_lt (hI _)).symm
  | 1 => exact Shape.Gathers.idx_of_ne hg _ y 1 (by decide)

end Values

end Cert.Proof.Whole

end
-- ==== Proof.AsyncTile.lean ====
/-
  The whole kernel's SparseCore call on one tile: one trip of its loop, the loop, and the body.
-/
module

public import proofs.«01_k».proof.Proof.AsyncValues

@[expose] public section

noncomputable section

namespace Cert.Proof.Whole

open Cert.KernelIdeal Cert.KernelIdeal.Gen Cert.Proof.AsyncWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## The blocks at home before and after a trip -/

section Sets

/-- The index blocks at home before trip `t`: those read, and those not yet asked for. -/
def homeA (t : ℕ) : Finset (Fin 79) := Finset.univ.filter fun u => u.val < t ∨ max (t + 2) 4 ≤ u.val
theorem mem_homeA (t : ℕ) (u : Fin 79) : u ∈ homeA t ↔ (u.val < t ∨ max (t + 2) 4 ≤ u.val) := by simp [homeA]

variable {M : Type _} [URA M] (Φ : Fin 79 → sProp M) (k : ℕ)

theorem home_out (h2 : 2 ≤ k) (h : k + 2 < 79) :
    bigSep (homeA k) Φ = iprop(Φ (Ring.bk 79 (k + 2)) ∗ bigSep ((homeA k).erase (Ring.bk 79 (k + 2))) Φ) :=
  Ring.bigSep_take (b := Ring.bk 79 (k + 2)) ((mem_homeA ..).mpr (by rw [Ring.bk_val h]; omega)) Φ
theorem home_back (h2 : 2 ≤ k) (h : k + 2 < 79) :
    bigSep (homeA (k + 1)) Φ = iprop(Φ (Ring.bk 79 k) ∗ bigSep ((homeA k).erase (Ring.bk 79 (k + 2))) Φ) := by
  have e : homeA (k + 1) = insert (Ring.bk 79 k) ((homeA k).erase (Ring.bk 79 (k + 2))) := by
    ext u
    rw [Finset.mem_insert, Finset.mem_erase, mem_homeA, mem_homeA, Ne, Fin.ext_iff, Fin.ext_iff, Ring.bk_val h, Ring.bk_val (show k < 79 by omega)]
    omega
  rw [e, Ring.bigSep_put]
  rw [Finset.mem_erase, mem_homeA, Ring.bk_val (show k < 79 by omega)]; omega
theorem home_keep (h : k < 2 ∨ 79 ≤ k + 2) (hk : k < 79) :
    bigSep (homeA (k + 1)) Φ = iprop(Φ (Ring.bk 79 k) ∗ bigSep (homeA k) Φ) := by
  have e : homeA (k + 1) = insert (Ring.bk 79 k) (homeA k) := by
    ext u
    have := u.isLt
    rw [Finset.mem_insert, mem_homeA, mem_homeA, Fin.ext_iff, Ring.bk_val hk]
    omega
  rw [e, Ring.bigSep_put]
  rw [mem_homeA, Ring.bk_val hk]; omega
theorem home_zero :
    bigSep Finset.univ Φ = iprop(Φ (Ring.bk 79 0) ∗ Φ (Ring.bk 79 1) ∗ Φ (Ring.bk 79 2) ∗ Φ (Ring.bk 79 3) ∗ bigSep (homeA 0) Φ) := by
  have e : (Finset.univ : Finset (Fin 79)) = insert (Ring.bk 79 0) (insert (Ring.bk 79 1) (insert (Ring.bk 79 2) (insert (Ring.bk 79 3) (homeA 0)))) := by
    decide +kernel
  rw [e, Ring.bigSep_put (by decide +kernel), Ring.bigSep_put (by decide +kernel), Ring.bigSep_put (by decide +kernel), Ring.bigSep_put (by decide +kernel)]
theorem home_last : homeA 79 = Finset.univ := by decide +kernel

theorem ahead_out (h : k < 79) :
    bigSep (Ring.aheadSet (NB := 79) k) Φ = iprop(Φ (Ring.bk 79 k) ∗ bigSep (Ring.aheadSet (NB := 79) (k + 1)) Φ) := by
  rw [Ring.aheadSet_open k h, Ring.bigSep_put (Ring.bk_not_mem_aheadSet_succ k h)]
theorem ahead_last : bigSep (Ring.aheadSet (NB := 79) 77) Φ = iprop(Φ (Ring.bk 79 77) ∗ Φ (Ring.bk 79 78)) := by
  have e : Ring.aheadSet (NB := 79) 77 = insert (Ring.bk 79 77) {Ring.bk 79 78} := by decide +kernel
  rw [e, Ring.bigSep_put (by decide +kernel), bigSep_singleton]
theorem behind_back (h : 3 ≤ k) (hk : k < 79) :
    bigSep (Ring.behindSet (NB := 79) 3 (k + 1)) Φ = iprop(Φ (Ring.bk 79 (k - 3)) ∗ bigSep (Ring.behindSet (NB := 79) 3 k) Φ) := by
  rw [Ring.behindSet_close 3 k h hk, Ring.bigSep_put (Ring.bk_not_mem_behindSet 3 k h hk)]
theorem behind_first (h : k < 3) : Ring.behindSet (NB := 79) 3 (k + 1) = Ring.behindSet (NB := 79) 3 k := by
  rw [Ring.behindSet_boot 3 (k + 1) (by omega), Ring.behindSet_boot 3 k (by omega)]
theorem behind_last :
    bigSep Finset.univ Φ = iprop(Φ (Ring.bk 79 76) ∗ Φ (Ring.bk 79 77) ∗ Φ (Ring.bk 79 78) ∗ bigSep (Ring.behindSet (NB := 79) 3 79) Φ) := by
  have e : (Finset.univ : Finset (Fin 79)) = insert (Ring.bk 79 76) (insert (Ring.bk 79 77) (insert (Ring.bk 79 78) (Ring.behindSet (NB := 79) 3 79))) := by
    decide +kernel
  rw [e, Ring.bigSep_put (by decide +kernel), Ring.bigSep_put (by decide +kernel), Ring.bigSep_put (by decide +kernel)]

end Sets

variable [FloatOps F] [Named F]

/-! ## The invariant -/

section Tile
variable (d : Dev nD) (c : Fin 2) (s : Fin 16) (q : Fin 2 → PosShare TreeShare)
  (X : Buf (Elt F) (xLoc d)) (I : Buf (Elt F) (iLoc d)) (fo : Buf (Elt F) (oLoc d))

/-- The gathered array, as contents of the result. -/
abbrev outAll : Buf (Elt F) (oLoc d) := gathered (F := F) X I

/-- Index slot `j` holding index block `b`'s words, and the same as the gather's list; row slot `j` holding result block `b`. -/
abbrev sHas (j : Fin 4) (b : Fin 2528) : sProp 𝕄 := sPts d c s j ((sSlot j).view.rep ((iBlk b).view.read (Elt F) I))
abbrev lPts (j : Fin 4) (f : Buf (Elt F) ((lSlot j).view.loc (thr d c s))) : sProp 𝕄 := (lSlot j).view.loc (thr d c s) ↦[(lSlot j).view.set]{fullShare} f
abbrev rHas (j : Fin 3) (b : Fin 2528) : sProp 𝕄 := rPts d c s j ((rSlot j).view.rep ((oBlk b).view.read (Elt F) (outAll d X I)))

/-- In flight: the fetch of index block `b` into slot `j`; the gather of block `b` from list slot `j` into row slot `r`;
the copy of row slot `j` to result block `b`. -/
abbrev sFly (j : Fin 4) (b : Fin 2528) : sProp 𝕄 :=
  Transfers.Flight countersEmb (thr d c s) (SemLoc.dma (sCell j).sem) (default : HIx 1) 4096 iprop(sHas d c s I j b ∗ iPts d c s I b)
abbrev gFly (j : Fin 4) (r : Fin 3) (p : PosShare TreeShare) (b : Fin 2528) : sProp 𝕄 :=
  Transfers.Flight countersEmb (thr d c s) (SemLoc.dma (gCell j).sem) (default : HIx 1) 524288
    iprop((rHas d c s X I r b ∗ lPts d c s j ((sSlot j).view.rep ((iBlk b).view.read (Elt F) I))) ∗ xPts d c s p X)
abbrev rFly (j : Fin 3) (b : Fin 2528) : sProp 𝕄 :=
  Transfers.Flight countersEmb (thr d c s) (SemLoc.dma (rCell j).sem) (default : HIx 1) 524288
    iprop(oPts d c s (outAll d X I) b ∗ rHas d c s X I j b)
abbrev sFree (j : Fin 4) : sProp 𝕄 := iprop((∃ f, sPts (F := F) d c s j f) ∗ sSem (F := F) d c s j)
abbrev rFree (j : Fin 3) : sProp 𝕄 := iprop((∃ f, rPts (F := F) d c s j f) ∗ rSem (F := F) d c s j)

/-- The index slot of block `p`, while its fetch may be in flight. -/
abbrev cur (p : ℕ) : sProp 𝕄 := if p < 79 then sFly d c s I (Ring.sl 4 p) (bkN c s p) else sFree d c s (Ring.sl 4 p)
/-- The slots of block `p - 4` while its gather is in flight, which are those of block `p`, then still being fetched. -/
abbrev mid (p : ℕ) : sProp 𝕄 :=
  if 4 ≤ p then iprop(gFly d c s X I (Ring.sl 4 p) (Ring.sl 3 (p + 2)) (q (Ring.sl 2 p)) (bkN c s (p - 4)) ∗ sSem (F := F) d c s (Ring.sl 4 p) ∗ rSem (F := F) d c s (Ring.sl 3 (p + 2)))
  else iprop(sFly d c s I (Ring.sl 4 p) (bkN c s p) ∗ gSem (F := F) d c s (Ring.sl 4 p) ∗ rFree d c s (Ring.sl 3 (p + 2)) ∗ xPts d c s (q (Ring.sl 2 p)) X)
/-- The row slot of block `p - 3` while its copy out is in flight. -/
abbrev late (p : ℕ) : sProp 𝕄 := if 3 ≤ p then rFly d c s X I (Ring.sl 3 p) (bkN c s (p - 3)) else rFree d c s (Ring.sl 3 p)

/-- Before trip `k`. -/
def inv (O : CellTallies nD τ sig (HIx 1)) (W : Waits sig (HIx 1)) (k : ℕ) (_ : PUnit) : sProp 𝕄 :=
  iprop(Transfers.MayWaits (thr d c s) (none : HIx 1) O
    ∗ bigSep (homeA k) (fun u => iPts d c s I (blk c s u))
    ∗ bigSep (Ring.aheadSet (NB := 79) (k - 2)) (fun u => oPts d c s fo (blk c s u))
    ∗ bigSep (Ring.behindSet (NB := 79) 3 k) (fun u => oPts d c s (outAll d X I) (blk c s u))
    ∗ cur d c s I k ∗ cur d c s I (k + 1)
    ∗ gSem (F := F) d c s (Ring.sl 4 k) ∗ gSem (F := F) d c s (Ring.sl 4 (k + 1))
    ∗ mid d c s q X I (k + 2) ∗ mid d c s q X I (k + 3)
    ∗ late d c s X I k
    ∗ ∃ W', ⌜∀ p ∈ W', p ∈ W ∨ p.2 = none⌝ ∗ owes (thr d c s) O W')

omit [FloatOps F] [Named F] in
/-- An index slot is held as the gather's list. -/
theorem pts_list (j : Fin 4) (f : Buf (Elt F) ((sSlot j).view.loc (thr d c s))) :
    (lPts d c s j f : sProp 𝕄) = sPts d c s j f :=
  congrArg (fun S => ((sSlot j).view.loc (thr d c s) ↦[S]{fullShare} f : sProp 𝕄)) (set_lSlot j)

/-! ## What a trip hands on -/

/-- A fetch into an index slot delivers the slot at the block's words. -/
theorem has_idx (j : Fin 4) (b : Fin 2528) (f : Buf (Elt F) ((sSlot j).view.loc (thr d c s))) (w : S1x128.Idx → Elt F .i32)
    (h : w = (iBlk b).view.read (Elt F) I) :
    sPts d c s j ((sSlot j).view.writes (Elt F) f [⟨Rect.whole S1x128, w⟩]) ⊢ sHas d c s I j b := by
  subst h
  exact pointsTo_rep_of_read (thr d c s) (sSlot j) _ _ _ (View.read_writes_whole _ _ _)

/-- A row slot that holds the gathered block. -/
theorem has_row (j : Fin 3) (b : Fin 2528) (g : Buf (Elt F) ((rSlot j).view.loc (thr d c s))) (w : S128x128.Idx → Elt F .f32)
    (h : w = (oBlk b).view.read (Elt F) (outAll d X I)) :
    rPts d c s j ((rSlot j).view.writes (Elt F) g [⟨Rect.whole S128x128, w⟩]) ⊢ rHas d c s X I j b := by
  subst h
  exact pointsTo_rep_of_read (thr d c s) (rSlot j) _ _ _ (View.read_writes_whole _ _ _)

/-- A copy of the gathered block leaves the result's block at the gathered array. -/
theorem has_out (b : Fin 2528) (f : Buf (Elt F) (oLoc d)) (w : S128x128.Idx → Elt F .f32)
    (h : w = (oBlk b).view.read (Elt F) (outAll d X I)) :
    oPts d c s ((oBlk b).view.writes (Elt F) f [⟨Rect.whole S128x128, w⟩]) b ⊢ oPts d c s (outAll d X I) b := by
  refine (pointsTo_rep_of_read (thr d c s) (oBlk b) _ _ _ ((View.read_writes_whole _ _ _).trans h)).trans ?_
  exact Entails.of_eq (pointsTo_rep (thr d c s) (oBlk b) _ _).symm

/-- The fetch in flight, at the block's words. -/
theorem fly_idx {sm : SemLoc sig} (j : Fin 4) (b : Fin 2528) (f : Buf (Elt F) ((sSlot j).view.loc (thr d c s))) (w : S1x128.Idx → Elt F .i32)
    (h : w = (iBlk b).view.read (Elt F) I) :
    (Transfers.Flight countersEmb (thr d c s) sm (default : HIx 1) 4096
        iprop(sPts d c s j ((sSlot j).view.writes (Elt F) f [⟨Rect.whole S1x128, w⟩]) ∗ iPts d c s I b) : sProp 𝕄)
      ⊢ Transfers.Flight countersEmb (thr d c s) sm (default : HIx 1) 4096 iprop(sHas d c s I j b ∗ iPts d c s I b) := by
  have hw := has_idx d c s I j b f w h
  refine Transfers.Flight_mono countersEmb (thr d c s) ?_
  iintro ⟨H, H'⟩
  isplitl [H]
  · iapply hw; iexact H
  · iexact H'

/-- The gather in flight, at the gathered block. -/
theorem fly_gather {sm : SemLoc sig} (r : Fin 3) (b : Fin 2528) (g : Buf (Elt F) ((rSlot r).view.loc (thr d c s))) (w : S128x128.Idx → Elt F .f32)
    (L Y : sProp 𝕄) (h : w = (oBlk b).view.read (Elt F) (outAll d X I)) :
    (Transfers.Flight countersEmb (thr d c s) sm (default : HIx 1) 524288
        iprop((rPts d c s r ((rSlot r).view.writes (Elt F) g [⟨Rect.whole S128x128, w⟩]) ∗ L) ∗ Y) : sProp 𝕄)
      ⊢ Transfers.Flight countersEmb (thr d c s) sm (default : HIx 1) 524288 iprop((rHas d c s X I r b ∗ L) ∗ Y) := by
  have hw := has_row d c s X I r b g w h
  refine Transfers.Flight_mono countersEmb (thr d c s) ?_
  iintro ⟨⟨H, HL⟩, HY⟩
  isplitl [H HL]
  · isplitl [H]
    · iapply hw; iexact H
    · iexact HL
  · iexact HY

/-- The copy out in flight, at the gathered block. -/
theorem fly_row {sm : SemLoc sig} (b : Fin 2528) (f : Buf (Elt F) (oLoc d)) (R : sProp 𝕄) (w : S128x128.Idx → Elt F .f32)
    (h : w = (oBlk b).view.read (Elt F) (outAll d X I)) :
    (Transfers.Flight countersEmb (thr d c s) sm (default : HIx 1) 524288
        iprop(oPts d c s ((oBlk b).view.writes (Elt F) f [⟨Rect.whole S128x128, w⟩]) b ∗ R) : sProp 𝕄)
      ⊢ Transfers.Flight countersEmb (thr d c s) sm (default : HIx 1) 524288 iprop(oPts d c s (outAll d X I) b ∗ R) := by
  have ho := has_out d c s X I b f w h
  refine Transfers.Flight_mono countersEmb (thr d c s) ?_
  iintro ⟨H, H'⟩
  isplitl [H]
  · iapply ho; iexact H
  · iexact H'

omit [FloatOps F] [Named F] in
/-- A recorded wait under the transfers' own level. -/
theorem waits_insert {W W' : Waits sig (HIx 1)} {a : SemLoc sig} (h : ∀ p ∈ W', p ∈ W ∨ p.2 = none) :
    ∀ p ∈ insert (a, (default : HIx 1)) W', p ∈ W ∨ p.2 = none := fun p hp =>
  (Finset.mem_insert.mp hp).elim (fun e => .inr (e ▸ rfl)) (h p)

theorem sl3_again (k : ℕ) : Ring.sl 3 (k + 2 + 2) = Ring.sl 3 (k + 1) := Ring.sl_add 3 (k + 1)
theorem sl2_again (k : ℕ) : Ring.sl 2 (k + 2) = Ring.sl 2 k := Ring.sl_add 2 k
theorem sl2_twice (k : ℕ) : Ring.sl 2 (k + 4) = Ring.sl 2 k := (Ring.sl_add 2 (k + 2)).trans (Ring.sl_add 2 k)
theorem sl3_twice (k : ℕ) : Ring.sl 3 (k + 4 + 2) = Ring.sl 3 k := (Ring.sl_add 3 (k + 3)).trans (Ring.sl_add 3 k)

/-- The pieces of the body, and what it leaves of them. -/
abbrev tilePre (g : Buf (Elt F) (oLoc d)) : sProp 𝕄 :=
  iprop(xPts d c s (q 0) X ∗ xPts d c s (q 1) X
    ∗ bigSep Finset.univ (fun u : Fin 79 => iPts d c s I (blk c s u))
    ∗ bigSep Finset.univ (fun u : Fin 79 => oPts d c s g (blk c s u))
    ∗ sFree d c s 0 ∗ sFree d c s 1 ∗ sFree d c s 2 ∗ sFree d c s 3
    ∗ rFree d c s 0 ∗ rFree d c s 1 ∗ rFree d c s 2
    ∗ gSem (F := F) d c s 0 ∗ gSem (F := F) d c s 1 ∗ gSem (F := F) d c s 2 ∗ gSem (F := F) d c s 3)

/-- Before the first trip: the first four fetches are in flight. -/
theorem inv_zero (O : CellTallies nD τ sig (HIx 1)) (W : Waits sig (HIx 1)) :
    iprop(Transfers.MayWaits (thr d c s) (none : HIx 1) O
        ∗ xPts d c s (q 0) X ∗ xPts d c s (q 1) X
        ∗ bigSep (homeA 0) (fun u => iPts d c s I (blk c s u))
        ∗ bigSep Finset.univ (fun u : Fin 79 => oPts d c s fo (blk c s u))
        ∗ sFly d c s I 0 (bkN c s 0) ∗ sFly d c s I 1 (bkN c s 1) ∗ sFly d c s I 2 (bkN c s 2) ∗ sFly d c s I 3 (bkN c s 3)
        ∗ rFree d c s 0 ∗ rFree d c s 1 ∗ rFree d c s 2
        ∗ gSem (F := F) d c s 0 ∗ gSem (F := F) d c s 1 ∗ gSem (F := F) d c s 2 ∗ gSem (F := F) d c s 3
        ∗ owes (thr d c s) O W)
      ⊢ inv d c s q X I fo O W 0 ⟨⟩ := by
  unfold inv
  rw [Ring.aheadSet_zero, Ring.behindSet_boot 3 0 (by omega)]
  iintro ⟨Hmw, Hx0, Hx1, Hi, Ho, H0, H1, H2, H3, HR0, HR1, HR2, Hg0, Hg1, Hg2, Hg3, HO⟩
  isplitl [Hmw]; · iexact Hmw
  isplitl [Hi]; · iexact Hi
  isplitl [Ho]; · iexact Ho
  isplitr; · iapply (Entails.of_eq bigSep_empty.symm); iempintro
  isplitl [H0]; · iapply (Entails.of_eq (if_pos (show 0 < 79 by decide)).symm); iexact H0
  isplitl [H1]; · iapply (Entails.of_eq (if_pos (show 0 + 1 < 79 by decide)).symm); iexact H1
  isplitl [Hg0]; · iexact Hg0
  isplitl [Hg1]; · iexact Hg1
  isplitl [H2 Hg2 HR1 Hx0]
  · iapply (Entails.of_eq (if_neg (show ¬ 4 ≤ 0 + 2 by decide)).symm)
    isplitl [H2]; · iexact H2
    isplitl [Hg2]; · iexact Hg2
    isplitl [HR1]; · iexact HR1
    iexact Hx0
  isplitl [H3 Hg3 HR2 Hx1]
  · iapply (Entails.of_eq (if_neg (show ¬ 4 ≤ 0 + 3 by decide)).symm)
    isplitl [H3]; · iexact H3
    isplitl [Hg3]; · iexact Hg3
    isplitl [HR2]; · iexact HR2
    iexact Hx1
  isplitl [HR0]; · iapply (Entails.of_eq (if_neg (show ¬ 3 ≤ 0 by decide)).symm); iexact HR0
  iexists W; isplitr; · ipureintro; exact fun p hp => .inl hp
  iexact HO

/-- After the last trip: two gathers and a copy out are in flight, everything else is at home. -/
theorem inv_end (O : CellTallies nD τ sig (HIx 1)) (W : Waits sig (HIx 1)) :
    inv d c s q X I fo O W 79 ⟨⟩ ⊢
      iprop(bigSep Finset.univ (fun u : Fin 79 => iPts d c s I (blk c s u))
        ∗ oPts d c s fo (bkN c s 77) ∗ oPts d c s fo (bkN c s 78)
        ∗ bigSep (Ring.behindSet (NB := 79) 3 79) (fun u => oPts d c s (outAll d X I) (blk c s u))
        ∗ sFree d c s 3 ∗ sFree d c s 0
        ∗ gSem (F := F) d c s 3 ∗ gSem (F := F) d c s 0
        ∗ (gFly d c s X I 1 2 (q 1) (bkN c s 77) ∗ sSem (F := F) d c s 1 ∗ rSem (F := F) d c s 2)
        ∗ (gFly d c s X I 2 0 (q 0) (bkN c s 78) ∗ sSem (F := F) d c s 2 ∗ rSem (F := F) d c s 0)
        ∗ rFly d c s X I 1 (bkN c s 76)
        ∗ ∃ W', ⌜∀ p ∈ W', p ∈ W ∨ p.2 = none⌝ ∗ owes (thr d c s) O W') := by
  unfold inv
  rw [home_last, show 79 - 2 = 77 from rfl, ahead_last]
  iintro ⟨-, Hi, ⟨Ho, Ho'⟩, Hb, H3, H0, Hg3, Hg0, Hm, Hm', Hl, HO⟩
  isplitl [Hi]; · iexact Hi
  isplitl [Ho]; · iexact Ho
  isplitl [Ho']; · iexact Ho'
  isplitl [Hb]; · iexact Hb
  isplitl [H3]; · iapply (Entails.of_eq (if_neg (show ¬ 79 < 79 by decide))); iexact H3
  isplitl [H0]; · iapply (Entails.of_eq (if_neg (show ¬ 79 + 1 < 79 by decide))); iexact H0
  isplitl [Hg3]; · iexact Hg3
  isplitl [Hg0]; · iexact Hg0
  isplitl [Hm]; · iapply (Entails.of_eq (if_pos (show 4 ≤ 79 + 2 by decide))); iexact Hm
  isplitl [Hm']; · iapply (Entails.of_eq (if_pos (show 4 ≤ 79 + 3 by decide))); iexact Hm'
  isplitl [Hl]; · iapply (Entails.of_eq (if_pos (show 3 ≤ 79 by decide))); iexact Hl
  iexact HO

/-- A trip's end is the invariant before the next. -/
theorem inv_next (O : CellTallies nD τ sig (HIx 1)) (W : Waits sig (HIx 1)) (k : ℕ) :
    iprop(Transfers.MayWaits (thr d c s) (none : HIx 1) O
        ∗ bigSep (homeA (k + 1)) (fun u => iPts d c s I (blk c s u))
        ∗ bigSep (Ring.aheadSet (NB := 79) (k + 1 - 2)) (fun u => oPts d c s fo (blk c s u))
        ∗ bigSep (Ring.behindSet (NB := 79) 3 (k + 1)) (fun u => oPts d c s (outAll d X I) (blk c s u))
        ∗ cur d c s I (k + 1) ∗ cur d c s I (k + 2)
        ∗ gSem (F := F) d c s (Ring.sl 4 (k + 1)) ∗ gSem (F := F) d c s (Ring.sl 4 (k + 2))
        ∗ mid d c s q X I (k + 3)
        ∗ (gFly d c s X I (Ring.sl 4 k) (Ring.sl 3 k) (q (Ring.sl 2 k)) (bkN c s k) ∗ sSem (F := F) d c s (Ring.sl 4 k) ∗ rSem (F := F) d c s (Ring.sl 3 k))
        ∗ late d c s X I (k + 1)
        ∗ ∃ W', ⌜∀ p ∈ W', p ∈ W ∨ p.2 = none⌝ ∗ owes (thr d c s) O W')
      ⊢ inv d c s q X I fo O W (k + 1) ⟨⟩ := by
  have e : mid d c s q X I (k + 1 + 3)
      = iprop(gFly d c s X I (Ring.sl 4 k) (Ring.sl 3 k) (q (Ring.sl 2 k)) (bkN c s k) ∗ sSem (F := F) d c s (Ring.sl 4 k) ∗ rSem (F := F) d c s (Ring.sl 3 k)) := by
    show mid d c s q X I (k + 4) = _
    unfold mid
    rw [if_pos (Nat.le_add_left 4 k), Ring.sl_add 4 k, sl3_twice, sl2_twice, Nat.add_sub_cancel]
  unfold inv
  rw [e]

/-- The copy out that a trip starts. -/
theorem late_next (k : ℕ) (h : 2 ≤ k) : rFly d c s X I (Ring.sl 3 (k + 1)) (bkN c s (k - 2)) ⊢ late d c s X I (k + 1) := by
  have e : k + 1 - 3 = k - 2 := by omega
  unfold late
  rw [if_pos (show 3 ≤ k + 1 by omega), e]

/-! ## The trips -/

set_option maxHeartbeats 8000000 in
theorem tile_run (hI : ∀ x, (I x : BitVec 32).toNat < 10008) (O : CellTallies nD τ sig (HIx 1)) (W : Waits sig (HIx 1)) :
    iprop(Transfers.MayWaits (thr d c s) (none : HIx 1) O ∗ tilePre d c s q X I fo ∗ owes (thr d c s) O W)
      ⊢ wp frame (wpE (defs₀ (F := F)) 𝒱₀ (thr d c s) none) Set.univ
          (cc1_run (at2 c s) xM (Memref.isWhole_whole _) iM (Memref.isWhole_whole _) oM (Memref.isWhole_whole _)
            sM (Memref.isWhole_whole _) rM (Memref.isWhole_whole _) cc1_scratch2 cc1_scratch3 cc1_scratch4)
          fun _ => iprop(tilePre d c s q X I (outAll d X I)
            ∗ ∃ W', ⌜∀ p ∈ W', p ∈ W ∨ p.2 = none⌝ ∗ owes (thr d c s) O W') := by
  rw [cc1_run_eq_skeleton]; unfold cc1_run_skel
  rw [k1_part5_eq_skeleton, k1_part6_eq_skeleton, k1_part7_eq_skeleton]; unfold k1_part5_skel k1_part6_skel k1_part7_skel
  iintro ⟨#Hmw, ⟨Hx0, Hx1, Hi, Ho, ⟨⟨%f0, Hs0⟩, HC0⟩, ⟨⟨%f1, Hs1⟩, HC1⟩, ⟨⟨%f2, Hs2⟩, HC2⟩, ⟨⟨%f3, Hs3⟩, HC3⟩, HR0, HR1, HR2, Hg0, Hg1, Hg2, Hg3⟩, HO⟩
  ihave Hi := (Entails.of_eq (home_zero (fun u => iPts d c s I (blk c s u)))) $$ Hi
  icases Hi with ⟨Hi0, Hi1, Hi2, Hi3, Hi⟩
  sl_exec
  rw [bind_assoc]
  sl_for (inv d c s q X I fo O W) $$ [Hx0 Hx1 Hi Ho HC0 HC1 HC2 HC3 HR0 HR1 HR2 Hg0 Hg1 Hg2 Hg3 HO]
  case region =>
    intro k acc
    rw [inv.eq_1 d c s q X I fo O W k.val acc]
    iintro ⟨#Hmw, Hi, Ho, Hb, Hcur, Hnxt, Hgk, Hgn, Hmid, Hmid', Hlate, %W', %hW, HO⟩
    have hk : k.val < 79 := lt79 k
    have hin := list_lt hI (Ring.sl 4 k.val) (bkN c s k.val) _ (View.read_rep (sSlot (Ring.sl 4 k.val)).view ((iBlk (bkN c s k.val)).view.read (Elt F) I))
    ihave Hcur := (Entails.of_eq (if_pos hk)) $$ Hcur
    unfold tile_run.sl.prog.body_1 k1_t1_body
    rw [k1_part3_eq_skeleton, k1_part4_eq_skeleton]; unfold k1_part3_skel k1_part4_skel
    rw [k1_part1_eq_skeleton, k1_part2_eq_skeleton]; unfold k1_part1_skel k1_part2_skel
    rcases (show k.val < 2 ∨ k.val = 2 ∨ (3 ≤ k.val ∧ k.val + 2 < 79) ∨ 79 ≤ k.val + 2 by omega) with h | h | h | h
    -- the first two trips: no gather to wait for
    · have hc1 := mt (cond1_iff k).mp (by omega)
      have hc3 := mt (cond3_iff k).mp (by omega)
      ihave Hmid := (Entails.of_eq (if_neg (show ¬ 4 ≤ k.val + 2 by omega))) $$ Hmid
      ihave Hlate := (Entails.of_eq (if_neg (show ¬ 3 ≤ k.val by omega))) $$ Hlate
      rw [sl3_again, sl2_again]
      icases Hmid with ⟨Hfar, Hg2, Hr, Hx⟩
      icases Hlate with ⟨⟨%g0, Hr0⟩, Hd0⟩
      sl_exec
      ihave Hcur_dst := (Entails.of_eq (pts_list (F := F) d c s _ _).symm) $$ Hcur_dst
      sl_exec
      sl_step
      ihave Hi := (Entails.of_eq (home_keep (fun u => iPts d c s I (blk c s u)) k.val (.inl h) hk).symm) $$ [Hi Hcur_src]
      · isplitl [Hcur_src]; · iexact Hcur_src
        iexact Hi
      ihave Ho := (Entails.of_eq (congrArg (fun n => bigSep (Ring.aheadSet (NB := 79) n) (fun u => oPts d c s fo (blk c s u))) (show k.val - 2 = k.val + 1 - 2 by omega))) $$ Ho
      ihave Hb := (Entails.of_eq (congrArg (fun S => bigSep S (fun u => oPts d c s (outAll d X I) (blk c s u))) (behind_first k.val (by omega)).symm)) $$ Hb
      ihave Hfar := (Entails.of_eq (if_pos (show k.val + 2 < 79 by omega)).symm) $$ Hfar
      ihave Hlate := (Entails.of_eq (if_neg (show ¬ 3 ≤ k.val + 1 by omega)).symm) $$ Hr
      ihave Hgk := (fly_gather d c s X I (Ring.sl 3 k.val) (bkN c s k.val) _ (tile_run.sl.gather0 d c s X I k hin) _ _
        (gather_value X hI (Ring.sl 4 k.val) (bkN c s k.val) _ (View.read_rep _ _) gathers_S10008x128_S128x128 rfl hin)) $$ Hgk
      iapply (inv_next d c s q X I fo O W k.val) $$ [Hi Ho Hb Hnxt Hfar Hgn Hg2 Hmid' Hgk Hcur Hd0 Hlate HO]
      · isplitr; · iexact Hmw
        isplitl [Hi]; · iexact Hi
        isplitl [Ho]; · iexact Ho
        isplitl [Hb]; · iexact Hb
        isplitl [Hnxt]; · iexact Hnxt
        isplitl [Hfar]; · iexact Hfar
        isplitl [Hgn]; · iexact Hgn
        isplitl [Hg2]; · iexact Hg2
        isplitl [Hmid']; · iexact Hmid'
        isplitl [Hgk Hcur Hd0]
        · isplitl [Hgk]; · iexact Hgk
          isplitl [Hcur]; · iexact Hcur
          iexact Hd0
        isplitl [Hlate]; · iexact Hlate
        iexists _; isplitr
        swap; · iexact HO
        ipureintro
        repeat first | exact hW | refine waits_insert ?_
    -- the third: the first gather's end, its copy out, the fetch two blocks on
    · have h2 : 2 ≤ k.val := by omega
      have h4 : k.val + 2 < 79 := by omega
      have hc1 := (cond1_iff k).mpr h2
      have hc2 := (cond2_iff k).mpr h4
      have hc3 := mt (cond3_iff k).mp (by omega)
      ihave Hmid := (Entails.of_eq (if_pos (show 4 ≤ k.val + 2 by omega))) $$ Hmid
      ihave Hlate := (Entails.of_eq (if_neg (show ¬ 3 ≤ k.val by omega))) $$ Hlate
      icases Hlate with ⟨⟨%g0, Hr0⟩, Hd0⟩
      rw [sl3_again, sl2_again, show k.val + 2 - 4 = k.val - 2 by omega]
      icases Hmid with ⟨Hg2, Hs2, Hd2⟩
      ihave Hi := (Entails.of_eq (home_out _ k.val h2 h4)) $$ Hi
      icases Hi with ⟨Hin, Hi⟩
      ihave Ho := (Entails.of_eq (ahead_out _ (k.val - 2) (by omega))) $$ Ho
      icases Ho with ⟨Hok, Ho⟩
      sl_exec
      icases Hg2_dst with ⟨Hrow, Hlst⟩
      ihave Hlst := (Entails.of_eq (pts_list (F := F) d c s _ _)) $$ Hlst
      sl_exec
      ihave Hcur_dst := (Entails.of_eq (pts_list (F := F) d c s _ _).symm) $$ Hcur_dst
      sl_exec
      sl_step
      ihave Hi := (Entails.of_eq (home_back (fun u => iPts d c s I (blk c s u)) k.val h2 h4).symm) $$ [Hi Hcur_src]
      · isplitl [Hcur_src]; · iexact Hcur_src
        iexact Hi
      ihave Ho := (Entails.of_eq (congrArg (fun n => bigSep (Ring.aheadSet (NB := 79) n) (fun u => oPts d c s fo (blk c s u))) (show k.val - 2 + 1 = k.val + 1 - 2 by omega))) $$ Ho
      ihave Hb := (Entails.of_eq (congrArg (fun S => bigSep S (fun u => oPts d c s (outAll d X I) (blk c s u))) (behind_first k.val (by omega)).symm)) $$ Hb
      ihave Hfar := (fly_idx d c s I (Ring.sl 4 (k.val + 2)) (bkN c s (k.val + 2)) _ (tile_run.sl.dma0_5 d c s I k) rfl) $$ Hs2
      ihave Hfar := (Entails.of_eq (if_pos h4).symm) $$ Hfar
      ihave Hgk := (fly_gather d c s X I (Ring.sl 3 k.val) (bkN c s k.val) _ (tile_run.sl.gather0_1 d c s X I k hin) _ _
        (gather_value X hI (Ring.sl 4 k.val) (bkN c s k.val) _ (View.read_rep _ _) gathers_S10008x128_S128x128 rfl hin)) $$ Hgk
      ihave Hd2 := (fly_row d c s X I (bkN c s (k.val - 2)) fo _ (tile_run.sl.dma0_4 d c s X I k) (View.read_rep _ _)) $$ Hd2
      ihave Hlate' := (late_next d c s X I k.val h2) $$ Hd2
      iapply (inv_next d c s q X I fo O W k.val) $$ [Hi Ho Hb Hnxt Hfar Hgn Hg2 Hmid' Hgk Hcur Hd0 Hlate' HO]
      · isplitr; · iexact Hmw
        isplitl [Hi]; · iexact Hi
        isplitl [Ho]; · iexact Ho
        isplitl [Hb]; · iexact Hb
        isplitl [Hnxt]; · iexact Hnxt
        isplitl [Hfar]; · iexact Hfar
        isplitl [Hgn]; · iexact Hgn
        isplitl [Hg2]; · iexact Hg2
        isplitl [Hmid']; · iexact Hmid'
        isplitl [Hgk Hcur Hd0]
        · isplitl [Hgk]; · iexact Hgk
          isplitl [Hcur]; · iexact Hcur
          iexact Hd0
        isplitl [Hlate']; · iexact Hlate'
        iexists _; isplitr
        swap; · iexact HO
        ipureintro
        repeat first | exact hW | refine waits_insert ?_
    -- from the fourth on: the wait for the copy out three blocks back
    · have h2 : 2 ≤ k.val := by omega
      have h4 : k.val + 2 < 79 := by omega
      have h3 : 3 ≤ k.val := by omega
      have hc1 := (cond1_iff k).mpr h2
      have hc2 := (cond2_iff k).mpr h4
      have hc3 := (cond3_iff k).mpr h3
      ihave Hmid := (Entails.of_eq (if_pos (show 4 ≤ k.val + 2 by omega))) $$ Hmid
      ihave Hlate := (Entails.of_eq (if_pos h3)) $$ Hlate
      rw [sl3_again, sl2_again, show k.val + 2 - 4 = k.val - 2 by omega]
      icases Hmid with ⟨Hg2, Hs2, Hd2⟩
      ihave Hi := (Entails.of_eq (home_out _ k.val h2 h4)) $$ Hi
      icases Hi with ⟨Hin, Hi⟩
      ihave Ho := (Entails.of_eq (ahead_out _ (k.val - 2) (by omega))) $$ Ho
      icases Ho with ⟨Hok, Ho⟩
      sl_exec
      icases Hg2_dst with ⟨Hrow, Hlst⟩
      ihave Hlst := (Entails.of_eq (pts_list (F := F) d c s _ _)) $$ Hlst
      sl_exec
      ihave Hcur_dst := (Entails.of_eq (pts_list (F := F) d c s _ _).symm) $$ Hcur_dst
      sl_exec
      sl_step
      ihave Hi := (Entails.of_eq (home_back (fun u => iPts d c s I (blk c s u)) k.val h2 h4).symm) $$ [Hi Hcur_src]
      · isplitl [Hcur_src]; · iexact Hcur_src
        iexact Hi
      ihave Ho := (Entails.of_eq (congrArg (fun n => bigSep (Ring.aheadSet (NB := 79) n) (fun u => oPts d c s fo (blk c s u))) (show k.val - 2 + 1 = k.val + 1 - 2 by omega))) $$ Ho
      ihave Hb := (Entails.of_eq (behind_back (fun u => oPts d c s (outAll d X I) (blk c s u)) k.val h3 hk).symm) $$ [Hb Hlate_dst]
      · isplitl [Hlate_dst]; · iexact Hlate_dst
        iexact Hb
      ihave Hfar := (fly_idx d c s I (Ring.sl 4 (k.val + 2)) (bkN c s (k.val + 2)) _ (tile_run.sl.dma0_7 d c s I k) rfl) $$ Hs2
      ihave Hfar := (Entails.of_eq (if_pos h4).symm) $$ Hfar
      ihave Hgk := (fly_gather d c s X I (Ring.sl 3 k.val) (bkN c s k.val) _ (tile_run.sl.gather0_2 d c s X I k hin) _ _
        (gather_value X hI (Ring.sl 4 k.val) (bkN c s k.val) _ (View.read_rep _ _) gathers_S10008x128_S128x128 rfl hin)) $$ Hgk
      ihave Hd2 := (fly_row d c s X I (bkN c s (k.val - 2)) fo _ (tile_run.sl.dma0_6 d c s X I k) (View.read_rep _ _)) $$ Hd2
      ihave Hlate' := (late_next d c s X I k.val h2) $$ Hd2
      iapply (inv_next d c s q X I fo O W k.val) $$ [Hi Ho Hb Hnxt Hfar Hgn Hg2 Hmid' Hgk Hcur Hlate Hlate' HO]
      · isplitr; · iexact Hmw
        isplitl [Hi]; · iexact Hi
        isplitl [Ho]; · iexact Ho
        isplitl [Hb]; · iexact Hb
        isplitl [Hnxt]; · iexact Hnxt
        isplitl [Hfar]; · iexact Hfar
        isplitl [Hgn]; · iexact Hgn
        isplitl [Hg2]; · iexact Hg2
        isplitl [Hmid']; · iexact Hmid'
        isplitl [Hgk Hcur Hlate]
        · isplitl [Hgk]; · iexact Hgk
          isplitl [Hcur]; · iexact Hcur
          iexact Hlate
        isplitl [Hlate']; · iexact Hlate'
        iexists _; isplitr
        swap; · iexact HO
        ipureintro
        repeat first | exact hW | refine waits_insert ?_
    -- the last two: no fetch
    · have h2 : 2 ≤ k.val := by omega
      have h3 : 3 ≤ k.val := by omega
      have hc1 := (cond1_iff k).mpr h2
      have hc2 := mt (cond2_iff k).mp (by omega)
      have hc3 := (cond3_iff k).mpr h3
      ihave Hmid := (Entails.of_eq (if_pos (show 4 ≤ k.val + 2 by omega))) $$ Hmid
      ihave Hlate := (Entails.of_eq (if_pos h3)) $$ Hlate
      rw [sl3_again, sl2_again, show k.val + 2 - 4 = k.val - 2 by omega]
      icases Hmid with ⟨Hg2, Hs2, Hd2⟩
      ihave Ho := (Entails.of_eq (ahead_out _ (k.val - 2) (by omega))) $$ Ho
      icases Ho with ⟨Hok, Ho⟩
      sl_exec
      icases Hg2_dst with ⟨Hrow, Hlst⟩
      ihave Hlst := (Entails.of_eq (pts_list (F := F) d c s _ _)) $$ Hlst
      sl_exec
      ihave Hcur_dst := (Entails.of_eq (pts_list (F := F) d c s _ _).symm) $$ Hcur_dst
      sl_exec
      sl_step
      ihave Hi := (Entails.of_eq (home_keep (fun u => iPts d c s I (blk c s u)) k.val (.inr h) hk).symm) $$ [Hi Hcur_src]
      · isplitl [Hcur_src]; · iexact Hcur_src
        iexact Hi
      ihave Ho := (Entails.of_eq (congrArg (fun n => bigSep (Ring.aheadSet (NB := 79) n) (fun u => oPts d c s fo (blk c s u))) (show k.val - 2 + 1 = k.val + 1 - 2 by omega))) $$ Ho
      ihave Hb := (Entails.of_eq (behind_back (fun u => oPts d c s (outAll d X I) (blk c s u)) k.val h3 hk).symm) $$ [Hb Hlate_dst]
      · isplitl [Hlate_dst]; · iexact Hlate_dst
        iexact Hb
      ihave Hfar : sFree (F := F) d c s (Ring.sl 4 (k.val + 2)) $$ [Hlst Hs2]
      · isplitl [Hlst]; · iexists _; iexact Hlst
        iexact Hs2
      ihave Hfar := (Entails.of_eq (if_neg (show ¬ k.val + 2 < 79 by omega)).symm) $$ Hfar
      ihave Hgk := (fly_gather d c s X I (Ring.sl 3 k.val) (bkN c s k.val) _ (tile_run.sl.gather0_3 d c s X I k hin) _ _
        (gather_value X hI (Ring.sl 4 k.val) (bkN c s k.val) _ (View.read_rep _ _) gathers_S10008x128_S128x128 rfl hin)) $$ Hgk
      ihave Hd2 := (fly_row d c s X I (bkN c s (k.val - 2)) fo _ (tile_run.sl.dma0_8 d c s X I k) (View.read_rep _ _)) $$ Hd2
      ihave Hlate' := (late_next d c s X I k.val h2) $$ Hd2
      iapply (inv_next d c s q X I fo O W k.val) $$ [Hi Ho Hb Hnxt Hfar Hgn Hg2 Hmid' Hgk Hcur Hlate Hlate' HO]
      · isplitr; · iexact Hmw
        isplitl [Hi]; · iexact Hi
        isplitl [Ho]; · iexact Ho
        isplitl [Hb]; · iexact Hb
        isplitl [Hnxt]; · iexact Hnxt
        isplitl [Hfar]; · iexact Hfar
        isplitl [Hgn]; · iexact Hgn
        isplitl [Hg2]; · iexact Hg2
        isplitl [Hmid']; · iexact Hmid'
        isplitl [Hgk Hcur Hlate]
        · isplitl [Hgk]; · iexact Hgk
          isplitl [Hcur]; · iexact Hcur
          iexact Hlate
        isplitl [Hlate']; · iexact Hlate'
        iexists _; isplitr
        swap; · iexact HO
        ipureintro
        repeat first | exact hW | refine waits_insert ?_
  · ihave HC0 := (fly_idx d c s I 0 (bkN c s 0) f0 (tile_run.sl.dma0 d c s I) rfl) $$ HC0
    ihave HC1 := (fly_idx d c s I 1 (bkN c s 1) f1 (tile_run.sl.dma0_1 d c s I) rfl) $$ HC1
    ihave HC2 := (fly_idx d c s I 2 (bkN c s 2) f2 (tile_run.sl.dma0_2 d c s I) rfl) $$ HC2
    ihave HC3 := (fly_idx d c s I 3 (bkN c s 3) f3 (tile_run.sl.dma0_3 d c s I) rfl) $$ HC3
    iapply (inv_zero d c s q X I fo O W) $$ [Hx0 Hx1 Hi Ho HC0 HC1 HC2 HC3 HR0 HR1 HR2 Hg0 Hg1 Hg2 Hg3 HO]
    isplitr; · iexact Hmw
    isplitl [Hx0]; · iexact Hx0
    isplitl [Hx1]; · iexact Hx1
    isplitl [Hi]; · iexact Hi
    isplitl [Ho]; · iexact Ho
    isplitl [HC0]; · iexact HC0
    isplitl [HC1]; · iexact HC1
    isplitl [HC2]; · iexact HC2
    isplitl [HC3]; · iexact HC3
    isplitl [HR0]; · iexact HR0
    isplitl [HR1]; · iexact HR1
    isplitl [HR2]; · iexact HR2
    isplitl [Hg0]; · iexact Hg0
    isplitl [Hg1]; · iexact Hg1
    isplitl [Hg2]; · iexact Hg2
    isplitl [Hg3]; · iexact Hg3
    iexact HO
  iintro %acc Hinv
  ihave Hinv := ((Entails.of_eq (congrArg (fun n => inv d c s q X I fo O W n ⟨⟩) trips_eq)).trans (inv_end d c s q X I fo O W)) $$ Hinv
  icases Hinv with ⟨Hi, Ho77, Ho78, Hb, HS3, HS0, Hg3, Hg0, ⟨Hg1, Hs1, Hd2⟩, ⟨Hg2, Hs2, Hd0⟩, Hf, %W', %hW, HO⟩
  sl_exec
  icases Hg1_dst with ⟨Hr2, Hl1⟩
  sl_exec
  icases Hg2_dst with ⟨Hr0, Hl2⟩
  sl_exec
  sl_step
  ihave Ho77 := (has_out d c s X I (bkN c s 77) fo (tile_run.sl.dma0_9 d c s X I) (View.read_rep _ _)) $$ Ho77
  ihave Ho78 := (has_out d c s X I (bkN c s 78) fo (tile_run.sl.dma0_10 d c s X I) (View.read_rep _ _)) $$ Ho78
  ihave Hl1 := (Entails.of_eq (pts_list (F := F) d c s 1 _)) $$ Hl1
  ihave Hl2 := (Entails.of_eq (pts_list (F := F) d c s 2 _)) $$ Hl2
  isplitr [HO]
  · isplitl [Hg2_src]; · iexact Hg2_src
    isplitl [Hg1_src]; · iexact Hg1_src
    isplitl [Hi]; · iexact Hi
    isplitl [Hb Hf_dst Ho77 Ho78]
    · iapply (Entails.of_eq (behind_last (fun u => oPts d c s (outAll d X I) (blk c s u))).symm)
      isplitl [Hf_dst]; · iexact Hf_dst
      isplitl [Ho77]; · iexact Ho77
      isplitl [Ho78]; · iexact Ho78
      iexact Hb
    isplitl [HS0]; · iexact HS0
    isplitl [Hl1 Hs1]
    · isplitl [Hl1]; · iexists _; iexact Hl1
      iexact Hs1
    isplitl [Hl2 Hs2]
    · isplitl [Hl2]; · iexists _; iexact Hl2
      iexact Hs2
    isplitl [HS3]; · iexact HS3
    isplitl [Hr0 Hd0]
    · isplitl [Hr0]; · iexists _; iexact Hr0
      iexact Hd0
    isplitl [Hf_src Hf]
    · isplitl [Hf_src]; · iexists _; iexact Hf_src
      iexact Hf
    isplitl [Hr2 Hd2]
    · isplitl [Hr2]; · iexists _; iexact Hr2
      iexact Hd2
    isplitl [Hg0]; · iexact Hg0
    isplitl [Hg1]; · iexact Hg1
    isplitl [Hg2]; · iexact Hg2
    iexact Hg3
  iexists _; isplitr
  swap; · iexact HO
  ipureintro
  repeat first | exact hW | refine waits_insert ?_
end Tile

end Cert.Proof.Whole

end
-- ==== Proof.AsyncOwn.lean ====
/-
  The SparseCore call's task on one vector subcore, as the launch hands it over: the subcore's own scratch and
  semaphores are opened at the kernel's slots and cells, the body runs, and they are packed again.
-/
module

public import proofs.«01_k».proof.Proof.AsyncTile
public import Idealize.ShloMosaic.Lib.Ring.AtN

@[expose] public section

noncomputable section

namespace Cert.Proof.Whole

open Cert.KernelIdeal Cert.KernelIdeal.Gen Cert.Proof.AsyncWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## The slots of each scratch buffer: four of the index list's, three of the rows' -/

section Slots
variable (d : Dev nD) (c : Fin 2) (s : Fin 16)

abbrev sSet (j : Fin 4) : Finset S4x1x128.Idx := (Rect.unit (s := S4x1x128) ![j.val, 0, 0] S1x1x128.size (inb_s j)).set
abbrev rSet (j : Fin 3) : Finset S3x128x128.Idx := (Rect.unit (s := S3x128x128) ![j.val, 0, 0] S1x128x128.size (inb_r j)).set

theorem sSet_eq (j : Fin 4) : (sSlot j).view.set = sSet j := by
  simp only [sSlot, Memref.view_squeeze, View.set_reshape]; exact View.set_slice_whole _ _
theorem rSet_eq (j : Fin 3) : (rSlot j).view.set = rSet j := by
  simp only [rSlot, Memref.view_squeeze, View.set_reshape]; exact View.set_slice_whole _ _

theorem sSet_disjoint (j j' : Fin 4) (h : j ≠ j') : Disjoint (sSet j) (sSet j') :=
  Ring.lead_disjoint (s := S4x1x128) (0 : Fin 3) 1 (fun j : Fin 4 => (![j.val, 0, 0] : Fin 3 → ℕ)) S1x1x128.size inb_s (fun j => by simp) rfl j j' h
theorem rSet_disjoint (j j' : Fin 3) (h : j ≠ j') : Disjoint (rSet j) (rSet j') :=
  Ring.lead_disjoint (s := S3x128x128) (0 : Fin 3) 1 (fun j : Fin 3 => (![j.val, 0, 0] : Fin 3 → ℕ)) S1x128x128.size inb_r (fun j => by simp) rfl j j' h
theorem sSet_cover : Finset.univ.biUnion sSet = Finset.univ :=
  Ring.lead_cover (s := S4x1x128) (0 : Fin 3) 1 (fun j : Fin 4 => (![j.val, 0, 0] : Fin 3 → ℕ)) S1x1x128.size inb_s (fun j => by simp)
    (fun j a ha => by fin_cases a <;> first | exact absurd rfl ha | rfl) rfl (fun a ha => by fin_cases a <;> first | exact absurd rfl ha | rfl) rfl
theorem rSet_cover : Finset.univ.biUnion rSet = Finset.univ :=
  Ring.lead_cover (s := S3x128x128) (0 : Fin 3) 1 (fun j : Fin 3 => (![j.val, 0, 0] : Fin 3 → ℕ)) S1x128x128.size inb_r (fun j => by simp)
    (fun j a ha => by fin_cases a <;> first | exact absurd rfl ha | rfl) rfl (fun a ha => by fin_cases a <;> first | exact absurd rfl ha | rfl) rfl

theorem sPts_eq (j : Fin 4) (f) : sPts (F := F) d c s j f = ((thr d c s).loc cc1_scratch0 ↦[sSet j]{fullShare} f : sProp 𝕄) :=
  congrArg (fun A => ((thr d c s).loc cc1_scratch0 ↦[A]{fullShare} f : sProp 𝕄)) (sSet_eq j)
theorem rPts_eq (j : Fin 3) (f) : rPts (F := F) d c s j f = ((thr d c s).loc cc1_scratch1 ↦[rSet j]{fullShare} f : sProp 𝕄) :=
  congrArg (fun A => ((thr d c s).loc cc1_scratch1 ↦[A]{fullShare} f : sProp 𝕄)) (rSet_eq j)

/-- The index scratch at anything is its four slots at something each, and back; the row scratch its three. -/
theorem sSlots_in : iprop(∃ f, (thr d c s).loc cc1_scratch0 ↦{fullShare} f)
    ⊢ (iprop((∃ f, sPts (F := F) d c s 0 f) ∗ (∃ f, sPts (F := F) d c s 1 f) ∗ (∃ f, sPts (F := F) d c s 2 f) ∗ ∃ f, sPts (F := F) d c s 3 f) : sProp 𝕄) :=
  Ring.slots4_split (U := UU) (ℓ := (thr d c s).loc cc1_scratch0) (q := fullShare) sSet sSet_disjoint sSet_cover
    _ _ _ _ (sPts_eq d c s 0) (sPts_eq d c s 1) (sPts_eq d c s 2) (sPts_eq d c s 3)
theorem sSlots_out : (iprop((∃ f, sPts (F := F) d c s 0 f) ∗ (∃ f, sPts (F := F) d c s 1 f) ∗ (∃ f, sPts (F := F) d c s 2 f) ∗ ∃ f, sPts (F := F) d c s 3 f) : sProp 𝕄)
    ⊢ iprop(∃ f, (thr d c s).loc cc1_scratch0 ↦{fullShare} f) :=
  Ring.slots4_join (U := UU) (ℓ := (thr d c s).loc cc1_scratch0) (q := fullShare) sSet sSet_disjoint sSet_cover
    _ _ _ _ (sPts_eq d c s 0) (sPts_eq d c s 1) (sPts_eq d c s 2) (sPts_eq d c s 3)
theorem rSlots_in : iprop(∃ f, (thr d c s).loc cc1_scratch1 ↦{fullShare} f)
    ⊢ (iprop((∃ f, rPts (F := F) d c s 0 f) ∗ (∃ f, rPts (F := F) d c s 1 f) ∗ ∃ f, rPts (F := F) d c s 2 f) : sProp 𝕄) :=
  Ring.slots_split_n (U := UU) (ℓ := (thr d c s).loc cc1_scratch1) (q := fullShare) rSet rSet_disjoint rSet_cover
    [0, 1, 2] (by decide) (by decide) (fun j f => rPts (F := F) d c s j f) (rPts_eq d c s)
theorem rSlots_out : (iprop((∃ f, rPts (F := F) d c s 0 f) ∗ (∃ f, rPts (F := F) d c s 1 f) ∗ ∃ f, rPts (F := F) d c s 2 f) : sProp 𝕄)
    ⊢ iprop(∃ f, (thr d c s).loc cc1_scratch1 ↦{fullShare} f) :=
  Ring.slots_join_n (U := UU) (ℓ := (thr d c s).loc cc1_scratch1) (q := fullShare) rSet rSet_disjoint rSet_cover
    [0, 1, 2] (by decide) (by decide) (fun j f => rPts (F := F) d c s j f) (rPts_eq d c s)

end Slots

/-! ## The subcore's own cells and buffers -/

section Own
variable (d : Dev nD) (c : Fin 2) (s : Fin 16)

/-- The kernel's eleven cells: the fetches', the gathers', the copies' out. -/
def cellNo : Fin 11 → DmaSem sig :=
  ![(sCell 0).sem, (sCell 1).sem, (sCell 2).sem, (sCell 3).sem, (gCell 0).sem, (gCell 1).sem, (gCell 2).sem, (gCell 3).sem,
    (rCell 0).sem, (rCell 1).sem, (rCell 2).sem]

theorem cellNo_val : ∀ k, (cellNo k).val = k.val + 3 := by decide

abbrev cellAt (k : Fin 11) : GSem nD τ sig := (thr d c s, .dma (cellNo k))

theorem cellAt_injOn : Set.InjOn (cellAt d c s) (Finset.univ : Finset (Fin 11)) := fun a _ b _ h => by
  have h' : (SemLoc.dma (cellNo a) : SemLoc sig) = SemLoc.dma (cellNo b) := congrArg (fun g : GSem nD τ sig => g.2) h
  rw [SemLoc.dma.injEq] at h'
  have := congrArg Fin.val h'
  rw [cellNo_val a, cellNo_val b] at this
  exact Fin.ext (by omega)

theorem cellAt_mem (k : Fin 11) : cellAt d c s k ∈ ownCells (thr d c s) :=
  mem_ownCells.mpr ⟨rfl, (show ∀ k, (SemLoc.dma (cellNo k) : SemLoc sig).isScoped .scVector = true by decide) _⟩

/-- The subcore's cells at zero are the kernel's eleven and the rest. -/
theorem ownSems0_tile :
    (ownSems0 (thr d c s) : sProp 𝕄)
      = iprop((sSem (F := F) d c s 0 ∗ sSem (F := F) d c s 1 ∗ sSem (F := F) d c s 2 ∗ sSem (F := F) d c s 3
          ∗ gSem (F := F) d c s 0 ∗ gSem (F := F) d c s 1 ∗ gSem (F := F) d c s 2 ∗ gSem (F := F) d c s 3
          ∗ rSem (F := F) d c s 0 ∗ rSem (F := F) d c s 1 ∗ rSem (F := F) d c s 2)
          ∗ bigSep (ownCells (thr d c s) \ Finset.univ.image (cellAt d c s)) fun g => semVal g 0) := by
  unfold SparseCore.Cfg.ownSems0
  rw [SparseCore.bigSep_sdiff_split' (t := Finset.univ.image (cellAt d c s)) (Finset.image_subset_iff.mpr fun k _ => cellAt_mem d c s k),
    SparseCore.bigSep_image_of_injOn (cellAt_injOn d c s)]
  rw [show (Finset.univ : Finset (Fin 11)) = {0, 1, 2, 3, 4, 5, 6, 7, 8, 9, 10} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rfl

/-- The subcore's buffers are the two scratches, at some contents, and the rest. -/
theorem ownBufs_tile :
    (ownBufs (thr d c s) : sProp 𝕄)
      = iprop((∃ f, (thr d c s).loc cc1_scratch0 ↦{fullShare} f) ∗ (∃ f, (thr d c s).loc cc1_scratch1 ↦{fullShare} f)
          ∗ bigSep (((ownRefs (τ := τ) (thr d c s).2).erase ((thr d c s).2.devRef cc1_scratch0)).erase ((thr d c s).2.devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := (thr d c s).2) (b := (thr d c s).2.devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := (thr d c s).2) (b := (thr d c s).2.devRef cc1_scratch1) rfl⟩)]

end Own

/-! ## The task -/

variable [FloatOps F] [Named F]
variable (X : (d : Dev nD) → Buf (Elt F) (xLoc d)) (I : (d : Dev nD) → Buf (Elt F) (iLoc d))

/-- A tile's shares of the table: two of 64 pieces of the whole. -/
def tileIx (c : Fin 2) (s : Fin 16) : Fin 32 := finProdFinEquiv (c, s)
abbrev xq (c : Fin 2) (s : Fin 16) (b : Fin 2) : PosShare TreeShare := pieceOf fullShare 64 (by decide) (finProdFinEquiv (tileIx c s, b))

/-- A tile's holdings: its shares of the table, its 79 blocks of the index list, its 79 blocks of the result at `f`. -/
def tileHas (d : Dev nD) (c : Fin 2) (s : Fin 16) (f : Buf (Elt F) (oLoc d)) : sProp 𝕄 :=
  iprop(((xLoc d ↦{xq c s 0} X d) ∗ (xLoc d ↦{xq c s 1} X d))
    ∗ bigSep Finset.univ (fun u : Fin 79 => iPts d c s (I d) (blk c s u))
    ∗ bigSep Finset.univ (fun u : Fin 79 => oPts d c s f (blk c s u)))

omit [FloatOps F] [Named F] in
theorem pts_xAll (d : Dev nD) (c : Fin 2) (s : Fin 16) (q : PosShare TreeShare) (X : Buf (Elt F) (xLoc d)) :
    xPts (F := F) d c s q X = (xLoc d ↦{q} X : sProp 𝕄) :=
  congrArg (fun A => (xLoc d ↦[A]{q} X : sProp 𝕄)) set_xAll

theorem tile_body (hF : (K (F := F)).Facts) (fo : (d : Dev nD) → Buf (Elt F) (oLoc d)) (hI : ∀ d x, (I d x : BitVec 32).toNat < 10008)
    (d : Dev nD) (c : Fin 2) (s : Fin 16)
    (O : CellTallies nD τ sig (HIx 1)) (W : Waits sig (HIx 1)) (hO : ∀ g, O g none = 0) :
    iprop(levAts (K (F := F)).L (K (F := F)).lev ∗ emp ∗ tileHas X I d c s (fo d)
        ∗ scopedBufs (thr d c s) ∗ scopedSems0 (thr d c s) ∗ owes (thr d c s) O W)
      ⊢ wp frame (wpE (defs₀ (F := F)) 𝒱₀ (thr d c s) none) Set.univ
          (cc1_run (at2 c s) xM (Memref.isWhole_whole _) iM (Memref.isWhole_whole _) oM (Memref.isWhole_whole _)
            sM (Memref.isWhole_whole _) rM (Memref.isWhole_whole _) cc1_scratch2 cc1_scratch3 cc1_scratch4)
          fun _ => iprop(tileHas X I d c s (outAll d (X d) (I d)) ∗ scopedBufs (thr d c s) ∗ scopedSems0 (thr d c s)
            ∗ ∃ W', ⌜∀ p ∈ W', p ∈ W ∨ p.2 = none⌝ ∗ owes (thr d c s) O W') := by
  unfold tileHas
  rw [(K (F := F)).scopedBufs_V hF d _ _, SparseCore.Cfg.scopedSems0_V (Val := Elt F) d _ _, ownSems0_tile, ownBufs_tile]
  iintro ⟨#Hlv, -, ⟨⟨Hx0, Hx1⟩, Hi, Ho⟩, ⟨Hs, Hr, Hbufs⟩, ⟨⟨Hc0, Hc1, Hc2, Hc3, Hg0, Hg1, Hg2, Hg3, Hd0, Hd1, Hd2⟩, Hsems⟩, HO⟩
  ihave Hmw := ((K (F := F)).mayWaits_none (thr := thr d c s) hO) $$ Hlv
  ihave Hx0 := (Entails.of_eq (pts_xAll (F := F) d c s _ _).symm) $$ Hx0
  ihave Hx1 := (Entails.of_eq (pts_xAll (F := F) d c s _ _).symm) $$ Hx1
  ihave Hs := (sSlots_in (F := F) d c s) $$ Hs
  icases Hs with ⟨Hs0, Hs1, Hs2, Hs3⟩
  ihave Hr := (rSlots_in (F := F) d c s) $$ Hr
  icases Hr with ⟨Hr0, Hr1, Hr2⟩
  iapply (wp_wand_r Idealize.ShloMosaic.frame (wpE (defs₀ (F := F)) 𝒱₀ (thr d c s) none) Set.univ)
  isplitl [Hx0 Hx1 Hi Ho Hs0 Hs1 Hs2 Hs3 Hr0 Hr1 Hr2 Hc0 Hc1 Hc2 Hc3 Hg0 Hg1 Hg2 Hg3 Hd0 Hd1 Hd2 HO]
  · iapply (tile_run d c s (xq c s) (X d) (I d) (fo d) (hI d) O W)
    isplitr; · iexact Hmw
    isplitr [HO]
    · isplitl [Hx0]; · iexact Hx0
      isplitl [Hx1]; · iexact Hx1
      isplitl [Hi]; · iexact Hi
      isplitl [Ho]; · iexact Ho
      isplitl [Hs0 Hc0]
      · isplitl [Hs0] <;> iassumption
      isplitl [Hs1 Hc1]
      · isplitl [Hs1] <;> iassumption
      isplitl [Hs2 Hc2]
      · isplitl [Hs2] <;> iassumption
      isplitl [Hs3 Hc3]
      · isplitl [Hs3] <;> iassumption
      isplitl [Hr0 Hd0]
      · isplitl [Hr0] <;> iassumption
      isplitl [Hr1 Hd1]
      · isplitl [Hr1] <;> iassumption
      isplitl [Hr2 Hd2]
      · isplitl [Hr2] <;> iassumption
      isplitl [Hg0]; · iexact Hg0
      isplitl [Hg1]; · iexact Hg1
      isplitl [Hg2]; · iexact Hg2
      iexact Hg3
    iexact HO
  iintro %_ ⟨⟨Hx0, Hx1, Hi, Ho, ⟨Hs0, Hc0⟩, ⟨Hs1, Hc1⟩, ⟨Hs2, Hc2⟩, ⟨Hs3, Hc3⟩, ⟨Hr0, Hd0⟩, ⟨Hr1, Hd1⟩, ⟨Hr2, Hd2⟩, Hg0, Hg1, Hg2, Hg3⟩, HO⟩
  ihave Hx0 := (Entails.of_eq (pts_xAll (F := F) d c s _ _)) $$ Hx0
  ihave Hx1 := (Entails.of_eq (pts_xAll (F := F) d c s _ _)) $$ Hx1
  ihave Hs := (sSlots_out (F := F) d c s) $$ [Hs0 Hs1 Hs2 Hs3]
  · isplitl [Hs0]; · iexact Hs0
    isplitl [Hs1]; · iexact Hs1
    isplitl [Hs2]; · iexact Hs2
    iexact Hs3
  ihave Hr := (rSlots_out (F := F) d c s) $$ [Hr0 Hr1 Hr2]
  · isplitl [Hr0]; · iexact Hr0
    isplitl [Hr1]; · iexact Hr1
    iexact Hr2
  isplitl [Hx0 Hx1 Hi Ho]
  · isplitl [Hx0 Hx1]
    · isplitl [Hx0] <;> iassumption
    isplitl [Hi]; · iexact Hi
    iexact Ho
  isplitl [Hs Hr Hbufs]
  · isplitl [Hs]; · iexact Hs
    isplitl [Hr]; · iexact Hr
    iexact Hbufs
  isplitl [Hc0 Hc1 Hc2 Hc3 Hg0 Hg1 Hg2 Hg3 Hd0 Hd1 Hd2 Hsems]
  · isplitr [Hsems]
    · isplitl [Hc0]; · iexact Hc0
      isplitl [Hc1]; · iexact Hc1
      isplitl [Hc2]; · iexact Hc2
      isplitl [Hc3]; · iexact Hc3
      isplitl [Hg0]; · iexact Hg0
      isplitl [Hg1]; · iexact Hg1
      isplitl [Hg2]; · iexact Hg2
      isplitl [Hg3]; · iexact Hg3
      isplitl [Hd0]; · iexact Hd0
      isplitl [Hd1]; · iexact Hd1
      iexact Hd2
    iexact Hsems
  iexact HO

end Cert.Proof.Whole

end
-- ==== Proof.AsyncLaunch.lean ====
/-
  The SparseCore call of the whole kernel: its three arrays dealt among the tiles and taken back, what its handshakes
  carry, and its obligation on every tile.
-/
module

public import proofs.«01_k».proof.Proof.AsyncOwn

@[expose] public section

noncomputable section

namespace Cert.Proof.Whole

open Cert.KernelIdeal Cert.KernelIdeal.Gen Cert.Proof.AsyncWords

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

section Facts
variable [FloatOps F] [Named F]

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Facts

/-! ## The arrays as the tiles' pieces -/

section Split

abbrev iSet (b : Fin 2528) : Finset S1x323584.Idx := (Rect.unit (s := S1x323584) ![0, 128 * b.val] S1x128.size (inb_i b)).set
abbrev oSet (b : Fin 2528) : Finset S323584x128.Idx := (Rect.unit (s := S323584x128) ![128 * b.val, 0] S128x128.size (inb_o b)).set

theorem iSet_eq (b : Fin 2528) : (iBlk b).view.set = iSet b := by unfold iBlk; exact View.set_slice_whole _ _
theorem oSet_eq (b : Fin 2528) : (oBlk b).view.set = oSet b := by unfold oBlk; exact View.set_slice_whole _ _

theorem iSet_disjoint (b b' : Fin 2528) (h : b ≠ b') : Disjoint (iSet b) (iSet b') :=
  Ring.lead_disjoint (s := S1x323584) (1 : Fin 2) 128 (fun b : Fin 2528 => (![0, 128 * b.val] : Fin 2 → ℕ)) S1x128.size inb_i (fun b => by simp) rfl b b' h
theorem oSet_disjoint (b b' : Fin 2528) (h : b ≠ b') : Disjoint (oSet b) (oSet b') :=
  Ring.lead_disjoint (s := S323584x128) (0 : Fin 2) 128 (fun b : Fin 2528 => (![128 * b.val, 0] : Fin 2 → ℕ)) S128x128.size inb_o (fun b => by simp) rfl b b' h
theorem iSet_cover : Finset.univ.biUnion iSet = Finset.univ :=
  Ring.lead_cover (s := S1x323584) (1 : Fin 2) 128 (fun b : Fin 2528 => (![0, 128 * b.val] : Fin 2 → ℕ)) S1x128.size inb_i (fun b => by simp)
    (fun b a ha => by fin_cases a <;> first | exact absurd rfl ha | rfl) rfl (fun a ha => by fin_cases a <;> first | exact absurd rfl ha | rfl) (by decide)
theorem oSet_cover : Finset.univ.biUnion oSet = Finset.univ :=
  Ring.lead_cover (s := S323584x128) (0 : Fin 2) 128 (fun b : Fin 2528 => (![128 * b.val, 0] : Fin 2 → ℕ)) S128x128.size inb_o (fun b => by simp)
    (fun b a ha => by fin_cases a <;> first | exact absurd rfl ha | rfl) rfl (fun a ha => by fin_cases a <;> first | exact absurd rfl ha | rfl) (by decide)

/-- A block's number is its tile's and its own within the tile. -/
def blkEquiv : (Fin 2 × Fin 16) × Fin 79 ≃ Fin 2528 :=
  (Equiv.prodCongr (finProdFinEquiv : Fin 2 × Fin 16 ≃ Fin 32) (Equiv.refl (Fin 79))).trans (finProdFinEquiv : Fin 32 × Fin 79 ≃ Fin 2528)

theorem blkEquiv_eq (c : Fin 2) (s : Fin 16) (u : Fin 79) : blkEquiv ((c, s), u) = blk c s u := by
  apply Fin.ext
  show u.val + 79 * (s.val + 16 * c.val) = 79 * (16 * c.val + s.val) + u.val
  omega

variable {M : Type _} [URA M]

/-- A family over the blocks, tile by tile. -/
theorem blocks_tiles (Φ : Fin 2528 → sProp M) :
    bigSep Finset.univ Φ = bigSep Finset.univ fun c : Fin 2 => bigSep Finset.univ fun s : Fin 16 => bigSep Finset.univ fun u : Fin 79 => Φ (blk c s u) := by
  rw [bigSep_univ_equiv blkEquiv Φ, bigSep_univ_prod, bigSep_univ_prod]
  exact bigSep_congr fun c _ => bigSep_congr fun s _ => bigSep_congr fun u _ => congrArg Φ (blkEquiv_eq c s u)

/-- A family over the 32 tiles, core by core. -/
theorem tiles_cores (Φ : Fin 32 → sProp M) :
    bigSep Finset.univ Φ = bigSep Finset.univ fun c : Fin 2 => bigSep Finset.univ fun s : Fin 16 => Φ (tileIx c s) := by
  rw [bigSep_univ_equiv (finProdFinEquiv : Fin 2 × Fin 16 ≃ Fin 32) Φ, bigSep_univ_prod]
  rfl

/-- A family over the 64 shares of the table, two to a tile. -/
theorem pieces_tiles (Φ : Fin 64 → sProp M) :
    bigSep Finset.univ Φ = bigSep Finset.univ fun c : Fin 2 => bigSep Finset.univ fun s : Fin 16 =>
      iprop(Φ (finProdFinEquiv (tileIx c s, (0 : Fin 2))) ∗ Φ (finProdFinEquiv (tileIx c s, (1 : Fin 2)))) := by
  rw [bigSep_univ_equiv (finProdFinEquiv : Fin 32 × Fin 2 ≃ Fin 64) Φ, bigSep_univ_prod, tiles_cores]
  refine bigSep_congr fun c _ => bigSep_congr fun s _ => ?_
  exact bigSep_univ_eq_bigSepL [(0 : Fin 2), 1] (by decide) (by decide) _

end Split

variable [FloatOps F] [Named F]
variable (X : (d : Dev nD) → Buf (Elt F) (xLoc d)) (I : (d : Dev nD) → Buf (Elt F) (iLoc d)) (fo : (d : Dev nD) → Buf (Elt F) (oLoc d))

abbrev xWhole (d : Dev nD) : sProp 𝕄 := xLoc d ↦{fullShare} X d
abbrev iWhole (d : Dev nD) : sProp 𝕄 := iLoc d ↦{fullShare} I d
abbrev oWhole (d : Dev nD) (f : Buf (Elt F) (oLoc d)) : sProp 𝕄 := oLoc d ↦{fullShare} f

/-- The three arrays whole are the tiles' holdings. -/
theorem deal (d : Dev nD) (f : Buf (Elt F) (oLoc d)) :
    (iprop(xWhole X d ∗ iWhole I d ∗ oWhole d f) : sProp 𝕄)
      = bigSep Finset.univ fun c : Fin 2 => bigSep Finset.univ fun s : Fin 16 => tileHas X I d c s f := by
  have hx : xWhole X d = bigSep Finset.univ fun c : Fin 2 => bigSep Finset.univ fun s : Fin 16 =>
      iprop((xLoc d ↦{xq c s 0} X d) ∗ (xLoc d ↦{xq c s 1} X d)) :=
    (pointsTo_piecesOf Finset.univ (X d) (by decide : 0 < 64) fullShare).trans (pieces_tiles _)
  have hi : iWhole I d = bigSep Finset.univ fun c : Fin 2 => bigSep Finset.univ fun s : Fin 16 => bigSep Finset.univ fun u : Fin 79 => iPts d c s (I d) (blk c s u) :=
    (Ring.pointsTo_blocks (ℓ := iLoc d) iSet iSet_disjoint iSet_cover (I d)).trans ((blocks_tiles _).trans
      (bigSep_congr fun c _ => bigSep_congr fun s _ => bigSep_congr fun u _ =>
        congrArg (fun A => (iLoc d ↦[A]{fullShare} I d : sProp 𝕄)) (iSet_eq (blk c s u)).symm))
  have ho : oWhole d f = bigSep Finset.univ fun c : Fin 2 => bigSep Finset.univ fun s : Fin 16 => bigSep Finset.univ fun u : Fin 79 => oPts d c s f (blk c s u) :=
    (Ring.pointsTo_blocks (ℓ := oLoc d) oSet oSet_disjoint oSet_cover f).trans ((blocks_tiles _).trans
      (bigSep_congr fun c _ => bigSep_congr fun s _ => bigSep_congr fun u _ =>
        congrArg (fun A => (oLoc d ↦[A]{fullShare} f : sProp 𝕄)) (oSet_eq (blk c s u)).symm))
  unfold tileHas
  simp only [bigSep_sep']
  simp only [bigSep_sep'] at hx
  rw [← hx, ← hi, ← ho]

/-! ## What the handshakes carry -/

omit [FloatOps F] [Named F] in
theorem pts_storable (ℓ : Loc nD τ sig) (I : Finset (Idx ℓ)) (q : PosShare TreeShare) (f : Buf (Elt F) ℓ) :
    BI.Storable (upEmb : UEmb _ 𝕄) (ℓ ↦[I]{q} f) := inferInstance

instance tileHas_storable (d : Dev nD) (c : Fin 2) (s : Fin 16) (f : Buf (Elt F) (oLoc d)) :
    BI.Storable (upEmb : UEmb _ 𝕄) (tileHas X I d c s f) := by
  have hi : ∀ u : Fin 79, BI.Storable (upEmb : UEmb _ 𝕄) (iPts d c s (I d) (blk c s u)) := fun u => pts_storable _ _ _ _
  have ho : ∀ u : Fin 79, BI.Storable (upEmb : UEmb _ 𝕄) (oPts d c s f (blk c s u)) := fun u => pts_storable _ _ _ _
  unfold tileHas
  exact BI.Storable.sep _ _ _

attribute [local irreducible] tileHas

/-- What the tiles of one SparseCore hold. -/
def coreHas (d : Dev nD) (c : Fin 2) (f : Buf (Elt F) (oLoc d)) : sProp 𝕄 := bigSep Finset.univ fun s : Fin 16 => tileHas X I d c s f

instance coreHas_storable (d : Dev nD) (c : Fin 2) (f : Buf (Elt F) (oLoc d)) : BI.Storable (upEmb : UEmb _ 𝕄) (coreHas X I d c f) := by
  unfold coreHas; infer_instance

theorem deal_cores (d : Dev nD) (f : Buf (Elt F) (oLoc d)) :
    (bigSep Finset.univ fun c : Fin 2 => coreHas X I d c f) = iprop(xWhole X d ∗ iWhole I d ∗ oWhole d f) := by
  unfold coreHas; exact (deal X I d f).symm

attribute [local irreducible] coreHas

/-- The call takes the three arrays as the tiles' holdings, and brings them back with the result gathered. -/
def P : (K (F := F)).Pay (nD := nD) (Val := Elt F) (Name := ℕ) (U := UU) where
  st := fun q d c => match q with | 0 => coreHas X I d (Fin.cast nCore_zero c) (fo d)
  dn := fun q d c => match q with | 0 => coreHas X I d (Fin.cast nCore_zero c) (outAll d (X d) (I d))
  go := fun q d c s => match q with | 0 => tileHas X I d (Fin.cast nCore_zero c) (Fin.cast nSub_zero s) (fo d)
  td := fun q d c s => match q with | 0 => tileHas X I d (Fin.cast nCore_zero c) (Fin.cast nSub_zero s) (outAll d (X d) (I d))
  x := fun _ _ => iprop(emp)

instance P_storable : (P X I fo).IsStorable where
  st q d c := match q with | 0 => coreHas_storable X I d (Fin.cast nCore_zero c) (fo d)
  dn q d c := match q with | 0 => coreHas_storable X I d (Fin.cast nCore_zero c) (outAll d (X d) (I d))
  go q d c s := match q with | 0 => tileHas_storable X I d (Fin.cast nCore_zero c) (Fin.cast nSub_zero s) (fo d)
  td q d c s := match q with | 0 => tileHas_storable X I d (Fin.cast nCore_zero c) (Fin.cast nSub_zero s) (outAll d (X d) (I d))

/-! ## The obligation -/

theorem defs₀_vector (c : Fin τ.nSC) (s : Fin τ.nSub) :
    defs₀ (F := F) (.scVector c s) 1 ()
      = SparseCore.onTile hcore1 hsub1 (fun c s => cc1_run (at2 c s) xM (Memref.isWhole_whole _) iM (Memref.isWhole_whole _) oM (Memref.isWhole_whole _)
          sM (Memref.isWhole_whole _) rM (Memref.isWhole_whole _) cc1_scratch2 cc1_scratch3 cc1_scratch4) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : ∀ d x, (I d x : BitVec 32).toNat < 10008) : (K (F := F)).TileObl (D (F := F)) 𝒱 (P X I fo) v₀ 0 := by
  intro d c i O W hO _ _
  simp only [show (P X I fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X I hF fo hI d (Fin.cast nCore_zero c) (Fin.cast nSub_zero i) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P X I fo) 0 := by
  intro d c
  show coreHas X I d (Fin.cast nCore_zero c) (fo d) ⊢ |={Set.univ}=> iprop(
      (bigSep Finset.univ fun i : Fin ((K (F := F)).nSub 0) => tileHas X I d (Fin.cast nCore_zero c) (Fin.cast nSub_zero i) (fo d))
      ∗ ((bigSep Finset.univ fun i : Fin ((K (F := F)).nSub 0) => tileHas X I d (Fin.cast nCore_zero c) (Fin.cast nSub_zero i) (outAll d (X d) (I d)))
          -∗ coreHas X I d (Fin.cast nCore_zero c) (outAll d (X d) (I d))))
  rw [bigSep_tasks (F := F) (fun i => tileHas X I d (Fin.cast nCore_zero c) i (fo d)), bigSep_tasks (F := F) (fun i => tileHas X I d (Fin.cast nCore_zero c) i (outAll d (X d) (I d)))]
  unfold coreHas
  iintro H; imodintro
  isplitl [H]; · iexact H
  iintro H; iexact H

end Cert.Proof.Whole

end
-- ==== Proof.WholeBodies.lean ====
/-
  The bodies of the kernel's two TensorCore calls, each run once over staging buffers of any memory and slot.

  Each is stated over what its operands READ: from the operand buffers held at contents reading `X₀, X₁, …` and the
  result's buffer held at anything, the body runs to its return, hands the operands back as it found them, and leaves
  in the result's buffer contents that read one pure function of the `Xᵢ`.
-/
module

public import proofs.«01_k».proof.Proof.AsyncLaunch
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Tactic

@[expose] public section

noncomputable section

namespace Cert.Proof.Whole

open Cert.KernelIdeal Cert.KernelIdeal.Gen

open Idealize.ShloMosaic
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-! ## Whole-buffer loads and stores -/

/-- A load of the whole of a buffer reads what the buffer reads: the rectangle at offset zero of the shape's own size
    is the identity on indices. -/
theorem ld_whole {S : Shape} {e : EltTy} (X : S.Idx → Elt F e) (off : Fin S.rank → Nat) (h0 : ∀ a, off a = 0)
    (inb : ∀ a, off a + S.size a ≤ S.size a) : View.ld (Val := Elt F) (e' := e) X (Rect.unit (s := S) off S.size inb) = X := by
  funext x
  show X _ = X x
  congr 1
  funext a
  apply Fin.ext
  show off a + 1 * (x a).val = (x a).val
  rw [h0]; omega

/-- A store of the whole of a buffer leaves what was stored. -/
theorem read_store_whole {sp : Space} {S : Shape} {e : EltTy} {κ : Kind} (v : View sig κ sp S e) (f : v.ty.Contents (Elt F))
    (off : Fin S.rank → Nat) (h0 : ∀ a, off a = 0) (inb : ∀ a, off a + S.size a ≤ S.size a)
    (w : (Rect.unit (s := S) off S.size inb).shape.Idx → Elt F e) :
    v.read (Elt F) (v.writes (Elt F) f [⟨Rect.unit (s := S) off S.size inb, w⟩]) = w := by
  funext x
  have hx : (Rect.unit (s := S) off S.size inb).emb x = x := by
    funext a; apply Fin.ext
    show off a + 1 * (x a).val = (x a).val
    rw [h0]; omega
  conv_lhs => rw [← hx]
  exact View.read_writes_cons_emb _ _ _ _ _ _

/-- Memref `M`'s buffer on core `c`, held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref owned at read contents, as its buffer held. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [Memref.IsWhole.set_eq_univ h]

/-! ## The features' product -/

theorem in2f_run (c : Dev nD) (M0 : Memref sig .tc .vmem S10008x128 .f32) (h0 : M0.IsWhole) (M1 : Memref sig .tc .vmem S128x128 .f32) (h1 : M1.IsWhole)
    (M2 : Memref sig .tc .vmem S10008x128 .f32) (h2 : M2.IsWhole) (X0 : S10008x128.Idx → Elt F .f32) (X1 : S128x128.Idx → Elt F .f32)
    (X2 : S10008x128.Idx → Elt F .f32) (E : Set ℕ) (Q : PUnit → sProp 𝕄) :
    iprop(owns (c : Thread nD τ) M0 fullShare X0 ∗ owns (c : Thread nD τ) M1 fullShare X1 ∗ owns (c : Thread nD τ) M2 fullShare X2
        ∗ (iprop(owns (c : Thread nD τ) M0 fullShare X0 ∗ owns (c : Thread nD τ) M1 fullShare X1
            ∗ owns (c : Thread nD τ) M2 fullShare (k0_pay1 X0 X1)) -∗ Q ⟨⟩))
      ⊢ wp frame (wpE (defs₀ (F := F)) Variants.none c none) E (cc0__in2f_body M0 h0 M1 h1 M2 h2) Q := by
  rw [owns_pt c M0 h0, owns_pt c M1 h1, owns_pt c M2 h2, owns_pt c M2 h2, cc0__in2f_body_eq_skeleton]
  unfold cc0__in2f_body_skel
  iintro ⟨⟨%f0, %e0, H0⟩, ⟨%f1, %e1, H1⟩, ⟨%f2, -, H2⟩, Hk⟩
  subst e0 e1
  sl_exec!
  sl_step
  iapply Hk
  isplitl [H0]; · iexists f0; isplitr; (· ipureintro; rfl); iexact H0
  isplitl [H1]; · iexists f1; isplitr; (· ipureintro; rfl); iexact H1
  iexists _; isplitr; swap; (· iexact H2)
  ipureintro
  exact (read_store_whole M2.view _ _ (fun a => by fin_cases a <;> rfl) _ _).trans
    (congrArg₂ k0_pay1 (ld_whole _ _ (fun a => by fin_cases a <;> rfl) _) (ld_whole _ _ (fun a => by fin_cases a <;> rfl) _))

/-! ## The fused filter and output network, on one block of 400 atoms -/

/-- What the fused body computes of its ten operand blocks. -/
def fusedVal (X0 : S400x32x50.Idx → Elt F .bf16) (X1 : S12800x128.Idx → Elt F .f32) (X2 : S50x128.Idx → Elt F .bf16) (X3 : S1x128.Idx → Elt F .f32)
    (X4 : S128x128.Idx → Elt F .bf16) (X5 : S1x128.Idx → Elt F .f32) (X6 : S128x128.Idx → Elt F .bf16) (X7 : S1x128.Idx → Elt F .f32)
    (X8 : S128x128.Idx → Elt F .bf16) (X9 : S1x128.Idx → Elt F .f32) : S400x128.Idx → Elt F .f32 :=
  k2_pay1 (k2_pay2 X0 X2 X3 X4 X5 X1 X6) X7 X8 X9

set_option maxHeartbeats 2000000 in
theorem fused_run (c : Dev nD) (i : grid2.Coords)
    (M0 : Memref sig .tc .vmem S400x32x50 .bf16) (h0 : M0.IsWhole) (M1 : Memref sig .tc .vmem S12800x128 .f32) (h1 : M1.IsWhole)
    (M2 : Memref sig .tc .vmem S50x128 .bf16) (h2 : M2.IsWhole) (M3 : Memref sig .tc .vmem S1x128 .f32) (h3 : M3.IsWhole)
    (M4 : Memref sig .tc .vmem S128x128 .bf16) (h4 : M4.IsWhole) (M5 : Memref sig .tc .vmem S1x128 .f32) (h5 : M5.IsWhole)
    (M6 : Memref sig .tc .vmem S128x128 .bf16) (h6 : M6.IsWhole) (M7 : Memref sig .tc .vmem S1x128 .f32) (h7 : M7.IsWhole)
    (M8 : Memref sig .tc .vmem S128x128 .bf16) (h8 : M8.IsWhole) (M9 : Memref sig .tc .vmem S1x128 .f32) (h9 : M9.IsWhole)
    (M10 : Memref sig .tc .vmem S400x128 .f32) (h10 : M10.IsWhole)
    (X0 : S400x32x50.Idx → Elt F .bf16) (X1 : S12800x128.Idx → Elt F .f32) (X2 : S50x128.Idx → Elt F .bf16) (X3 : S1x128.Idx → Elt F .f32)
    (X4 : S128x128.Idx → Elt F .bf16) (X5 : S1x128.Idx → Elt F .f32) (X6 : S128x128.Idx → Elt F .bf16) (X7 : S1x128.Idx → Elt F .f32)
    (X8 : S128x128.Idx → Elt F .bf16) (X9 : S1x128.Idx → Elt F .f32) (X10 : S400x128.Idx → Elt F .f32) (E : Set ℕ) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ owns (c : Thread nD τ) M6 fullShare X6 ∗ owns (c : Thread nD τ) M7 fullShare X7 ∗ owns (c : Thread nD τ) M8 fullShare X8
        ∗ owns (c : Thread nD τ) M9 fullShare X9 ∗ owns (c : Thread nD τ) M10 fullShare X10
        ∗ (iprop(owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4 ∗ owns (c : Thread nD τ) M5 fullShare X5
            ∗ owns (c : Thread nD τ) M6 fullShare X6 ∗ owns (c : Thread nD τ) M7 fullShare X7 ∗ owns (c : Thread nD τ) M8 fullShare X8
            ∗ owns (c : Thread nD τ) M9 fullShare X9
            ∗ owns (c : Thread nD τ) M10 fullShare (fusedVal X0 X1 X2 X3 X4 X5 X6 X7 X8 X9)) -∗ Q ⟨⟩))
      ⊢ wp frame (wpE (defs₀ (F := F)) Variants.none c none) E
          (cc2__fused_body i M0 h0 M1 h1 M2 h2 M3 h3 M4 h4 M5 h5 M6 h6 M7 h7 M8 h8 M9 h9 M10 h10) Q := by
  rw [owns_pt c M0 h0, owns_pt c M1 h1, owns_pt c M2 h2, owns_pt c M3 h3, owns_pt c M4 h4, owns_pt c M5 h5, owns_pt c M6 h6,
    owns_pt c M7 h7, owns_pt c M8 h8, owns_pt c M9 h9, owns_pt c M10 h10, owns_pt c M10 h10, cc2__fused_body_eq_skeleton]
  unfold cc2__fused_body_skel
  rw [k2_part1_eq_skeleton]
  unfold k2_part1_skel
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, %e9, H9⟩, ⟨%f10, -, H10⟩, Hk⟩
  subst e0 e1 e2 e3 e4 e5 e6 e7 e8 e9
  sl_exec!
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  iexists _; isplitr; swap; (· iexact H10)
  ipureintro
  have z2 : ∀ a : Fin 2, (![0, 0] : Fin 2 → ℕ) a = 0 := fun a => by fin_cases a <;> rfl
  have z3 : ∀ a : Fin 3, (![0, 0, 0] : Fin 3 → ℕ) a = 0 := fun a => by fin_cases a <;> rfl
  refine (read_store_whole M10.view _ _ z2 _ _).trans ?_
  have l0 := ld_whole (M0.view.read (Elt F) f0) ![0, 0, 0] z3 inb_S400x32x50_S400x32x50_0_0_0
  have l1 := ld_whole (M1.view.read (Elt F) f1) ![0, 0] z2 inb_S12800x128_S12800x128_0_0
  have l2 := ld_whole (M2.view.read (Elt F) f2) ![0, 0] z2 inb_S50x128_S50x128_0_0
  have l3 := ld_whole (M3.view.read (Elt F) f3) ![0, 0] z2 inb_S1x128_S1x128_0_0
  have l4 := ld_whole (M4.view.read (Elt F) f4) ![0, 0] z2 inb_S128x128_S128x128_0_0
  have l5 := ld_whole (M5.view.read (Elt F) f5) ![0, 0] z2 inb_S1x128_S1x128_0_0
  have l6 := ld_whole (M6.view.read (Elt F) f6) ![0, 0] z2 inb_S128x128_S128x128_0_0
  have l7 := ld_whole (M7.view.read (Elt F) f7) ![0, 0] z2 inb_S1x128_S1x128_0_0
  have l8 := ld_whole (M8.view.read (Elt F) f8) ![0, 0] z2 inb_S128x128_S128x128_0_0
  have l9 := ld_whole (M9.view.read (Elt F) f9) ![0, 0] z2 inb_S1x128_S1x128_0_0
  conv_rhs => rw [← l0, ← l1, ← l2, ← l3, ← l4, ← l5, ← l6, ← l7, ← l8, ← l9]
  rfl

end Cert.Proof.Whole

end
-- ==== Proof.WholeRegions.lean ====
/-
  The two TensorCore calls as steps of @main: what each pipeline holds before and after its body at every grid point,
  the body's obligation there, and the call from "every unscoped buffer at valuation `W`" to the same at the valuation
  with the call's result written.

  @main launches a SparseCore call between the two, so beside the buffers it carries what it owes the SparseCores'
  handshakes (`Otc`) and a bound on the levels of the waits it has recorded; a pipeline's own waits are at level zero, so
  both calls keep that bound.
-/
module

public import proofs.«01_k».proof.Proof.WholeBodies
public import Idealize.ShloMosaic.Lib.Pipeline.RegionArrays

@[expose] public section

noncomputable section

namespace Cert.Proof.Whole

open Cert.KernelIdeal Cert.KernelIdeal.Gen

open Idealize.ShloMosaic
open Idealize.ShloMosaic.SparseCore (T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- The valuation at a TensorCore reference, as the contents of that reference's buffer on core `c`. -/
abbrev at' (W : (c : Dev nD) → Valuation τ sig (Elt F)) (c : Dev nD) (b : Ref sig .tc) : Buf (Elt F) ((c : Thread nD τ).loc b) :=
  W c (Proc.devRef .tc b)

/-! ## Proof data -/

/-- What window `w`'s staging buffer holds at point `t` once its block is in: the block of the array at contents `A`
    (where the block runs past the array's end, which none here does, anything). -/
def inBlk (cfg : Cfg sig Λ₀) (c : Dev nD) (A : (w : Fin cfg.W) → Buf (Elt F) ((cfg.win w).arr.view.loc (c : Thread nD τ)))
    (w : Fin cfg.W) (t : Fin cfg.N) : (cfg.win w).block.Idx → Elt F (cfg.win w).elt :=
  (cfg.win w).fill (cfg.grid.coords t) (fun _ => Classical.arbitrary _) (((cfg.win w).blk t).view.read (Elt F) (A w))

variable (W : (c : Dev nD) → Valuation τ sig (Elt F)) (n : ℕ)

/-- The waits recorded before call `n`'s handshake: those at levels below its own. -/
def below (c : Dev nD) (n : ℕ) : Set (SemLoc sig × HIx 1) := {p | (K (F := F)).lev (T c, p.1) p.2 ≤ 8 * (inferInstance : SparseCore.Cfg.Blocks 1 1).fst n}

def Φ0 (c : Dev nD) : sProp 𝕄 := Pipeline.scopedRest (Ix := HIx 1) (Name := ℕ) (U := UU) (Lvl := ℕ) (Val := Elt F) spec0 c
/-- No call prefetches a table. -/
abbrev adm : (p : Fin 2) → (pcfgs (F := F) p).Adm := fun p => (cfgs p).toPCfg_adm
def Φ2 (c : Dev nD) : sProp 𝕄 := Pipeline.scopedRest (Ix := HIx 1) (Name := ℕ) (U := UU) (Lvl := ℕ) (Val := Elt F) (Pipeline.pin (pcfgs (F := F)) adm 1).spec c

abbrev A0 (c : Dev nD) (w : Fin cfg0.W) : Buf (Elt F) ((cfg0.win w).arr.view.loc (c : Thread nD τ)) := at' W c (Pipeline.arrRef spec0 w)
abbrev A2 (c : Dev nD) (w : Fin cfg2.W) : Buf (Elt F) ((cfg2.win w).arr.view.loc (c : Thread nD τ)) := at' W c (Pipeline.arrRef spec2 w)

/-- What the features' product leaves in its result's staging buffer. -/
def out0 (c : Dev nD) (t : Fin cfg0.N) : S10008x128.Idx → Elt F .f32 := k0_pay1 (inBlk cfg0 c (A0 W c) 0 t) (inBlk cfg0 c (A0 W c) 1 t)

/-- What the fused body leaves in its result's staging buffer at point `t`. -/
def out2 (c : Dev nD) (t : Fin cfg2.N) : S400x128.Idx → Elt F .f32 :=
  fusedVal (inBlk cfg2 c (A2 W c) 0 t) (inBlk cfg2 c (A2 W c) 1 t) (inBlk cfg2 c (A2 W c) 2 t) (inBlk cfg2 c (A2 W c) 3 t) (inBlk cfg2 c (A2 W c) 4 t)
    (inBlk cfg2 c (A2 W c) 5 t) (inBlk cfg2 c (A2 W c) 6 t) (inBlk cfg2 c (A2 W c) 7 t) (inBlk cfg2 c (A2 W c) 8 t) (inBlk cfg2 c (A2 W c) 9 t)

def dat0 (c : Dev nD) : Dat τ (Elt F) (HIx 1) ℕ UU ℕ cfg0 c where
  A := A0 W c
  after w t := match w with
    | ⟨0, _⟩ => inBlk cfg0 c (A0 W c) 0 t
    | ⟨1, _⟩ => inBlk cfg0 c (A0 W c) 1 t
    | ⟨2, _⟩ => out0 W c t
  Φ _ := Φ0 c
  q _ := fullShare
  owed _ := (K (F := F)).Otc c n
  recorded _ := below (F := F) c n

def dat2 (c : Dev nD) : Dat τ (Elt F) (HIx 1) ℕ UU ℕ cfg2 c where
  A := A2 W c
  after w t := match w with
    | ⟨0, _⟩ => inBlk cfg2 c (A2 W c) 0 t
    | ⟨1, _⟩ => inBlk cfg2 c (A2 W c) 1 t
    | ⟨2, _⟩ => inBlk cfg2 c (A2 W c) 2 t
    | ⟨3, _⟩ => inBlk cfg2 c (A2 W c) 3 t
    | ⟨4, _⟩ => inBlk cfg2 c (A2 W c) 4 t
    | ⟨5, _⟩ => inBlk cfg2 c (A2 W c) 5 t
    | ⟨6, _⟩ => inBlk cfg2 c (A2 W c) 6 t
    | ⟨7, _⟩ => inBlk cfg2 c (A2 W c) 7 t
    | ⟨8, _⟩ => inBlk cfg2 c (A2 W c) 8 t
    | ⟨9, _⟩ => inBlk cfg2 c (A2 W c) 9 t
    | ⟨10, _⟩ => out2 W c t
  Φ _ := Φ2 c
  q _ := fullShare
  owed _ := (K (F := F)).Otc c n
  recorded _ := below (F := F) c n

/-! ## What the bodies find in their operands' buffers -/

/-- Window 1's blocks lie within its array: 25 blocks of 12800 rows of an array of 323584. -/
theorem uncut2_1 : ∀ (i : grid2.Coords) (a : Fin 2), win2_1.xsize i a = S12800x128.size a := by decide +kernel

theorem before2 (c : Dev nD) (w : Fin cfg2.W) (hw : (cfg2.win w).isOut = false)
    (hclip : ∀ t t' : Fin cfg2.N, (cfg2.win w).index t = (cfg2.win w).index t' →
      (cfg2.win w).clip (cfg2.grid.coords t) = (cfg2.win w).clip (cfg2.grid.coords t'))
    (hkeep : ∀ t, (dat2 W n c).after w t = inBlk cfg2 c (A2 W c) w t)
    (hcut : ∀ i a, (cfg2.win w).xsize i a = (cfg2.win w).block.size a)
    (t : Fin cfg2.N) (d : (cfg2.win w).block.Idx → Elt F (cfg2.win w).elt) : (dat2 W n c).before w t d = inBlk cfg2 c (A2 W c) w t := by
  rw [Dat.before_in_eq_fetched (dat2 W n c) w hw (fun _ => rfl) hclip (fun t => by rw [hkeep]; unfold inBlk; rw [(cfg2.win w).cut_fill]; rfl) t d]
  funext j
  unfold Dat.fetched inBlk
  obtain ⟨j', rfl⟩ : ∃ j', (cfg2.win w).xinj (cfg2.grid.coords t) j' = j :=
    ⟨fun a => ⟨(j a).val, by have := (j a).isLt; have e := hcut (cfg2.grid.coords t) a; show (j a).val < (cfg2.win w).xsize _ a; rw [e]; exact this⟩, rfl⟩
  rw [(cfg2.win w).fill_xinj, (cfg2.win w).fill_xinj]; rfl

theorem before0_0 (c : Dev nD) (t : Fin cfg0.N) (d) : (dat0 W n c).before 0 t d = inBlk cfg0 c (A0 W c) 0 t := by
  unfold Dat.before; rw [if_pos (fetch0_0 t)]; rfl
theorem before0_1 (c : Dev nD) (t : Fin cfg0.N) (d) : (dat0 W n c).before 1 t d = inBlk cfg0 c (A0 W c) 1 t := by
  unfold Dat.before; rw [if_pos (fetch0_1 t)]; rfl

theorem before2_0 (c : Dev nD) (t : Fin cfg2.N) (d) : (dat2 W n c).before 0 t d = inBlk cfg2 c (A2 W c) 0 t :=
  before2 W n c 0 rfl (fun _ _ _ => rfl) (fun _ => rfl) (fun _ _ => rfl) t d
theorem before2_1 (c : Dev nD) (t : Fin cfg2.N) (d) : (dat2 W n c).before 1 t d = inBlk cfg2 c (A2 W c) 1 t := by
  unfold Dat.before; rw [if_pos (fetch2_1 t)]
  funext j
  unfold Dat.fetched inBlk
  obtain ⟨j', rfl⟩ : ∃ j', (cfg2.win 1).xinj (cfg2.grid.coords t) j' = j :=
    ⟨fun a => ⟨(j a).val, by have := (j a).isLt; have e := uncut2_1 (cfg2.grid.coords t) a; show (j a).val < win2_1.xsize _ a; rw [e]; exact this⟩, rfl⟩
  rw [(cfg2.win 1).fill_xinj, (cfg2.win 1).fill_xinj]; rfl
theorem before2_2 (c : Dev nD) (t : Fin cfg2.N) (d) : (dat2 W n c).before 2 t d = inBlk cfg2 c (A2 W c) 2 t :=
  before2 W n c 2 rfl (fun _ _ _ => rfl) (fun _ => rfl) (fun _ _ => rfl) t d
theorem before2_3 (c : Dev nD) (t : Fin cfg2.N) (d) : (dat2 W n c).before 3 t d = inBlk cfg2 c (A2 W c) 3 t :=
  before2 W n c 3 rfl (fun _ _ _ => rfl) (fun _ => rfl) (fun _ _ => rfl) t d
theorem before2_4 (c : Dev nD) (t : Fin cfg2.N) (d) : (dat2 W n c).before 4 t d = inBlk cfg2 c (A2 W c) 4 t :=
  before2 W n c 4 rfl (fun _ _ _ => rfl) (fun _ => rfl) (fun _ _ => rfl) t d
theorem before2_5 (c : Dev nD) (t : Fin cfg2.N) (d) : (dat2 W n c).before 5 t d = inBlk cfg2 c (A2 W c) 5 t :=
  before2 W n c 5 rfl (fun _ _ _ => rfl) (fun _ => rfl) (fun _ _ => rfl) t d
theorem before2_6 (c : Dev nD) (t : Fin cfg2.N) (d) : (dat2 W n c).before 6 t d = inBlk cfg2 c (A2 W c) 6 t :=
  before2 W n c 6 rfl (fun _ _ _ => rfl) (fun _ => rfl) (fun _ _ => rfl) t d
theorem before2_7 (c : Dev nD) (t : Fin cfg2.N) (d) : (dat2 W n c).before 7 t d = inBlk cfg2 c (A2 W c) 7 t :=
  before2 W n c 7 rfl (fun _ _ _ => rfl) (fun _ => rfl) (fun _ _ => rfl) t d
theorem before2_8 (c : Dev nD) (t : Fin cfg2.N) (d) : (dat2 W n c).before 8 t d = inBlk cfg2 c (A2 W c) 8 t :=
  before2 W n c 8 rfl (fun _ _ _ => rfl) (fun _ => rfl) (fun _ _ => rfl) t d
theorem before2_9 (c : Dev nD) (t : Fin cfg2.N) (d) : (dat2 W n c).before 9 t d = inBlk cfg2 c (A2 W c) 9 t :=
  before2 W n c 9 rfl (fun _ _ _ => rfl) (fun _ => rfl) (fun _ _ => rfl) t d

/-! ## The bodies' obligations -/

theorem body0 (c : Dev nD) : BodyObligation (dat0 W n c) (defs₀ (F := F)) 𝒱₀ (none : HIx 1) Set.univ := fun t => by
  rw [bigSep_W0, bigSep_W0]
  rw [show (dat0 W n c).Φ t.castSucc = Φ0 c from rfl, show (dat0 W n c).Φ t.succ = Φ0 c from rfl,
    show (dat0 W n c).owesAt none t.succ = (dat0 W n c).owesAt none t.castSucc from rfl]
  iintro ⟨HΦ, Howes, ⟨%d0, H0⟩, ⟨%d1, H1⟩, ⟨%d2, H2⟩⟩
  rw [before0_0, before0_1]
  iapply (in2f_run c (st0_0 t) (hstage0_0 0) (st0_1 t) (hstage0_1 0) (st0_2 t) (hstage0_2 0)
    (inBlk cfg0 c (A0 W c) 0 t) (inBlk cfg0 c (A0 W c) 1 t) ((dat0 W n c).before 2 t d2) Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem inv2 (c : Dev nD) (t : Fin (cfg2.N + 1)) : (dat2 W n c).Φ t = Φ2 c := by rw [dat2]
/-- The second call owes the same at every point. -/
theorem owes2 (c : Dev nD) (t t' : Fin (cfg2.N + 1)) : (dat2 W n c).owesAt none t = (dat2 W n c).owesAt none t' := by
  have e₁ : (dat2 W n c).owed t = (dat2 W n c).owed t' := rfl
  have e₂ : (dat2 W n c).recorded t = (dat2 W n c).recorded t' := rfl
  unfold Dat.owesAt Dat.bound
  rw [e₁, e₂]

theorem body2 (c : Dev nD) : BodyObligation (dat2 W n c) (defs₀ (F := F)) 𝒱₀ (none : HIx 1) Set.univ := fun t => by
  rw [bigSep_W2, bigSep_W2]
  rw [inv2 W n c t.castSucc, inv2 W n c t.succ, owes2 W n c t.succ t.castSucc]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before2_0, before2_1, before2_2, before2_3, before2_4, before2_5, before2_6, before2_7, before2_8, before2_9]
  iapply (fused_run c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3))
    (st2_4 t) (hstage2_4 ((cfg2.slots t 4).cast nbuf2_4)) (st2_5 t) (hstage2_5 ((cfg2.slots t 5).cast nbuf2_5))
    (st2_6 t) (hstage2_6 ((cfg2.slots t 6).cast nbuf2_6)) (st2_7 t) (hstage2_7 ((cfg2.slots t 7).cast nbuf2_7))
    (st2_8 t) (hstage2_8 ((cfg2.slots t 8).cast nbuf2_8)) (st2_9 t) (hstage2_9 ((cfg2.slots t 9).cast nbuf2_9))
    (st2_10 t) (hstage2_10 ((cfg2.slots t 10).cast nbuf2_10))
    (inBlk cfg2 c (A2 W c) 0 t) (inBlk cfg2 c (A2 W c) 1 t) (inBlk cfg2 c (A2 W c) 2 t) (inBlk cfg2 c (A2 W c) 3 t) (inBlk cfg2 c (A2 W c) 4 t)
    (inBlk cfg2 c (A2 W c) 5 t) (inBlk cfg2 c (A2 W c) 6 t) (inBlk cfg2 c (A2 W c) 7 t) (inBlk cfg2 c (A2 W c) 8 t) (inBlk cfg2 c (A2 W c) 9 t)
    ((dat2 W n c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The calls over the thread state -/

/-- What rides beside the buffers: what the TensorCore owes the handshakes from call `n` on, its recorded waits below. -/
def debt (n : ℕ) (c : Dev nD) : sProp 𝕄 :=
  iprop(∃ R, ⌜(K (F := F)).WBelow (T c) R (8 * (inferInstance : SparseCore.Cfg.Blocks 1 1).fst n)⌝ ∗ owes (T c) ((K (F := F)).Otc c n) R)

theorem Otc_none (c : Dev nD) (g : GSem nD τ sig) : (K (F := F)).Otc (N := 1) c n g none = 0 := by
  by_contra h
  have := SparseCore.Cfg.lev_of_Otc_pos (K := K (F := F)) (Nat.pos_of_ne_zero h)
  rw [SparseCore.Cfg.lev_none] at this
  omega

variable (pdats : (p : Fin 2) → (c : Dev nD) → Dat τ (Elt F) (HIx 1) ℕ UU ℕ (Pipeline.pin (pcfgs (F := F)) adm p) c)

set_option backward.isDefEq.respectTransparency.types false in
/-- A call between two valuations that agree off its arrays, at which the arrays are what the proof data says before the
    first point and after the last. -/
def segOf (p : Fin 2) (kit : Pipeline.PLaunchFacts (nD := nD) (τ := τ) (pcfgs (F := F)) p) (hK : (pcfgs (F := F) p).pre.K = 0)
    (hbody : ∀ c, BodyObligation (pdats p c) (defs₀ (F := F)) 𝒱₀ (none : HIx 1) Set.univ)
    (howed : ∀ c t, (pdats p c).owed t = (K (F := F)).Otc c n) (hrec : ∀ c t, (pdats p c).recorded t = below (F := F) c n)
    (hshare : ∀ c w, (pdats p c).share w = fullShare)
    (hΦ : ∀ c t, (pdats p c).Φ t = Pipeline.scopedRest (Pipeline.pin (pcfgs (F := F)) adm p).spec c)
    (W W' : (c : Dev nD) → Valuation τ sig (Elt F))
    (hW : ∀ c w, (pdats p c).arrAt w 0 = W c (Proc.devRef .tc (Pipeline.arrRef (Pipeline.pin (pcfgs (F := F)) adm p).spec w)))
    (hW' : ∀ c w, (pdats p c).arrAt w (Pipeline.pin (pcfgs (F := F)) adm p).N = W' c (Proc.devRef .tc (Pipeline.arrRef (Pipeline.pin (pcfgs (F := F)) adm p).spec w)))
    (hoff : ∀ c, ∀ b ∈ Pipeline.ucRefs τ sig \ Pipeline.arrRefs (τ := τ) (pcfgs (F := F) p).spec, W c b = W' c b) :
    Pipeline.RegionSeg (pcfgs (F := F)) adm pdats (none : HIx 1) (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := Pipeline.cellsWaits_intro (Pipeline.pin (pcfgs (F := F)) adm) pdats (none : HIx 1) p c fun w s t => by
    rw [howed c t]
    exact (K (F := F)).mayWait_none _ (Otc_none n c)
  pre c := iprop(StableHlo.held (c : Thread nD τ) (Pipeline.ucRefs τ sig) (W c) ∗ debt (F := F) n c)
  post c := iprop(StableHlo.held (c : Thread nD τ) (Pipeline.ucRefs τ sig) (W' c) ∗ debt (F := F) n c)
  X _ := BI.emp
  Y _ := BI.emp
  Z c := StableHlo.held (c : Thread nD τ) (Pipeline.ucRefs τ sig \ Pipeline.arrRefs (τ := τ) (pcfgs (F := F) p).spec) (W c)
  hentry c := by
    rw [Pipeline.ownSems0_none, Pipeline.prefHeld_of_none _ hK,
      StableHlo.held_sub_split (c : Thread nD τ) (Pipeline.arrRefs_sub_ucRefs (pcfgs (F := F) p).spec kit.win.arr_unscoped) (W c),
      ← Pipeline.arrays_held (pcfgs (F := F)) adm pdats p kit c (hshare c) ((pdats p c).arrAt · 0) (W c) (hW c)]
    iintro ⟨⟨⟨Ha, Hrest⟩, HO⟩, -, -⟩
    imodintro
    isplitl [Ha]; · iexact Ha
    isplitr; · iempintro
    isplitl [HO]
    · unfold Pipeline.Dat.owesAt Pipeline.owesWithin Pipeline.Dat.bound debt
      rw [howed c 0, hrec c 0]
      icases HO with ⟨%R, %hR, HO⟩; iexists R; isplitr
      · ipureintro; exact fun p hp => Or.inl (hR p hp)
      iexact HO
    isplitr; · iempintro
    iexact Hrest
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    rw [StableHlo.held_sub_split (c : Thread nD τ) (Pipeline.arrRefs_sub_ucRefs (pcfgs (F := F) p).spec kit.win.arr_unscoped) (W' c),
      ← Pipeline.arrays_held (pcfgs (F := F)) adm pdats p kit c (hshare c) ((pdats p c).arrAt · (Pipeline.pin (pcfgs (F := F)) adm p).N) (W' c) (hW' c),
      StableHlo.held_congr (c := (c : Thread nD τ)) (hoff c)]
    iintro ⟨Ha, HO, -, Hrest⟩
    imodintro
    isplitl [Ha Hrest]
    · isplitl [Ha] <;> iassumption
    unfold Pipeline.Dat.owesAt Pipeline.owesWithin Pipeline.Dat.bound debt
    rw [howed c (Fin.last _), hrec c (Fin.last _)]
    icases HO with ⟨%R, %hR, HO⟩; iexists R; isplitr
    · ipureintro
      intro p hp
      rcases hR hp with h | ⟨w, s, h⟩
      · exact h
      · rw [h]; exact Nat.zero_le _
    iexact HO

end Cert.Proof.Whole

end
-- ==== Proof.WholeHost.lean ====
/-
  @main's stretches of host operations, as lists, and @main as those stretches with its three calls between them; what
  each stretch leaves in the buffers the calls read, and that it leaves the arguments as they were.
-/
module

public import proofs.«01_k».proof.Proof.WholeRegions
public import Idealize.ShloMosaic.Lib.StableHlo.Run

@[expose] public section

noncomputable section

namespace Cert.Proof.Whole

open Cert.KernelIdeal Cert.KernelIdeal.Gen

open Idealize.ShloMosaic Idealize.ShloMosaic.TcCoe Idealize.ShloMosaic.StableHlo Idealize.SL.Sem

variable {F : FTy → Type} [FloatOps F] [Named F]

/-- The table padded, before the first call. -/
abbrev opsA : List (HloOp τ sig (Elt F)) :=
  [ reshape main_arg0 main_v0 (rfl : (.f32 : EltTy) = .f32) shapeCasts_S4x2500x128_S10000x128,
    nullary main_c (constantI S_ 32 0#32),
    TRef.unary (.of main_c : TRef sig ⟨S_, .i32⟩) main_call0.v0 (sitofp .f32),
    TRef.binary (.of main_v0 : TRef sig ⟨S10000x128, .f32⟩) main_call0.v0 main_call0.v1 (fun x v => pad S10008x128 ![0, 0] ![8, 0] ![0, 0] x v pads_S10000x128_S10008x128_080_000 h_S_) ]

/-- The list of rows to gather, before the SparseCore call. -/
abbrev opsB : List (HloOp τ sig (Elt F)) :=
  [ nullary main_cst (constant S_ .f32 0x00000000#32),
    unary main_cst main_v3 (broadcastInDim S4x2500x32 ![] bcast_S_S4x2500x32 : (⟨S_, .f32⟩ : BufTy).Contents (Elt F) → (⟨S4x2500x32, .f32⟩ : BufTy).Contents (Elt F)),
    binary main_arg3 main_v3 main_v4 (cmpf .une : (⟨S4x2500x32, .f32⟩ : BufTy).Contents (Elt F) → (⟨S4x2500x32, .f32⟩ : BufTy).Contents (Elt F) → (⟨S4x2500x32, .i1⟩ : BufTy).Contents (Elt F)),
    nullary main_cst_0 (constant S_ .f32 0x40A00000#32),
    unary main_cst_0 main_v5 (broadcastInDim S4x2500x32 ![] bcast_S_S4x2500x32 : (⟨S_, .f32⟩ : BufTy).Contents (Elt F) → (⟨S4x2500x32, .f32⟩ : BufTy).Contents (Elt F)),
    binary main_arg1 main_v5 main_v6 (cmpf .ole : (⟨S4x2500x32, .f32⟩ : BufTy).Contents (Elt F) → (⟨S4x2500x32, .f32⟩ : BufTy).Contents (Elt F) → (⟨S4x2500x32, .i1⟩ : BufTy).Contents (Elt F)),
    binary main_v4 main_v6 main_v7 (andi : (⟨S4x2500x32, .i1⟩ : BufTy).Contents (Elt F) → (⟨S4x2500x32, .i1⟩ : BufTy).Contents (Elt F) → (⟨S4x2500x32, .i1⟩ : BufTy).Contents (Elt F)),
    nullary main_v8 (iotaInDim S4 32 0),
    nullary main_c_1 (constantI S_ 32 2500#32),
    unary main_c_1 main_v9 (broadcastInDim S4 ![] bcast_S_S4 : (⟨S_, .i32⟩ : BufTy).Contents (Elt F) → (⟨S4, .i32⟩ : BufTy).Contents (Elt F)),
    binary main_v8 main_v9 main_v10 (muli : (⟨S4, .i32⟩ : BufTy).Contents (Elt F) → (⟨S4, .i32⟩ : BufTy).Contents (Elt F) → (⟨S4, .i32⟩ : BufTy).Contents (Elt F)),
    unary main_v10 main_v11 (broadcastInDim S4x1x1 ![0] bcast_S4_S4x1x1_0 : (⟨S4, .i32⟩ : BufTy).Contents (Elt F) → (⟨S4x1x1, .i32⟩ : BufTy).Contents (Elt F)),
    unary main_v11 main_v12 (broadcastInDim S4x2500x32 ![0, 1, 2] bcast_S4x1x1_S4x2500x32_0_1_2 : (⟨S4x1x1, .i32⟩ : BufTy).Contents (Elt F) → (⟨S4x2500x32, .i32⟩ : BufTy).Contents (Elt F)),
    binary main_arg2 main_v12 main_v13 (addi : (⟨S4x2500x32, .i32⟩ : BufTy).Contents (Elt F) → (⟨S4x2500x32, .i32⟩ : BufTy).Contents (Elt F) → (⟨S4x2500x32, .i32⟩ : BufTy).Contents (Elt F)),
    nullary main_c_2 (constantI S_ 32 10000#32),
    TRef.unary (.of main_c_2 : TRef sig ⟨S_, .i32⟩) main_call1.v0 id,
    TRef.unary main_call1.v0 main_call1.v1 (broadcastInDim S4x2500x32 ![] bcast_S_S4x2500x32),
    TRef.ternary (.of main_v7 : TRef sig ⟨S4x2500x32, .i1⟩) (.of main_v13 : TRef sig ⟨S4x2500x32, .i32⟩) main_call1.v1 main_call1.v2 select,
    reshape main_v14 main_v15 (rfl : (.i32 : EltTy) = .i32) shapeCasts_S4x2500x32_S320000,
    nullary main_c_3 (constantI S_ 32 0#32),
    TRef.unary (.of main_c_3 : TRef sig ⟨S_, .i32⟩) main_call2.v0 id,
    TRef.binary (.of main_v15 : TRef sig ⟨S320000, .i32⟩) main_call2.v0 main_call2.v1 (fun x v => pad S323584 ![0] ![3584] ![0] x v pads_S320000_S323584_035840 h_S_),
    reshape main_v16 main_v17 (rfl : (.i32 : EltTy) = .i32) shapeCasts_S323584_S1x323584 ]

/-- The last call's operands. -/
abbrev opsC : List (HloOp τ sig (Elt F)) :=
  [ reshape main_arg4 main_v19 (rfl : (.f32 : EltTy) = .f32) shapeCasts_S4x2500x32x50_S10000x32x50,
    unary main_v19 main_v20 ((truncf .bf16 · bitsLt_bf16_f32) : (⟨S10000x32x50, .f32⟩ : BufTy).Contents (Elt F) → (⟨S10000x32x50, .bf16⟩ : BufTy).Contents (Elt F)),
    unary main_arg6 main_v21 ((truncf .bf16 · bitsLt_bf16_f32) : (⟨S50x128, .f32⟩ : BufTy).Contents (Elt F) → (⟨S50x128, .bf16⟩ : BufTy).Contents (Elt F)),
    reshape main_arg7 main_v22 (rfl : (.f32 : EltTy) = .f32) shapeCasts_S128_S1x128,
    unary main_arg8 main_v23 ((truncf .bf16 · bitsLt_bf16_f32) : (⟨S128x128, .f32⟩ : BufTy).Contents (Elt F) → (⟨S128x128, .bf16⟩ : BufTy).Contents (Elt F)),
    reshape main_arg9 main_v24 (rfl : (.f32 : EltTy) = .f32) shapeCasts_S128_S1x128,
    unary main_arg10 main_v25 ((truncf .bf16 · bitsLt_bf16_f32) : (⟨S128x128, .f32⟩ : BufTy).Contents (Elt F) → (⟨S128x128, .bf16⟩ : BufTy).Contents (Elt F)),
    reshape main_arg11 main_v26 (rfl : (.f32 : EltTy) = .f32) shapeCasts_S128_S1x128,
    unary main_arg12 main_v27 ((truncf .bf16 · bitsLt_bf16_f32) : (⟨S128x128, .f32⟩ : BufTy).Contents (Elt F) → (⟨S128x128, .bf16⟩ : BufTy).Contents (Elt F)),
    reshape main_arg13 main_v28 (rfl : (.f32 : EltTy) = .f32) shapeCasts_S128_S1x128 ]

/-- The result. -/
abbrev opsD : List (HloOp τ sig (Elt F)) :=
  [ reshape main_v29 main_v30 (rfl : (.f32 : EltTy) = .f32) shapeCasts_S10000x128_S4x2500x128 ]

theorem opsA_sub : (opsA : List (HloOp τ sig (Elt F))).Forall fun op => op.bufs ⊆ tcRefs τ sig :=
  ⟨reshape_bufs_sub .., nullary_bufs_sub .., unary_bufs_sub .., binary_bufs_sub ..⟩
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., nullary_bufs_sub .., unary_bufs_sub .., binary_bufs_sub .., unary_bufs_sub .., unary_bufs_sub .., binary_bufs_sub .., nullary_bufs_sub .., unary_bufs_sub .., unary_bufs_sub .., ternary_bufs_sub .., reshape_bufs_sub .., nullary_bufs_sub .., unary_bufs_sub .., binary_bufs_sub .., reshape_bufs_sub ..⟩
theorem opsC_sub : (opsC : List (HloOp τ sig (Elt F))).Forall fun op => op.bufs ⊆ tcRefs τ sig :=
  ⟨reshape_bufs_sub .., unary_bufs_sub .., unary_bufs_sub .., reshape_bufs_sub .., unary_bufs_sub .., reshape_bufs_sub .., unary_bufs_sub .., reshape_bufs_sub .., unary_bufs_sub .., reshape_bufs_sub ..⟩
theorem opsD_sub : (opsD : List (HloOp τ sig (Elt F))).Forall fun op => op.bufs ⊆ tcRefs τ sig :=
  reshape_bufs_sub ..

theorem opsA_fresh : (opsA : List (HloOp τ sig (Elt F))).Forall fun op => op.fresh = ∅ := ⟨rfl, rfl, rfl, rfl⟩
theorem opsB_fresh : (opsB : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl⟩
theorem opsC_fresh : (opsC : List (HloOp τ sig (Elt F))).Forall fun op => op.fresh = ∅ := ⟨rfl, rfl, rfl, rfl, rfl, rfl, rfl, rfl, rfl, rfl⟩
theorem opsD_fresh : (opsD : List (HloOp τ sig (Elt F))).Forall fun op => op.fresh = ∅ := rfl

/-- The operations touch only buffers that outlive every call. -/
theorem sub_of (ops : List (HloOp τ sig (Elt F))) (h : ops.Forall fun op => op.bufs ⊆ tcRefs τ sig) : ∀ op ∈ ops, op.bufs ⊆ Pipeline.ucRefs τ sig :=
  fun op hop => Pipeline.sub_ucRefs op (List.forall_iff_forall_mem.mp h op hop)

/-- @main: the stretches, with the three calls between them. -/
theorem main_split (d : Dev nD) : main (F := F) d
    = (seq opsA >>= fun _ => Prog.lift (.customCall (SparseCore.inner (Pipeline.entry 0)) ()) >>= fun _ =>
        seq opsB >>= fun _ => (K (F := F)).run d 0 >>= fun _ =>
        seq opsC >>= fun _ => Prog.lift (.customCall (SparseCore.inner (Pipeline.entry 1)) ()) >>= fun _ => seq opsD) := by
  chain_rfl

end Cert.Proof.Whole

end
-- ==== Proof.WholeMain.lean ====
/-
  The whole kernel's run: what every unscoped buffer holds between @main's steps, the two TensorCore calls as steps
  between two of those valuations, and @main's run from the launch to its end.

  The SparseCore call takes the projected rows and the list out of the valuation, deals them to the tiles with the
  result, and puts back the gathered rows.
-/
module

public import proofs.«01_k».proof.Proof.WholeHost

@[expose] public section

noncomputable section

namespace Cert.Proof.Whole

open Cert.KernelIdeal Cert.KernelIdeal.Gen

open Idealize.ShloMosaic
open Idealize.ShloMosaic.SparseCore (T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The valuations -/

abbrev Val1 : Type := (c : Dev nD) → Valuation τ sig (Elt F)

/-- The table padded. -/
def W₁ : Val1 (F := F) := fun c => StableHlo.after opsA (StableHlo.launchContents m c)
/-- The table projected. -/
def W₂ : Val1 (F := F) := fun c => Function.update (W₁ m c) (Proc.devRef .tc main_v2) ((dat0 (W₁ m) 0 c).arrAt 2 cfg0.N)
/-- The list made. -/
def W₃ : Val1 (F := F) := fun c => StableHlo.after opsB (W₂ m c)
/-- The rows gathered. -/
def W₄ : Val1 (F := F) := fun c =>
  Function.update (W₃ m c) (Proc.devRef .tc main_v18) (outAll c (W₃ m c (Proc.devRef .tc main_v2)) (W₃ m c (Proc.devRef .tc main_v17)))
/-- The last call's operands made. -/
def W₅ : Val1 (F := F) := fun c => StableHlo.after opsC (W₄ m c)
/-- The last call done. -/
def W₆ : Val1 (F := F) := fun c => Function.update (W₅ m c) (Proc.devRef .tc main_v29) ((dat2 (W₅ m) 1 c).arrAt 10 cfg2.N)
/-- The result. -/
def W₇ : Val1 (F := F) := fun c => StableHlo.after opsD (W₆ m c)

/-- What the SparseCore call finds in its three arrays. -/
abbrev Xm (d : Dev nD) : Buf (Elt F) (xLoc d) := W₃ m d (Proc.devRef .tc main_v2)
abbrev Im (d : Dev nD) : Buf (Elt F) (iLoc d) := W₃ m d (Proc.devRef .tc main_v17)
abbrev Om (d : Dev nD) : Buf (Elt F) (oLoc d) := W₃ m d (Proc.devRef .tc main_v18)

/-! ## The two TensorCore calls -/

def pdats : (p : Fin 2) → (c : Dev nD) → Dat τ (Elt F) (HIx 1) ℕ UU ℕ (Pipeline.pin (pcfgs (F := F)) adm p) c
  | 0 => fun c => dat0 (W₁ m) 0 c
  | 1 => fun c => dat2 (W₅ m) 1 c

theorem off_v2 (c : Dev nD) (b : DevRef τ sig) (hb : b ∈ Pipeline.ucRefs τ sig \ Pipeline.arrRefs (τ := τ) spec0) : W₁ m c b = W₂ m c b := by
  unfold W₂
  rw [Function.update_of_ne]
  rintro rfl
  exact (Finset.mem_sdiff.mp hb).2 (by decide)
theorem off_v29 (c : Dev nD) (b : DevRef τ sig) (hb : b ∈ Pipeline.ucRefs τ sig \ Pipeline.arrRefs (τ := τ) spec2) : W₅ m c b = W₆ m c b := by
  unfold W₆
  rw [Function.update_of_ne]
  rintro rfl
  exact (Finset.mem_sdiff.mp hb).2 (by decide)

theorem W₂_ne (c : Dev nD) {b : Ref sig .tc} (h : b ≠ main_v2) : W₂ m c (Proc.devRef .tc b) = W₁ m c (Proc.devRef .tc b) := by
  unfold W₂; exact Function.update_of_ne (fun e => h (Proc.devRef_injective .tc e)) _ _
theorem W₆_ne (c : Dev nD) {b : Ref sig .tc} (h : b ≠ main_v29) : W₆ m c (Proc.devRef .tc b) = W₅ m c (Proc.devRef .tc b) := by
  unfold W₆; exact Function.update_of_ne (fun e => h (Proc.devRef_injective .tc e)) _ _
theorem W₂_self (c : Dev nD) : W₂ m c (Proc.devRef .tc main_v2) = (dat0 (W₁ m) 0 c).arrAt 2 cfg0.N := by
  unfold W₂; exact Function.update_self (Proc.devRef .tc main_v2) _ (W₁ m c)
theorem W₆_self (c : Dev nD) : W₆ m c (Proc.devRef .tc main_v29) = (dat2 (W₅ m) 1 c).arrAt 10 cfg2.N := by
  unfold W₆; exact Function.update_self (Proc.devRef .tc main_v29) _ (W₅ m c)

theorem operand0_ne : ∀ w : Fin 3, w ≠ 2 → Pipeline.arrRef spec0 w ≠ main_v2 := by decide
theorem operand0_in : ∀ w : Fin 3, w ≠ 2 → (spec0 w).isOut = false := by decide
theorem operand2_ne : ∀ w : Fin 11, w ≠ 10 → Pipeline.arrRef spec2 w ≠ main_v29 := by decide
theorem operand2_in : ∀ w : Fin 11, w ≠ 10 → (spec2 w).isOut = false := by decide

theorem arr0_in (c : Dev nD) (w : Fin 3) : (dat0 (W₁ m) 0 c).arrAt w cfg0.N = W₂ m c (Proc.devRef .tc (Pipeline.arrRef spec0 w)) := by
  by_cases hw : w = 2
  · subst hw; exact (W₂_self m c).symm
  · exact ((dat0 (W₁ m) 0 c).arrAt_in w (operand0_in w hw) _).trans (W₂_ne m c (operand0_ne w hw)).symm

theorem arr2_in (c : Dev nD) (w : Fin 11) : (dat2 (W₅ m) 1 c).arrAt w cfg2.N = W₆ m c (Proc.devRef .tc (Pipeline.arrRef spec2 w)) := by
  by_cases hw : w = 10
  · subst hw; exact (W₆_self m c).symm
  · exact ((dat2 (W₅ m) 1 c).arrAt_in w (operand2_in w hw) _).trans (W₆_ne m c (operand2_ne w hw)).symm

theorem share0 (c : Dev nD) (w : Fin 3) : (dat0 (W₁ m) 0 c).share w = fullShare := by
  unfold Dat.share; split <;> rfl
theorem share2 (c : Dev nD) (w : Fin 11) : (dat2 (W₅ m) 1 c).share w = fullShare := by
  unfold Dat.share; split <;> rfl
theorem share2' (c : Dev nD) (w : Fin (Pipeline.pin (pcfgs (F := F)) adm 1).W) : (pdats m 1 c).share w = fullShare := share2 m c w
theorem scoped2' (c : Dev nD) (t : Fin ((Pipeline.pin (pcfgs (F := F)) adm 1).N + 1)) :
    (pdats m 1 c).Φ t = Pipeline.scopedRest (Pipeline.pin (pcfgs (F := F)) adm 1).spec c := (inv2 (W₅ m) 1 c t).trans (by rw [Φ2])
theorem rec2' (c : Dev nD) (t : Fin ((Pipeline.pin (pcfgs (F := F)) adm 1).N + 1)) :
    (pdats m 1 c).recorded t = below (F := F) c 1 := rfl
theorem owed2' (c : Dev nD) (t : Fin ((Pipeline.pin (pcfgs (F := F)) adm 1).N + 1)) :
    (pdats m 1 c).owed t = (K (F := F)).Otc c 1 := rfl
theorem arr2' (c : Dev nD) (w : Fin (Pipeline.pin (pcfgs (F := F)) adm 1).W) :
    (pdats m 1 c).arrAt w 0 = W₅ m c (Proc.devRef .tc (Pipeline.arrRef (Pipeline.pin (pcfgs (F := F)) adm 1).spec w)) := rfl
theorem body2' (c : Dev nD) : BodyObligation (pdats m 1 c) (defs₀ (F := F)) 𝒱₀ (none : HIx 1) Set.univ := body2 (W₅ m) 1 c
theorem arr2'' (c : Dev nD) (w : Fin (Pipeline.pin (pcfgs (F := F)) adm 1).W) :
    (pdats m 1 c).arrAt w (Pipeline.pin (pcfgs (F := F)) adm 1).N = W₆ m c (Proc.devRef .tc (Pipeline.arrRef (Pipeline.pin (pcfgs (F := F)) adm 1).spec w)) := arr2_in m c w

set_option backward.isDefEq.respectTransparency.types false in
/-- The projection, from the padded table's valuation to the projected one's. -/
def seg0 : Pipeline.RegionSeg (pcfgs (F := F)) adm (pdats m) (none : HIx 1) (defs₀ (F := F)) 𝒱₀ (K (F := F)).L (K (F := F)).lev 0 :=
  segOf 0 (pdats m) 0 launch0.toP rfl (body0 (W₁ m) 0) (fun _ _ => rfl) (fun _ _ => rfl) (share0 m) (fun _ _ => rfl)
    (W₁ m) (W₂ m) (fun _ _ => rfl) (arr0_in m) (off_v2 m)

set_option backward.isDefEq.respectTransparency.types false in
/-- The filter network and the dense layers, from their operands' valuation to the result's. -/
def seg2 : Pipeline.RegionSeg (pcfgs (F := F)) adm (pdats m) (none : HIx 1) (defs₀ (F := F)) 𝒱₀ (K (F := F)).L (K (F := F)).lev 1 :=
  segOf 1 (pdats m) 1 launch2.toP rfl (body2' m) (owed2' m) (rec2' m) (share2' m) (scoped2' m) (W₅ m) (W₆ m) (arr2' m) (arr2'' m) (off_v29 m)

end Cert.Proof.Whole

end
-- ==== Proof.WholeLaunch.lean ====
/-
  The whole kernel's run: @main's steps chained from the launch to the end, the launch's ghost state (the handshakes'
  and both pipelines'), and what the final memory holds.
-/
module

public import proofs.«01_k».proof.Proof.WholeMain

@[expose] public section

noncomputable section

namespace Cert.Proof.Whole

open Cert.KernelIdeal Cert.KernelIdeal.Gen

open Idealize.ShloMosaic
open Idealize.ShloMosaic.SparseCore (T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- Every buffer that outlives the calls, held at a valuation. -/
abbrev heldAll (d : Dev nD) (V : Valuation τ sig (Elt F)) : sProp 𝕄 := StableHlo.held (d.tc : Thread nD τ) (Pipeline.ucRefs τ sig) V

/-! ## The SparseCore call as a step -/

section Dealt

attribute [local irreducible] tileHas coreHas

variable (X : (d : Dev nD) → Buf (Elt F) (xLoc d)) (I : (d : Dev nD) → Buf (Elt F) (iLoc d)) (fo : (d : Dev nD) → Buf (Elt F) (oLoc d))

theorem st0_eq (d : Dev nD) : (bigSep Finset.univ fun c : Fin ((K (F := F)).nCore 0) => (P X I fo).st 0 d c)
    = iprop(xWhole X d ∗ iWhole I d ∗ oWhole d (fo d)) :=
  (bigSep_cores (F := F) fun c => coreHas X I d c (fo d)).trans (deal_cores X I d _)
theorem dn0_eq (d : Dev nD) : (bigSep Finset.univ fun c : Fin ((K (F := F)).nCore 0) => (P X I fo).dn 0 d c)
    = iprop(xWhole X d ∗ iWhole I d ∗ oWhole d (outAll d (X d) (I d))) :=
  (bigSep_cores (F := F) fun c => coreHas X I d c (outAll d (X d) (I d))).trans (deal_cores X I d _)

end Dealt

/-- The three arrays of the SparseCore call. -/
def three : Finset (DevRef τ sig) := {Proc.devRef .tc main_v2, Proc.devRef .tc main_v17, Proc.devRef .tc main_v18}
theorem three_sub : three ⊆ Pipeline.ucRefs τ sig := by
  intro b hb
  simp only [three, Finset.mem_insert, Finset.mem_singleton] at hb
  rcases hb with rfl | rfl | rfl <;> exact Finset.mem_filter.mpr ⟨StableHlo.devRef_mem_tcRefs _, by decide⟩

theorem held_three (d : Dev nD) (V : Valuation τ sig (Elt F)) : (StableHlo.held (d.tc : Thread nD τ) three V : sProp 𝕄)
    = iprop((xLoc d ↦{fullShare} V (Proc.devRef .tc main_v2)) ∗ (iLoc d ↦{fullShare} V (Proc.devRef .tc main_v17)) ∗ oLoc d ↦{fullShare} V (Proc.devRef .tc main_v18)) := by
  unfold StableHlo.held three
  rw [SparseCore.bigSep_insert' (by decide), SparseCore.bigSep_insert' (by decide), bigSep_singleton]

/-- The payloads, the three arrays as valuation `V` has them. -/
abbrev Pm (V : Val1 (F := F)) : (K (F := F)).Pay (nD := nD) (Val := Elt F) (Name := ℕ) (U := UU) :=
  P (fun d => V d (Proc.devRef .tc main_v2)) (fun d => V d (Proc.devRef .tc main_v17)) (fun d => V d (Proc.devRef .tc main_v18))

/-- The SparseCore call: the gathered rows in its result's place, every other buffer as it was. -/
theorem step_gather (V V' : Val1 (F := F)) (hself : ∀ d, V' d (Proc.devRef .tc main_v18) = outAll d (V d (Proc.devRef .tc main_v2)) (V d (Proc.devRef .tc main_v17)))
    (hne : ∀ d (b : DevRef τ sig), b ≠ Proc.devRef .tc main_v18 → V' d b = V d b) (κ : GSem nD τ sig → ℕ) (d : Dev nD) (k : PUnit → Prog (TpuEff nD τ sig (Elt F) (SparseCore.Sig (ΛP (F := F)) 1) .tc) PUnit) (Q : PUnit → sProp 𝕄) :
    iprop((K (F := F)).ctx EH (Pm V) κ ∗ (K (F := F)).tcSt EH d 0 ∗ heldAll d (V d)
        ∗ (iprop((K (F := F)).tcSt EH d 1 ∗ heldAll d (V' d)) -∗ wp frame (wpE ((K (F := F)).defs (D (F := F))) 𝒱 (T d) none) Set.univ (k ⟨⟩) Q))
      ⊢ wp frame (wpE ((K (F := F)).defs (D (F := F))) 𝒱 (T d) none) Set.univ ((K (F := F)).run d 0 >>= k) Q := by
  rw [wp_bind]
  unfold heldAll
  rw [StableHlo.held_sub_split (d.tc : Thread nD τ) three_sub (V d), StableHlo.held_sub_split (d.tc : Thread nD τ) three_sub (V' d),
    held_three, held_three, hself d, hne d (Proc.devRef .tc main_v2) (by decide), hne d (Proc.devRef .tc main_v17) (by decide),
    StableHlo.held_congr (c := (d.tc : Thread nD τ)) (S := Pipeline.ucRefs τ sig \ three) (V := V' d) (V' := V d)
      (fun b hb => hne d b (fun e => (Finset.mem_sdiff.mp hb).2 (by rw [e]; decide)))]
  iintro ⟨#Hctx, Hst, ⟨⟨Hx, Hi, Ho⟩, Hr⟩, Hk⟩
  iapply ((K (F := F)).wp_run (D (F := F)) 𝒱 (EH := EH) (P := Pm V) κ d 0) $$ [Hst Hx Hi Ho Hr Hk]
  isplitr; · iexact Hctx
  isplitl [Hst]; · iexact Hst
  isplitl [Hi Hx Ho]
  · rw [st0_eq]
    isplitl [Hx]; · iexact Hx
    isplitl [Hi]; · iexact Hi
    iexact Ho
  iintro ⟨Hst, Hdn⟩
  ihave Hdn' := (Entails.of_eq (dn0_eq (F := F) _ _ _ d)) $$ Hdn
  icases Hdn' with ⟨Hx, Hi, Ho⟩
  iapply Hk
  isplitl [Hst]; · iexact Hst
  isplitr [Hr]
  · isplitl [Hx]; · iexact Hx
    isplitl [Hi]; · iexact Hi
    iexact Ho
  iexact Hr

/-! ## A TensorCore call as a step -/

theorem phinj : Function.Injective (Pipeline.cellOf (nD := nD) (τ := τ) (Pipeline.pin (pcfgs (F := F)) adm)) := cellOf_inj

theorem step_call {p : Fin 2} (R : Pipeline.RegionSeg (pcfgs (F := F)) adm (pdats m) (none : HIx 1) (defs₀ (F := F)) 𝒱₀ (K (F := F)).L (K (F := F)).lev p)
    (d : Dev nD) (k : PUnit → Prog (TpuEff nD τ sig (Elt F) (SparseCore.Sig (ΛP (F := F)) 1) .tc) PUnit) (Q : PUnit → sProp 𝕄) :
    iprop((iprop(boundary (T d) ∗ R.post d) -∗ wp frame (wpE ((K (F := F)).defs (D (F := F))) 𝒱 (T d) none) Set.univ (k ⟨⟩) Q)
        ∗ boundary (T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ()) >>= k) Q := by
  rw [wp_bind]
  refine BI.Entails.trans ?_ ((K (F := F)).wp_liftProg (D (F := F)) 𝒱 (T d) Set.univ none (Prog.lift (.customCall (Pipeline.entry p) ())) _)
  refine BI.Entails.trans ?_ (Pipeline.RegionSeg.wp (pcfgs (F := F)) adm (pdats m) (none : HIx 1) phinj EP (defs₀ (F := F)) 𝒱₀
    (K (F := F)).L (K (F := F)).lev R d none (fun u hu => nomatch hu) (fun x => .ret x) _)
  show (_ : sProp 𝕄) ⊢ _
  iintro ⟨Hk, H⟩
  isplitl [Hk]
  · iintro Hp
    rw [wp_ret]
    imodintro
    iapply Hk; iexact Hp
  iexact H

/-! ## @main -/

/-- What @main's thread holds of both pipelines' ghost state. -/
abbrev Gd (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem two (Φ : Fin 2 → sProp 𝕄) : bigSep Finset.univ Φ = iprop(Φ 0 ∗ Φ 1) := by
  rw [bigSep_univ_eq_bigSepL [(0 : Fin 2), 1] (by decide) (by decide) _, bigSepL_cons_cons, bigSepL_singleton]; rfl

/-- The TensorCore's handshake state: what it owes, and the rest. -/
def hand (n : ℕ) (d : Dev nD) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((inferInstance : SparseCore.Cfg.Blocks 1 1).last q)) 1)))
theorem tcSt_eq (n : ℕ) (d : Dev nD) : ((K (F := F)).tcSt EH d n : sProp 𝕄) = iprop(debt n d ∗ hand n d) := by
  unfold SparseCore.Cfg.tcSt debt hand; rfl

abbrev FINm (d : Dev nD) : sProp 𝕄 := heldAll d (W₇ m d)

theorem W₄_self (d : Dev nD) : W₄ m d (Proc.devRef .tc main_v18) = outAll d (W₃ m d (Proc.devRef .tc main_v2)) (W₃ m d (Proc.devRef .tc main_v17)) := by
  unfold W₄; exact Function.update_self (Proc.devRef .tc main_v18) _ (W₃ m d)
theorem W₄_ne (d : Dev nD) (b : DevRef τ sig) (h : b ≠ Proc.devRef .tc main_v18) : W₄ m d b = W₃ m d b := by
  unfold W₄; exact Function.update_of_ne h _ _

theorem launch_held (d : Dev nD) : (unscopedBufs d (fun b => m ((SparseCore.T d).loc b)) : sProp 𝕄) = heldAll d (StableHlo.launchContents m d) :=
  Pipeline.unscopedBufs_held (Ix := HIx 1) (Name := ℕ) (U := UU) (Lvl := ℕ) d (StableHlo.launchContents m d)

/-- @main on device `d`'s TensorCore, from the launch memory to the last valuation. -/
theorem hmain (κ : GSem nD τ sig → ℕ) (d : Dev nD) :
    iprop((K (F := F)).ctx EH (Pm (W₃ m)) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FINm m d ∗ (K (F := F)).tcEnd d) := by
  unfold SparseCore.Cfg.tcRes SparseCore.Cfg.tcEnd Gd
  rw [launch_held, two, two, main_split]
  iintro ⟨#Hctx, Hst, ⟨Hb, Hh, Hts, -⟩, ⟨⟨Hc0, Hc1⟩, Ht0, Ht1⟩⟩
  ihave #Hlev := ((K (F := F)).ctx_levAts κ) $$ Hctx
  ihave Hst' := (Entails.of_eq (tcSt_eq 0 d)) $$ Hst
  icases Hst' with ⟨HO, Hst⟩
  iapply (StableHlo.wp_seq 𝒱 none Set.univ d (Pipeline.ucRefs τ sig) _ opsA (sub_of opsA opsA_sub) (List.forall_iff_forall_mem.mp opsA_fresh) (StableHlo.launchContents m d)) $$ [Hb Hh]
  · isplitl [Hb] <;> iassumption
  iintro ⟨Hb, Hh⟩
  iapply (step_call m (seg0 m) d _ _)
  isplitr [Hb Hh HO Hc0 Ht0]
  swap
  · isplitl [Hb]; · iexact Hb
    isplitl [Hh HO]
    · iapply (show iprop(heldAll d (W₁ m d) ∗ debt 0 d) ⊢ (seg0 m).pre d from BI.Entails.refl _)
      isplitl [Hh]; · iexact Hh
      iexact HO
    isplitr; · iexact Hlev
    isplitl [Hc0] <;> iassumption
  iintro ⟨Hb, Hp⟩
  ihave Hp' := (show (seg0 m).post d ⊢ iprop(heldAll d (W₂ m d) ∗ debt 0 d) from BI.Entails.refl _) $$ Hp
  icases Hp' with ⟨Hh, HO⟩
  iapply (StableHlo.wp_seq 𝒱 none Set.univ d (Pipeline.ucRefs τ sig) _ opsB (sub_of opsB opsB_sub) (List.forall_iff_forall_mem.mp opsB_fresh) (W₂ m d)) $$ [Hb Hh]
  · isplitl [Hb] <;> iassumption
  iintro ⟨Hb, Hh⟩
  iapply (step_gather (W₃ m) (W₄ m) (W₄_self m) (W₄_ne m) κ d _ _)
  isplitr; · iexact Hctx
  isplitl [HO Hst]
  · rw [tcSt_eq]; isplitl [HO] <;> iassumption
  isplitl [Hh]; · iexact Hh
  iintro ⟨Hst, Hh⟩
  ihave Hst' := (Entails.of_eq (tcSt_eq 1 d)) $$ Hst
  icases Hst' with ⟨HO, Hst⟩
  iapply (StableHlo.wp_seq 𝒱 none Set.univ d (Pipeline.ucRefs τ sig) _ opsC (sub_of opsC opsC_sub) (List.forall_iff_forall_mem.mp opsC_fresh) (W₄ m d)) $$ [Hb Hh]
  · isplitl [Hb] <;> iassumption
  iintro ⟨Hb, Hh⟩
  iapply (step_call m (seg2 m) d _ _)
  isplitr [Hb Hh HO Hc1 Ht1]
  swap
  · isplitl [Hb]; · iexact Hb
    isplitl [Hh HO]
    · iapply (show iprop(heldAll d (W₅ m d) ∗ debt 1 d) ⊢ (seg2 m).pre d from BI.Entails.refl _)
      isplitl [Hh]; · iexact Hh
      iexact HO
    isplitr; · iexact Hlev
    isplitl [Hc1] <;> iassumption
  iintro ⟨Hb, Hp⟩
  ihave Hp' := (show (seg2 m).post d ⊢ iprop(heldAll d (W₆ m d) ∗ debt 1 d) from BI.Entails.refl _) $$ Hp
  icases Hp' with ⟨Hh, HO⟩
  rw [← bind_pure (StableHlo.seq opsD)]
  iapply (StableHlo.wp_seq 𝒱 none Set.univ d (Pipeline.ucRefs τ sig) _ opsD (sub_of opsD opsD_sub) (List.forall_iff_forall_mem.mp opsD_fresh) (W₆ m d)) $$ [Hb Hh]
  · isplitl [Hb] <;> iassumption
  iintro ⟨Hb, Hh⟩
  rw [wp_pure]
  imodintro
  isplitl [HO Hst]
  · rw [tcSt_eq]; isplitl [HO] <;> iassumption
  isplitl [Hh]; · iexact Hh
  isplitl [Hb] <;> iassumption

/-! ## The launch's ghost state -/

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem bigSep_emp' {I : Type} (s : Finset I) : (bigSep s fun _ => iprop(emp)) = (iprop(emp) : sProp 𝕄) := bigSep_emp_const s

theorem hu₀ (V : Val1 (F := F)) : (ownU (u₀ (F := F)) : sProp 𝕄)
    ⊢ |={Set.univ}=> iprop(BI.own (EH (initOf (K (F := F)).hsCells (K (F := F)).hsToks)) ∗ (bigSep Finset.univ fun d : Dev nD => Gd d)
        ∗ bigSep Finset.univ fun thr : Thread nD τ => bigSep Finset.univ fun q : Fin 1 => (Pm V).x q thr) := by
  unfold u₀
  iintro Hu
  ihave H := (ownU_pair _ _) $$ Hu
  icases H with ⟨HH, H⟩
  ihave H := (own_pair_emb _ _ _) $$ H
  icases H with ⟨HP, -⟩
  ihave H := (Pipeline.fund_ghost (Pipeline.pin (pcfgs (F := F)) adm) EP phinj) $$ HP
  imod H with ⟨Hc, Ht⟩
  imodintro
  isplitl [HH]; · iexact HH
  isplitl [Hc Ht]
  · unfold Gd
    rw [bigSep_sep']
    isplitl [Hc] <;> iassumption
  rw [show (bigSep Finset.univ fun thr : Thread nD τ => bigSep Finset.univ fun q : Fin 1 => (Pm V).x q thr) = bigSep Finset.univ fun _ => (iprop(emp) : sProp 𝕄) from
    bigSep_congr fun _ _ => bigSep_univ_of_subsingleton (0 : Fin 1), bigSep_emp']
  iempintro

/-! ## The run -/

def fqm (d : Dev nD) (s' : Phys nD τ sig (Elt F)) : Prop :=
  ∀ b : Ref sig .tc, b.isScoped = false → s'.mem.mem ((SparseCore.T d).loc b) = W₇ m d (Proc.devRef .tc b)

theorem hfin (d : Dev nD) (s' : Phys nD τ sig (Elt F)) : iprop(FINm m d ∗ SI s') ⊢ (⌜fqm m d s'⌝ : sProp 𝕄) := by
  unfold FINm heldAll StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact fun b hb => h _ (Finset.mem_filter.mpr ⟨StableHlo.devRef_mem_tcRefs b, by rw [Proc.isScoped_devRef, hb]; exact Bool.false_ne_true⟩)

/-- The list names rows of the table. -/
def ListOK : Prop := ∀ d x, ((W₃ m d (Proc.devRef .tc main_v17) : Buf (Elt F) (iLoc d)) x : BitVec 32).toNat < 10008

def QCm : PUnit × MemSt nD τ sig (Elt F) → Prop := fun r =>
  (∀ c : Dev nD, ∀ b : Ref sig .tc, b.isScoped = false → r.2.mem ((SparseCore.T c).loc b) = W₇ m c (Proc.devRef .tc b)) ∧ r.2.sem = fun _ => 0

/-- The kernel runs; every buffer that outlives the calls ends as the last valuation has it, every semaphore at zero. -/
theorem run_main [∀ e, Nonempty (Elt F e)] (hI : ListOK m) :
    θ_run (Cert.KernelIdeal.defs (F := F)) (Cert.KernelIdeal.threads (F := F)) ⟨m, fun _ => 0, ρ⟩ (QCm m) :=
  SparseCore.Cfg.θ_run_sc_quiescent (K := K (F := F)) (D := D (F := F)) (𝒱 := 𝒱) (EH := EH) (P := Pm (W₃ m)) (A := ∅) facts v₀
    (fun q hq => match q with | 0 => nomatch hq)
    (fun q _ => match q with | 0 => tileObl _ _ _ facts hI)
    (fun q _ => match q with | 0 => SparseCore.Cfg.VecSplit.of_plain (vecSplit _ _ _))
    m ρ main (fun d => Gd d) (FINm m) (u₀ (F := F)) (sep_elim_left.trans (hu₀ (W₃ m))) (hmain m ρ) (fqm m) (hfin m) (QCm m) (fun _ h hz => ⟨h, hz⟩)

end Cert.Proof.Whole

end
-- ==== Proof.WholeValues.lean ====
/-
  The whole kernel's values between @main's calls: which buffers each stretch of array operations leaves alone, and what it
  leaves in the operands of the next call, as composed terms of the arguments.
-/
module

public import proofs.«01_k».proof.Proof.WholeLaunch

@[expose] public section

noncomputable section

namespace Cert.Proof.Whole

open Cert.KernelIdeal Cert.KernelIdeal.Gen

open Idealize.ShloMosaic Idealize.ShloMosaic.StableHlo
open Idealize.ShloMosaic.SparseCore.Cfg (HIx)
open Idealize.ShloMosaic.TcCoe Idealize.ShloMosaic.Tactic
open Idealize.SL.Sem
open Idealize.ShloMosaic.Pipeline (Dat Cfg Window BodyObligation cellOf)

variable {F : FTy → Type} [FloatOps F] [Named F]

variable (m : (ℓ : Loc nD τ sig) → Buf (Elt F) ℓ)

/-! ## What each stretch writes -/

/-- The buffers written by the operations before the first call. -/
abbrev wrA : List (Ref sig .tc) := [main_v0, main_c, main_call0_v0, main_v1]
abbrev wrB : List (Ref sig .tc) :=
  [main_cst, main_v3, main_v4, main_cst_0, main_v5, main_v6, main_v7, main_v8, main_c_1, main_v9, main_v10, main_v11, main_v12, main_v13,
    main_c_2, main_call1_v0, main_call1_v1, main_v14, main_v15, main_c_3, main_call2_v0, main_v16, main_v17]
abbrev wrC : List (Ref sig .tc) := [main_v19, main_v20, main_v21, main_v22, main_v23, main_v24, main_v25, main_v26, main_v27, main_v28]
abbrev wrD : List (Ref sig .tc) := [main_v30]

theorem single_sub {r : Ref sig .tc} {L : List (Ref sig .tc)} (h : r ∈ L) : ({Proc.devRef .tc r} : Finset (DevRef τ sig)) ⊆ (L.map (Proc.devRef .tc)).toFinset := by
  rw [Finset.singleton_subset_iff, List.mem_toFinset]
  exact List.mem_map_of_mem h

theorem wrA_sub : (opsA : List (HloOp τ sig (Elt F))).Forall fun op => op.writes ⊆ (wrA.map (Proc.devRef .tc)).toFinset :=
  ⟨single_sub (by decide), single_sub (by decide), single_sub (by decide), single_sub (by decide)⟩
theorem wrB_sub : (opsB : List (HloOp τ sig (Elt F))).Forall fun op => op.writes ⊆ (wrB.map (Proc.devRef .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem wrC_sub : (opsC : List (HloOp τ sig (Elt F))).Forall fun op => op.writes ⊆ (wrC.map (Proc.devRef .tc)).toFinset :=
  ⟨single_sub (by decide), single_sub (by decide), single_sub (by decide), single_sub (by decide), single_sub (by decide), single_sub (by decide), single_sub (by decide), single_sub (by decide), single_sub (by decide), single_sub (by decide)⟩
theorem wrD_sub : (opsD : List (HloOp τ sig (Elt F))).Forall fun op => op.writes ⊆ (wrD.map (Proc.devRef .tc)).toFinset :=
  single_sub (by decide)

theorem W₁_ne (c : Dev nD) {b : Ref sig .tc} (h : b ∉ wrA) : W₁ m c (Proc.devRef .tc b) = m ((c.tc : Thread nD τ).loc b) := by
  unfold W₁; exact after_of_writes_sub _ _ wrA_sub h
theorem W₃_ne (c : Dev nD) {b : Ref sig .tc} (h : b ∉ wrB) : W₃ m c (Proc.devRef .tc b) = W₂ m c (Proc.devRef .tc b) := by
  unfold W₃; exact after_of_writes_sub _ _ wrB_sub h
theorem W₅_ne (c : Dev nD) {b : Ref sig .tc} (h : b ∉ wrC) : W₅ m c (Proc.devRef .tc b) = W₄ m c (Proc.devRef .tc b) := by
  unfold W₅; exact after_of_writes_sub _ _ wrC_sub h
theorem W₇_ne (c : Dev nD) {b : Ref sig .tc} (h : b ∉ wrD) : W₇ m c (Proc.devRef .tc b) = W₆ m c (Proc.devRef .tc b) := by
  unfold W₇; exact after_of_writes_sub _ _ wrD_sub h
theorem W₄_ne' (c : Dev nD) {b : Ref sig .tc} (h : b ≠ main_v18) : W₄ m c (Proc.devRef .tc b) = W₃ m c (Proc.devRef .tc b) :=
  W₄_ne m c _ fun e => h (Proc.devRef_injective .tc e)

/-! ## The arguments are kept throughout -/

theorem W₂_arg (c : Dev nD) {b : Ref sig .tc} (h : b ∉ wrA ++ [main_v2]) : W₂ m c (Proc.devRef .tc b) = m ((c.tc : Thread nD τ).loc b) := by
  rw [List.mem_append, not_or] at h
  exact (W₂_ne m c (fun e => h.2 (e ▸ List.mem_singleton_self _))).trans (W₁_ne m c h.1)
theorem W₃_arg (c : Dev nD) {b : Ref sig .tc} (hA : b ∉ wrA ++ [main_v2]) (hB : b ∉ wrB) : W₃ m c (Proc.devRef .tc b) = m ((c.tc : Thread nD τ).loc b) :=
  (W₃_ne m c hB).trans (W₂_arg m c hA)
theorem W₄_arg (c : Dev nD) {b : Ref sig .tc} (hA : b ∉ wrA ++ [main_v2]) (hB : b ∉ wrB ++ [main_v18]) : W₄ m c (Proc.devRef .tc b) = m ((c.tc : Thread nD τ).loc b) := by
  rw [List.mem_append, not_or] at hB
  exact (W₄_ne' m c (fun e => hB.2 (e ▸ List.mem_singleton_self _))).trans (W₃_arg m c hA hB.1)
theorem W₇_arg (c : Dev nD) {b : Ref sig .tc} (hA : b ∉ wrA ++ [main_v2]) (hB : b ∉ wrB ++ [main_v18]) (hC : b ∉ wrC ++ [main_v29]) (hD : b ∉ wrD) :
    W₇ m c (Proc.devRef .tc b) = m ((c.tc : Thread nD τ).loc b) := by
  rw [List.mem_append, not_or] at hC
  exact (W₇_ne m c hD).trans ((W₆_ne m c (fun e => hC.2 (e ▸ List.mem_singleton_self _))).trans ((W₅_ne m c hC.1).trans (W₄_arg m c hA hB)))

/-! ## The operands -/

/-- The table's rows, and eight rows of zeros. -/
abbrev padded (x : FVec F S4x2500x128 .f32) : FVec F S10008x128 .f32 :=
  pad S10008x128 ![0, 0] ![8, 0] ![0, 0] (shapeCast S10000x128 x shapeCasts_S4x2500x128_S10000x128) (sitofp .f32 (constantI S_ 32 0#32)) pads_S10000x128_S10008x128_080_000 h_S_

theorem W₁_v1 (c : Dev nD) : W₁ m c (Proc.devRef .tc main_v1) = padded (F := F) (m ((c.tc : Thread nD τ).loc main_arg0)) := by
  unfold W₁
  simp only [opsA, TRef.binary, TRef.nullary, TRef.ternary, TRef.unary, TRef.toBuf, TRef.ofBuf, cast_eq]
  after_results_simp <;> rfl

/-- The list: a live pair's row of the whole table, the row of zeros for any other. -/
abbrev rowsList (x1 : FVec F S4x2500x32 .f32) (x2 : IVec S4x2500x32 32) (x3 : FVec F S4x2500x32 .f32) : IVec S1x323584 32 :=
  shapeCast S1x323584 (pad S323584 ![0] ![3584] ![0] (shapeCast S320000
    (select (andi (cmpf .une x3 (broadcastInDim S4x2500x32 ![] bcast_S_S4x2500x32 (constant S_ .f32 0x00000000#32)))
        (cmpf .ole x1 (broadcastInDim S4x2500x32 ![] bcast_S_S4x2500x32 (constant S_ .f32 0x40A00000#32))))
      (addi x2 (broadcastInDim S4x2500x32 ![0, 1, 2] bcast_S4x1x1_S4x2500x32_0_1_2 (broadcastInDim S4x1x1 ![0] bcast_S4_S4x1x1_0
        (muli (iotaInDim S4 32 0) (broadcastInDim S4 ![] bcast_S_S4 (constantI S_ 32 2500#32))))))
      (broadcastInDim S4x2500x32 ![] bcast_S_S4x2500x32 (constantI S_ 32 10000#32)))
    shapeCasts_S4x2500x32_S320000) (constantI S_ 32 0#32) pads_S320000_S323584_035840 h_S_) shapeCasts_S323584_S1x323584

set_option maxHeartbeats 4000000 in
set_option maxRecDepth 8192 in
theorem W₃_v17 (c : Dev nD) : W₃ m c (Proc.devRef .tc main_v17)
    = rowsList (F := F) (m ((c.tc : Thread nD τ).loc main_arg1)) (m ((c.tc : Thread nD τ).loc main_arg2)) (m ((c.tc : Thread nD τ).loc main_arg3)) := by
  rw [← W₂_arg m c (b := main_arg1) (by decide), ← W₂_arg m c (b := main_arg2) (by decide), ← W₂_arg m c (b := main_arg3) (by decide)]
  unfold W₃
  generalize W₂ m c = V
  simp only [opsB, TRef.binary, TRef.nullary, TRef.ternary, TRef.unary, TRef.toBuf, TRef.ofBuf, cast_eq]
  after_results_simp <;> rfl

/-- The gathered rows reach the last call as they are, and the projected rows the gather. -/
theorem W₃_v2 (c : Dev nD) : W₃ m c (Proc.devRef .tc main_v2) = (dat0 (W₁ m) 0 c).arrAt 2 cfg0.N := (W₃_ne m c (by decide)).trans (W₂_self m c)
theorem W₅_v18 (c : Dev nD) : W₅ m c (Proc.devRef .tc main_v18) = outAll c (W₃ m c (Proc.devRef .tc main_v2)) (W₃ m c (Proc.devRef .tc main_v17)) :=
  (W₅_ne m c (by decide)).trans (W₄_self m c)
theorem W₅_v20 (c : Dev nD) : W₅ m c (Proc.devRef .tc main_v20) = truncf .bf16 (shapeCast S10000x32x50 (m ((c.tc : Thread nD τ).loc main_arg4) : FVec F S4x2500x32x50 .f32) shapeCasts_S4x2500x32x50_S10000x32x50) bitsLt_bf16_f32 := by
  rw [← W₄_arg m c (b := main_arg4) (by decide) (by decide)]
  unfold W₅
  generalize W₄ m c = V
  simp only [opsC]
  after_results_simp <;> rfl
theorem W₅_v21 (c : Dev nD) : W₅ m c (Proc.devRef .tc main_v21) = truncf .bf16 (m ((c.tc : Thread nD τ).loc main_arg6) : FVec F S50x128 .f32) bitsLt_bf16_f32 := by
  rw [← W₄_arg m c (b := main_arg6) (by decide) (by decide)]
  unfold W₅
  generalize W₄ m c = V
  simp only [opsC]
  after_results_simp <;> rfl
theorem W₅_v23 (c : Dev nD) : W₅ m c (Proc.devRef .tc main_v23) = truncf .bf16 (m ((c.tc : Thread nD τ).loc main_arg8) : FVec F S128x128 .f32) bitsLt_bf16_f32 := by
  rw [← W₄_arg m c (b := main_arg8) (by decide) (by decide)]
  unfold W₅
  generalize W₄ m c = V
  simp only [opsC]
  after_results_simp <;> rfl
theorem W₅_v25 (c : Dev nD) : W₅ m c (Proc.devRef .tc main_v25) = truncf .bf16 (m ((c.tc : Thread nD τ).loc main_arg10) : FVec F S128x128 .f32) bitsLt_bf16_f32 := by
  rw [← W₄_arg m c (b := main_arg10) (by decide) (by decide)]
  unfold W₅
  generalize W₄ m c = V
  simp only [opsC]
  after_results_simp <;> rfl
theorem W₅_v27 (c : Dev nD) : W₅ m c (Proc.devRef .tc main_v27) = truncf .bf16 (m ((c.tc : Thread nD τ).loc main_arg12) : FVec F S128x128 .f32) bitsLt_bf16_f32 := by
  rw [← W₄_arg m c (b := main_arg12) (by decide) (by decide)]
  unfold W₅
  generalize W₄ m c = V
  simp only [opsC]
  after_results_simp <;> rfl
theorem W₅_v22 (c : Dev nD) : W₅ m c (Proc.devRef .tc main_v22) = shapeCast S1x128 (m ((c.tc : Thread nD τ).loc main_arg7) : FVec F S128 .f32) shapeCasts_S128_S1x128 := by
  rw [← W₄_arg m c (b := main_arg7) (by decide) (by decide)]
  unfold W₅
  generalize W₄ m c = V
  simp only [opsC]
  after_results_simp <;> rfl
theorem W₅_v24 (c : Dev nD) : W₅ m c (Proc.devRef .tc main_v24) = shapeCast S1x128 (m ((c.tc : Thread nD τ).loc main_arg9) : FVec F S128 .f32) shapeCasts_S128_S1x128 := by
  rw [← W₄_arg m c (b := main_arg9) (by decide) (by decide)]
  unfold W₅
  generalize W₄ m c = V
  simp only [opsC]
  after_results_simp <;> rfl
theorem W₅_v26 (c : Dev nD) : W₅ m c (Proc.devRef .tc main_v26) = shapeCast S1x128 (m ((c.tc : Thread nD τ).loc main_arg11) : FVec F S128 .f32) shapeCasts_S128_S1x128 := by
  rw [← W₄_arg m c (b := main_arg11) (by decide) (by decide)]
  unfold W₅
  generalize W₄ m c = V
  simp only [opsC]
  after_results_simp <;> rfl
theorem W₅_v28 (c : Dev nD) : W₅ m c (Proc.devRef .tc main_v28) = shapeCast S1x128 (m ((c.tc : Thread nD τ).loc main_arg13) : FVec F S128 .f32) shapeCasts_S128_S1x128 := by
  rw [← W₄_arg m c (b := main_arg13) (by decide) (by decide)]
  unfold W₅
  generalize W₄ m c = V
  simp only [opsC]
  after_results_simp <;> rfl

/-- The result is the last call's, by batches. -/
theorem W₇_v30 (c : Dev nD) : W₇ m c (Proc.devRef .tc main_v30)
    = shapeCast S4x2500x128 ((dat2 (W₅ m) 1 c).arrAt 10 cfg2.N : FVec F S10000x128 .f32) shapeCasts_S10000x128_S4x2500x128 := by
  rw [← W₆_self m c]
  unfold W₇
  generalize W₆ m c = V
  simp only [opsD]
  after_results_simp <;> rfl

end Cert.Proof.Whole

end
-- ==== Proof.WholeBlocks.lean ====
/-
  The two TensorCore calls' arrays, element by element: what a window's block holds at an index of the array, and what the
  two calls leave in their results.
-/
module

public import proofs.«01_k».proof.Proof.WholeValues
public import Idealize.ShloMosaic.Lib.Pipeline.ValueKit

@[expose] public section

noncomputable section

namespace Cert.Proof.Whole

open Cert.KernelIdeal Cert.KernelIdeal.Gen

open Idealize.ShloMosaic
open Idealize.ShloMosaic.SparseCore.Cfg (HIx)
open Idealize.ShloMosaic.TcCoe Idealize.ShloMosaic.Tactic
open Idealize.ShloMosaic.Pipeline (Dat Cfg Window)

variable {F : FTy → Type} [FloatOps F] [Named F]

variable (W : (c : Dev nD) → Valuation τ sig (Elt F)) (n : ℕ) (c : Dev nD)

/-- A block at an index the copy moves: the array under that index. -/
theorem inBlk_xinj (cfg : Cfg sig Λ₀) (A : (w : Fin cfg.W) → Buf (Elt F) ((cfg.win w).arr.view.loc (c : Thread nD τ)))
    (w : Fin cfg.W) (t : Fin cfg.N) (y : ((cfg.win w).xblock (cfg.grid.coords t)).Idx) :
    inBlk cfg c A w t ((cfg.win w).xinj (cfg.grid.coords t) y) = ((cfg.win w).blk t).view.read (Elt F) (A w) y := by
  unfold inBlk; rw [(cfg.win w).fill_xinj]

theorem e2_0 : ∀ t : Fin cfg2.N, win2_0.index t = ![t.val, 0, 0] := (by decide +kernel : ∀ t : Fin grid2.N, _)
theorem e2_1 : ∀ t : Fin cfg2.N, win2_1.index t = ![t.val, 0] := (by decide +kernel : ∀ t : Fin grid2.N, _)
theorem e2_10 : ∀ t : Fin cfg2.N, win2_10.index t = ![t.val, 0] := (by decide +kernel : ∀ t : Fin grid2.N, _)

theorem blk2_0 (t : Fin cfg2.N) (r : Fin 400) (q : Fin 32) (k : Fin 50) (R : Fin 10000) (hR : R.val = 400 * t.val + r.val) :
    (inBlk cfg2 c (A2 W c) 0 t : S400x32x50.Idx → Elt F .bf16) (ix3 r q k) = (W c (Proc.devRef .tc main_v20) : S10000x32x50.Idx → Elt F .bf16) (ix3 R q k) := by
  refine (inBlk_xinj c cfg2 (A2 W c) 0 t (ix3 r q k)).trans ?_
  blk_simp
  refine congrArg (W c (Proc.devRef .tc main_v20) : S10000x32x50.Idx → Elt F .bf16) ?_
  blk_ext [e2_0, hR]

theorem blk2_1 (t : Fin cfg2.N) (p : Fin 12800) (f : Fin 128) (P : Fin 323584) (hP : P.val = 12800 * t.val + p.val) :
    (inBlk cfg2 c (A2 W c) 1 t : S12800x128.Idx → Elt F .f32) (ix2 p f) = (W c (Proc.devRef .tc main_v18) : S323584x128.Idx → Elt F .f32) (ix2 P f) := by
  obtain ⟨j', hj⟩ : ∃ j', (cfg2.win 1).xinj (cfg2.grid.coords t) j' = (ix2 p f : S12800x128.Idx) :=
    ⟨fun a => ⟨((ix2 p f : S12800x128.Idx) a).val, by have := ((ix2 p f : S12800x128.Idx) a).isLt; have e := uncut2_1 (cfg2.grid.coords t) a; show _ < win2_1.xsize _ a; rw [e]; exact this⟩, rfl⟩
  refine (congrArg _ hj.symm).trans ((inBlk_xinj c cfg2 (A2 W c) 1 t j').trans ?_)
  blk_simp
  refine congrArg (W c (Proc.devRef .tc main_v18) : S323584x128.Idx → Elt F .f32) ?_
  have h0 : (j' 0).val = p.val := congrArg (fun j : S12800x128.Idx => (j 0).val) hj
  have h1 : (j' 1).val = f.val := congrArg (fun j : S12800x128.Idx => (j 1).val) hj
  blk_ext [e2_1, hP, h0, h1]

/-! ## The windows whose block is their array -/

theorem e2_const : ∀ t : Fin cfg2.N, win2_2.index t = ![0, 0] ∧ win2_3.index t = ![0, 0] ∧ win2_4.index t = ![0, 0] ∧ win2_5.index t = ![0, 0]
    ∧ win2_6.index t = ![0, 0] ∧ win2_7.index t = ![0, 0] ∧ win2_8.index t = ![0, 0] ∧ win2_9.index t = ![0, 0] := (by decide +kernel : ∀ t : Fin grid2.N, _)

theorem blk2_2 (t : Fin cfg2.N) : (inBlk cfg2 c (A2 W c) 2 t : S50x128.Idx → Elt F .bf16) = W c (Proc.devRef .tc main_v21) := by
  funext j; refine (inBlk_xinj c cfg2 (A2 W c) 2 t j).trans ?_
  blk_simp
  refine congrArg (W c (Proc.devRef .tc main_v21) : S50x128.Idx → Elt F .bf16) ?_
  blk_ext [(e2_const t).1]
theorem blk2_3 (t : Fin cfg2.N) : (inBlk cfg2 c (A2 W c) 3 t : S1x128.Idx → Elt F .f32) = W c (Proc.devRef .tc main_v22) := by
  funext j; refine (inBlk_xinj c cfg2 (A2 W c) 3 t j).trans ?_
  blk_simp
  refine congrArg (W c (Proc.devRef .tc main_v22) : S1x128.Idx → Elt F .f32) ?_
  blk_ext [(e2_const t).2.1]
theorem blk2_4 (t : Fin cfg2.N) : (inBlk cfg2 c (A2 W c) 4 t : S128x128.Idx → Elt F .bf16) = W c (Proc.devRef .tc main_v23) := by
  funext j; refine (inBlk_xinj c cfg2 (A2 W c) 4 t j).trans ?_
  blk_simp
  refine congrArg (W c (Proc.devRef .tc main_v23) : S128x128.Idx → Elt F .bf16) ?_
  blk_ext [(e2_const t).2.2.1]
theorem blk2_5 (t : Fin cfg2.N) : (inBlk cfg2 c (A2 W c) 5 t : S1x128.Idx → Elt F .f32) = W c (Proc.devRef .tc main_v24) := by
  funext j; refine (inBlk_xinj c cfg2 (A2 W c) 5 t j).trans ?_
  blk_simp
  refine congrArg (W c (Proc.devRef .tc main_v24) : S1x128.Idx → Elt F .f32) ?_
  blk_ext [(e2_const t).2.2.2.1]
theorem blk2_6 (t : Fin cfg2.N) : (inBlk cfg2 c (A2 W c) 6 t : S128x128.Idx → Elt F .bf16) = W c (Proc.devRef .tc main_v25) := by
  funext j; refine (inBlk_xinj c cfg2 (A2 W c) 6 t j).trans ?_
  blk_simp
  refine congrArg (W c (Proc.devRef .tc main_v25) : S128x128.Idx → Elt F .bf16) ?_
  blk_ext [(e2_const t).2.2.2.2.1]
theorem blk2_7 (t : Fin cfg2.N) : (inBlk cfg2 c (A2 W c) 7 t : S1x128.Idx → Elt F .f32) = W c (Proc.devRef .tc main_v26) := by
  funext j; refine (inBlk_xinj c cfg2 (A2 W c) 7 t j).trans ?_
  blk_simp
  refine congrArg (W c (Proc.devRef .tc main_v26) : S1x128.Idx → Elt F .f32) ?_
  blk_ext [(e2_const t).2.2.2.2.2.1]
theorem blk2_8 (t : Fin cfg2.N) : (inBlk cfg2 c (A2 W c) 8 t : S128x128.Idx → Elt F .bf16) = W c (Proc.devRef .tc main_v27) := by
  funext j; refine (inBlk_xinj c cfg2 (A2 W c) 8 t j).trans ?_
  blk_simp
  refine congrArg (W c (Proc.devRef .tc main_v27) : S128x128.Idx → Elt F .bf16) ?_
  blk_ext [(e2_const t).2.2.2.2.2.2.1]
theorem blk2_9 (t : Fin cfg2.N) : (inBlk cfg2 c (A2 W c) 9 t : S1x128.Idx → Elt F .f32) = W c (Proc.devRef .tc main_v28) := by
  funext j; refine (inBlk_xinj c cfg2 (A2 W c) 9 t j).trans ?_
  blk_simp
  refine congrArg (W c (Proc.devRef .tc main_v28) : S1x128.Idx → Elt F .f32) ?_
  blk_ext [(e2_const t).2.2.2.2.2.2.2]

/-! ## The results -/

theorem e0_const : ∀ t : Fin cfg0.N, win0_0.index t = ![0, 0] ∧ win0_1.index t = ![0, 0] := (by decide +kernel : ∀ t : Fin grid0.N, _)
theorem blk0_0 (t : Fin cfg0.N) : (inBlk cfg0 c (A0 W c) 0 t : S10008x128.Idx → Elt F .f32) = W c (Proc.devRef .tc main_v1) := by
  funext j; refine (inBlk_xinj c cfg0 (A0 W c) 0 t j).trans ?_
  blk_simp
  refine congrArg (W c (Proc.devRef .tc main_v1) : S10008x128.Idx → Elt F .f32) ?_
  blk_ext [(e0_const t).1]
theorem blk0_1 (t : Fin cfg0.N) : (inBlk cfg0 c (A0 W c) 1 t : S128x128.Idx → Elt F .f32) = W c (Proc.devRef .tc main_arg5) := by
  funext j; refine (inBlk_xinj c cfg0 (A0 W c) 1 t j).trans ?_
  blk_simp
  refine congrArg (W c (Proc.devRef .tc main_arg5) : S128x128.Idx → Elt F .f32) ?_
  blk_ext [(e0_const t).2]

/-- The first call leaves its product in its result. -/
theorem table_eq : ((dat0 W n c).arrAt 2 cfg0.N : S10008x128.Idx → Elt F .f32)
    = k0_pay1 (W c (Proc.devRef .tc main_v1) : S10008x128.Idx → Elt F .f32) (W c (Proc.devRef .tc main_arg5) : S128x128.Idx → Elt F .f32) := by
  refine (dat0 W n c).arrAt_eq_of_after_last 2 t0_0 (by decide +kernel) _ fun j => ?_
  blk_simp
  show out0 W c t0_0 _ = _
  unfold out0
  rw [blk0_0, blk0_1]

/-- The last call's result, one atom per row: the fused body's value at the atom's grid point. -/
theorem out_eq : ((dat2 W n c).arrAt 10 cfg2.N : S10000x128.Idx → Elt F .f32)
    = fun j => out2 W c ⟨(j 0).val / 400, by have : (j 0).val < 10000 := (j 0).isLt; show _ < grid2.N; rw [N_2]; omega⟩
        (ix2 ⟨(j 0).val % 400, Nat.mod_lt _ (by decide)⟩ (j 1)) := by
  refine (dat2 W n c).arrAt_eq_of_covers 10 _ (by decide +kernel) fun t hf y => ?_
  blk_simp [e2_10]
  have hy : (y 0).val < 400 := (y 0).isLt
  have key : ∀ (t' : Fin cfg2.N) (r : Fin 400) (o : Fin 128), t' = t → r.val = (y 0).val → o.val = (y 1).val → out2 W c t y = out2 W c t' (ix2 r o) := fun t' r o ht hr ho => by
    subst ht
    refine congrArg (out2 W c t') (funext fun (a : Fin 2) => Fin.ext ?_)
    match a with
    | 0 => exact hr.symm
    | 1 => exact ho.symm
  refine key _ _ _ (Fin.ext ?_) ?_ ?_
  · show (t.val * 400 + (y 0).val) / 400 = t.val; omega
  · show (t.val * 400 + (y 0).val) % 400 = (y 0).val; omega
  · blk_simp [e2_10]

end Cert.Proof.Whole

end
-- ==== Proof.WholeMath.lean ====
/-
  The mathematics both programs compute, over the extended reals: the shifted softplus, a pair's filter, and the two dense
  layers.
-/
module

public import Idealize.ShloMosaic.PureOps.Ideal
public import Idealize.ShloMosaic.PureOps.Ideal.Laws

@[expose] public section

noncomputable section

namespace Cert.Proof.Whole

open Idealize.ShloMosaic

/-- `log (1 + e^h) - log 2`, as both programs compute it: `max h 0 + log1p (e^(-|h|)) - log 2`. -/
def ssp (h : EReal) : EReal := max h 0 + Ideal.log1p (Ideal.exp (0 - FloatOps.absf (F := Ideal) (φ := .f32) h)) - ((Real.log 2 : ℝ) : EReal)

/-- Two dense layers with the shifted softplus between them, at output `o`. -/
def twoLayers {K : ℕ} (x : Fin K → EReal) (W₁ : Fin K → Fin 128 → EReal) (b₁ : Fin 128 → EReal) (W₂ : Fin 128 → Fin 128 → EReal) (b₂ : Fin 128 → EReal)
    (o : Fin 128) : EReal :=
  ∑ p : Fin 128, ssp (∑ k : Fin K, x k * W₁ k p + b₁ p) * W₂ p o + b₂ o

/-- The pattern of `2.0` denotes two. -/
theorem ofBits_two : Ideal.ofBits .f32 0x40000000#32 = ((2 : ℝ) : EReal) := by
  simp [Ideal.ofBits, Ideal.ieee, -EReal.coe_mul]; norm_num

/-- The logarithm of two that the reference takes. -/
theorem log_two : Ideal.log (Ideal.ofBits .f32 0x40000000#32) = ((Real.log 2 : ℝ) : EReal) := by
  rw [ofBits_two]
  exact (Ideal.log_coe (r := 2)).trans (if_neg (by norm_num))

/-- The shifted softplus as the reference spells it: no extended real differs from itself. -/
theorem ssp_ref (h : EReal) :
    (if h ≠ h then h else max h 0 + Ideal.log1p (Ideal.exp (-FloatOps.absf (F := Ideal) (φ := .f32) h))) - Ideal.log (Ideal.ofBits .f32 0x40000000#32) = ssp h := by
  rw [if_neg (not_not.2 rfl), log_two, ssp, zero_sub]

end Cert.Proof.Whole

end
-- ==== Proof.WholePayloads.lean ====
/-
  The two TensorCore bodies' values, element by element, as real arithmetic.
-/
module

public import proofs.«01_k».proof.Proof.WholeBodies
public import proofs.«01_k».proof.Proof.WholeMath
public import Idealize.ShloMosaic.Lib.Pointwise

@[expose] public section

set_option maxRecDepth 16384

noncomputable section

namespace Cert.Proof.Whole

open Cert.KernelIdeal Cert.KernelIdeal.Gen
open Idealize.ShloMosaic

/-- The named constant, as either format's pattern names it. -/
theorem log2_f32 : Named.named (F := Ideal) κ "log2" (φ := .f32) 0x3F317218#32 = ((Real.log 2 : ℝ) : EReal) := IdealRules.named_const.ideal_named_scalar _ _ _ _ rfl
theorem log2_bf16 : Named.named (F := Ideal) κ "log2" (φ := .bf16) 0x3F31#16 = ((Real.log 2 : ℝ) : EReal) := IdealRules.named_const.ideal_named_scalar _ _ _ _ rfl

/-- The features' product. -/
theorem pay0_apply (v0 : Vec Ideal S10008x128 .f32) (v3 : Vec Ideal S128x128 .f32) (r : Fin 10008) (f : Fin 128) :
    k0_pay1 v0 v3 (ix2 r f) = ∑ k : Fin 128, v0 (ix2 r k) * v3 (ix2 k f) := by
  pointwise [k0_pay1]

/-- The last dense layer. -/
theorem pay1_apply (v36 : FVec Ideal S400x128 .f32) (v37 : Vec Ideal S1x128 .f32) (v52 : Vec Ideal S128x128 .bf16) (v55 : Vec Ideal S1x128 .f32) (r : Fin 400) (o : Fin 128) :
    k2_pay1 v36 v37 v52 v55 (ix2 r o) = ∑ p : Fin 128, ssp (v36 (ix2 r p) + v37 (ix2 0 p)) * v52 (ix2 p o) + v55 (ix2 0 o) := by
  pointwise [k2_pay1]
  rw [log2_f32]
  rfl

/-- The pairs' filters times their rows, summed over an atom's pairs, through the first dense layer's matrix. -/
theorem pay2_apply (v0 : Vec Ideal S400x32x50 .bf16) (v3 : Vec Ideal S50x128 .bf16) (v6 : Vec Ideal S1x128 .f32) (v21 : Vec Ideal S128x128 .bf16) (v24 : Vec Ideal S1x128 .f32)
    (v28 : Vec Ideal S12800x128 .f32) (v34 : Vec Ideal S128x128 .bf16) (r : Fin 400) (o : Fin 128) :
    k2_pay2 v0 v3 v6 v21 v24 v28 v34 (ix2 r o)
      = ∑ f : Fin 128, (∑ n : Fin 32, twoLayers (fun k => v0 (ix3 r n k)) (fun k p => v3 (ix2 k p)) (fun p => v6 (ix2 0 p)) (fun p f => v21 (ix2 p f)) (fun f => v24 (ix2 0 f)) f
          * v28 (ix2 ⟨r.val * 32 + n.val, by have := r.isLt; have := n.isLt; omega⟩ f)) * v34 (ix2 f o) := by
  pointwise [k2_pay2]
  rw [log2_bf16]
  rfl

/-- The fused body's value. -/
theorem fusedVal_apply (X0 : S400x32x50.Idx → Elt Ideal .bf16) (X1 : S12800x128.Idx → Elt Ideal .f32) (X2 : S50x128.Idx → Elt Ideal .bf16) (X3 : S1x128.Idx → Elt Ideal .f32)
    (X4 : S128x128.Idx → Elt Ideal .bf16) (X5 : S1x128.Idx → Elt Ideal .f32) (X6 : S128x128.Idx → Elt Ideal .bf16) (X7 : S1x128.Idx → Elt Ideal .f32)
    (X8 : S128x128.Idx → Elt Ideal .bf16) (X9 : S1x128.Idx → Elt Ideal .f32) (r : Fin 400) (o : Fin 128) :
    fusedVal X0 X1 X2 X3 X4 X5 X6 X7 X8 X9 (ix2 r o)
      = twoLayers (fun f => ∑ n : Fin 32, twoLayers (fun k => X0 (ix3 r n k)) (fun k p => X2 (ix2 k p)) (fun p => X3 (ix2 0 p)) (fun p f => X4 (ix2 p f)) (fun f => X5 (ix2 0 f)) f
          * X1 (ix2 ⟨r.val * 32 + n.val, by have := r.isLt; have := n.isLt; omega⟩ f))
        (fun f p => X6 (ix2 f p)) (fun p => X7 (ix2 0 p)) (fun p o => X8 (ix2 p o)) (fun o => X9 (ix2 0 o)) o := by
  unfold fusedVal
  rw [pay1_apply]
  unfold twoLayers
  refine congrArg (· + _) (Finset.sum_congr rfl fun p _ => ?_)
  rw [pay2_apply]
  rfl

end Cert.Proof.Whole

end
-- ==== Proof.WholeOut.lean ====
/-
  The last call's result at an atom, from the arrays its windows read: the two dense layers of the sum of filter times row
  over the atom's pairs.
-/
module

public import proofs.«01_k».proof.Proof.WholeBlocks
public import proofs.«01_k».proof.Proof.WholePayloads

@[expose] public section

set_option maxRecDepth 16384

noncomputable section

namespace Cert.Proof.Whole

open Cert.KernelIdeal Cert.KernelIdeal.Gen
open Idealize.ShloMosaic Idealize.ShloMosaic.TcCoe

variable (W : (c : Dev nD) → Valuation τ sig (Elt Ideal)) (n : ℕ) (c : Dev nD)

/-- At atom `R = 400 t + r` the result is the fused body's value of the whole arrays' parts. -/
theorem out2_apply (t : Fin cfg2.N) (r : Fin 400) (R : Fin 10000) (hR : R.val = 400 * t.val + r.val) (o : Fin 128) :
    out2 W c t (ix2 r o)
      = twoLayers (fun f => ∑ k : Fin 32,
            twoLayers (fun l => (W c (Proc.devRef .tc main_v20) : S10000x32x50.Idx → Elt Ideal .bf16) (ix3 R k l))
              (fun l p => (W c (Proc.devRef .tc main_v21) : S50x128.Idx → Elt Ideal .bf16) (ix2 l p)) (fun p => (W c (Proc.devRef .tc main_v22) : S1x128.Idx → Elt Ideal .f32) (ix2 0 p))
              (fun p f => (W c (Proc.devRef .tc main_v23) : S128x128.Idx → Elt Ideal .bf16) (ix2 p f)) (fun f => (W c (Proc.devRef .tc main_v24) : S1x128.Idx → Elt Ideal .f32) (ix2 0 f)) f
            * (W c (Proc.devRef .tc main_v18) : S323584x128.Idx → Elt Ideal .f32) (ix2 ⟨R.val * 32 + k.val, by have := R.isLt; have := k.isLt; omega⟩ f))
          (fun f p => (W c (Proc.devRef .tc main_v25) : S128x128.Idx → Elt Ideal .bf16) (ix2 f p)) (fun p => (W c (Proc.devRef .tc main_v26) : S1x128.Idx → Elt Ideal .f32) (ix2 0 p))
          (fun p o => (W c (Proc.devRef .tc main_v27) : S128x128.Idx → Elt Ideal .bf16) (ix2 p o)) (fun o => (W c (Proc.devRef .tc main_v28) : S1x128.Idx → Elt Ideal .f32) (ix2 0 o)) o := by
  unfold out2
  rw [fusedVal_apply, blk2_2, blk2_3, blk2_4, blk2_5, blk2_6, blk2_7, blk2_8, blk2_9]
  refine congrArg (fun s => twoLayers s _ _ _ _ o) (funext fun f => Finset.sum_congr rfl fun k _ => ?_)
  rw [blk2_1 W c t _ f ⟨R.val * 32 + k.val, by have := R.isLt; have := k.isLt; omega⟩ (by show R.val * 32 + k.val = 12800 * t.val + (r.val * 32 + k.val); omega)]
  refine congrArg (fun x => twoLayers x _ _ _ _ f * _) (funext fun l => blk2_0 W c t r k l R hR)

theorem out_apply (R : Fin 10000) (o : Fin 128) :
    ((dat2 W n c).arrAt 10 cfg2.N : S10000x128.Idx → Elt Ideal .f32) (ix2 R o)
      = out2 W c ⟨R.val / 400, by have := R.isLt; show _ < grid2.N; rw [N_2]; omega⟩ (ix2 ⟨R.val % 400, Nat.mod_lt _ (by decide)⟩ o) := by
  rw [out_eq]
  rfl

end Cert.Proof.Whole

end
-- ==== Proof.WholeRows.lean ====
/-
  The rows the SparseCores gather, pair by pair: a live pair's is its neighbour's row of the features' product, a dead
  pair's the zero row.
-/
module

public import proofs.«01_k».proof.Proof.WholeValues
public import proofs.«01_k».proof.Proof.WholePayloads

@[expose] public section

set_option maxRecDepth 16384

noncomputable section

namespace Cert.Proof.Whole

open Cert.KernelIdeal Cert.KernelIdeal.Gen
open Idealize.ShloMosaic

variable (x0 : FVec Ideal S4x2500x128 .f32) (x1 : FVec Ideal S4x2500x32 .f32) (x2 : IVec S4x2500x32 32) (x3 : FVec Ideal S4x2500x32 .f32)

/-- A pair is live where its mask is not zero and its distance is within the cutoff. -/
abbrev Live (b : Fin 4) (a : Fin 2500) (n : Fin 32) : Prop := x3 (ix3 b a n) ≠ 0 ∧ x1 (ix3 b a n) ≤ Ideal.ofBits .f32 0x40A00000#32

/-- A pair's place in the list of rows. -/
abbrev place (b : Fin 4) (a : Fin 2500) (n : Fin 32) : Fin 323584 :=
  ⟨(b.val * 2500 + a.val) * 32 + n.val, by have := b.isLt; have := a.isLt; have := n.isLt; omega⟩

/-- A pair's word in the list: its neighbour's row of the padded table, or the first zero row. -/
theorem rowsList_apply (b : Fin 4) (a : Fin 2500) (n : Fin 32) :
    rowsList x1 x2 x3 (ix2 (0 : Fin 1) (place b a n))
      = Scalar.select (IntOp.andi (BitVec.ofBool (decide (x3 (ix3 b a n) ≠ 0))) (BitVec.ofBool (decide (x1 (ix3 b a n) ≤ Ideal.ofBits .f32 0x40A00000#32))))
          (IntOp.addi (x2 (ix3 b a n)) (IntOp.muli (BitVec.ofNat 32 b.val) 2500#32)) 10000#32 := by
  have hb := b.isLt
  have ha := a.isLt
  have hn := n.isLt
  pointwise [rowsList]
  exact dif_pos (by omega)

theorem live_word (h2 : ∀ j, (x2 j).toNat < 2500) (b : Fin 4) (a : Fin 2500) (n : Fin 32) (h : Live x1 x3 b a n) :
    (rowsList x1 x2 x3 (ix2 (0 : Fin 1) (place b a n))).toNat = b.val * 2500 + (x2 (ix3 b a n)).toNat := by
  rw [rowsList_apply, decide_eq_true h.1, decide_eq_true h.2]
  show (IntOp.addi (x2 (ix3 b a n)) (IntOp.muli (BitVec.ofNat 32 b.val) 2500#32)).toNat = _
  have hb : ∀ b : Fin 4, (IntOp.muli (BitVec.ofNat 32 b.val) 2500#32).toNat = b.val * 2500 := by decide
  have h2' := h2 (ix3 b a n)
  have := b.isLt
  simp only [IntOp.addi, BitVec.toNat_add, hb]
  omega

theorem dead_word (b : Fin 4) (a : Fin 2500) (n : Fin 32) (h : ¬ Live x1 x3 b a n) :
    (rowsList x1 x2 x3 (ix2 (0 : Fin 1) (place b a n))).toNat = 10000 := by
  rw [rowsList_apply]
  have e : IntOp.andi (BitVec.ofBool (decide (x3 (ix3 b a n) ≠ 0))) (BitVec.ofBool (decide (x1 (ix3 b a n) ≤ Ideal.ofBits .f32 0x40A00000#32))) = 0#1 := by
    have hl : ∀ v : BitVec 1, IntOp.andi (BitVec.ofBool false) v = 0#1 := by decide
    have hr : ∀ v : BitVec 1, IntOp.andi v (BitVec.ofBool false) = 0#1 := by decide
    rcases not_and_or.mp h with h | h <;> rw [decide_eq_false h]
    · exact hl _
    · exact hr _
  rw [e]; rfl

/-- A row of the padded features: an atom's, -/
theorem padded_atom (b : Fin 4) (a : Fin 2500) (k : Fin 128) (R : Fin 10008) (hR : R.val = b.val * 2500 + a.val) :
    padded x0 (ix2 R k) = x0 (ix3 b a k) := by
  have hb := b.isLt
  have ha := a.isLt
  have key : ∀ (b' : Fin 4) (a' : Fin 2500), b' = b → a' = a → (ix3 b' a' k : S4x2500x128.Idx) = ix3 b a k := by rintro _ _ rfl rfl; rfl
  pointwise [padded]
  rw [dif_pos (by omega), key _ _ (Fin.ext (by show R.val / 2500 = b.val; omega)) (Fin.ext (by show R.val % 2500 = a.val; omega))]

/-- or zero past the atoms. -/
theorem padded_zero (k : Fin 128) (R : Fin 10008) (hR : R.val = 10000) : padded x0 (ix2 R k) = 0 := by
  pointwise [padded]
  rw [dif_neg (by omega)]
  show (((0#32 : BitVec 32).toInt : ℝ) : EReal) = 0
  simp

variable (x5 : FVec Ideal S128x128 .f32)

theorem gathered_ix (T : S10008x128.Idx → Elt Ideal .f32) (I : S1x323584.Idx → Elt Ideal .i32) (P : Fin 323584) (f : Fin 128) (R : Fin 10008)
    (hR : (I (ix2 (0 : Fin 1) P) : BitVec 32).toNat = R.val) : gathered T I (ix2 P f) = T (ix2 R f) := by
  have hi : (fun | 0 => (0 : Fin 1) | 1 => P : S1x323584.Idx) = ix2 (0 : Fin 1) P := funext fun (a : Fin 2) => by match a with | 0 => rfl | 1 => rfl
  show T (fun | 0 => Fin.ofNat 10008 (I (fun | 0 => (0 : Fin 1) | 1 => P)).toNat | 1 => f) = _
  rw [hi, hR]
  refine congrArg T (funext fun (a : Fin 2) => ?_)
  match a with
  | 0 => exact Fin.ext (Nat.mod_eq_of_lt R.isLt)
  | 1 => rfl

/-- What the gather brings a live pair. -/
theorem row_live (h2 : ∀ j, (x2 j).toNat < 2500) (b : Fin 4) (a : Fin 2500) (n : Fin 32) (h : Live x1 x3 b a n) (f : Fin 128) :
    gathered (F := Ideal) (k0_pay1 (padded x0) x5) (rowsList x1 x2 x3) (ix2 (place b a n) f)
      = ∑ k : Fin 128, x0 (ix3 b ⟨(x2 (ix3 b a n)).toNat, h2 _⟩ k) * x5 (ix2 k f) := by
  have h2' := h2 (ix3 b a n)
  have hb := b.isLt
  rw [gathered_ix _ _ _ f ⟨b.val * 2500 + (x2 (ix3 b a n)).toNat, by omega⟩ (live_word x1 x2 x3 h2 b a n h), pay0_apply]
  exact Finset.sum_congr rfl fun k _ => congrArg (· * _) (padded_atom x0 b ⟨_, h2'⟩ k _ rfl)

/-- What the gather brings a dead pair. -/
theorem row_dead (b : Fin 4) (a : Fin 2500) (n : Fin 32) (h : ¬ Live x1 x3 b a n) (f : Fin 128) :
    gathered (F := Ideal) (k0_pay1 (padded x0) x5) (rowsList x1 x2 x3) (ix2 (place b a n) f) = 0 := by
  rw [gathered_ix _ _ _ f ⟨10000, by decide⟩ (dead_word x1 x2 x3 b a n h), pay0_apply]
  exact Finset.sum_eq_zero fun k _ => (congrArg (· * _) (padded_zero x0 k _ rfl)).trans (zero_mul _)

end Cert.Proof.Whole

end
-- ==== Proof.WholeTake.lean ====
/-
  The reference's rows: where every neighbour's index is in range, what `take_along_axis` reads for a pair is the row of the
  features' product that the pair's index names.
-/
module

public import Idealize.ShloMosaic.Lib.Routing.Ops
public import Idealize.ShloMosaic.Lib.ReduceAll
public import Idealize.ShloMosaic.Lib.Pointwise
public import proofs.«01_k».proof.Proof.Gen.ReferenceIdeal
public import proofs.«01_k».proof.Proof.Gen.ReferenceIdeal.Run

@[expose] public section

set_option maxRecDepth 16384

noncomputable section

namespace Cert.Proof.Whole.Ref

open Cert.ReferenceIdeal Cert.ReferenceIdeal.Gen Idealize.ShloMosaic

/-! ## A word that names an atom -/

theorem not_neg {v : BitVec 32} (h : v.toNat < 2500) : IntOp.cmpi .slt v 0#32 = 0#1 := by
  have : v.slt 0#32 = false := by
    rw [BitVec.slt_eq_decide, BitVec.toInt_eq_toNat_cond]; simp; omega
  simp [IntOp.cmpi, this]
theorem nonneg {v : BitVec 32} (h : v.toNat < 2500) : IntOp.cmpi .sge v 0#32 = 1#1 := by
  have : (0#32).sle v = true := by
    rw [BitVec.sle_eq_decide, BitVec.toInt_eq_toNat_cond, BitVec.toInt_eq_toNat_cond]; simp; omega
  simp [IntOp.cmpi, this]
theorem below {v : BitVec 32} (h : v.toNat < 2500) : IntOp.cmpi .sle v 2499#32 = 1#1 := by
  have : v.sle 2499#32 = true := by
    rw [BitVec.sle_eq_decide, BitVec.toInt_eq_toNat_cond, BitVec.toInt_eq_toNat_cond]; simp; omega
  simp [IntOp.cmpi, this]

/-! ## The indices, and the rows read -/

section Take
variable (T : FVec Ideal S4x2500x128 .f32) (i : IVec S4x2500x32 32)

/-- The neighbours' indices as one column per molecule. -/
abbrev col : IVec S4x80000x1 32 := broadcastInDim S4x80000x1 ![0, 1] bcast_S4x80000_S4x80000x1_0_1 (shapeCast S4x80000 i shapeCasts_S4x2500x32_S4x80000)

/-- The row numbers: a negative index counts from the end. -/
abbrev rowNo : IVec S4x80000x1 32 :=
  select (cmpi .slt (col i) (broadcastInDim S4x80000x1 ![] bcast_S_S4x80000x1 (constantI S_ 32 0#32)))
    (addi (col i) (broadcastInDim S4x80000x1 ![] bcast_S_S4x80000x1 (constantI S_ 32 2500#32))) (col i)

/-- Which row numbers are in range. -/
abbrev inRange : IVec S4x80000 1 :=
  Host.reduce IntOp.andi
    (andi (cmpi .sge (rowNo i) (broadcastInDim S4x80000x1 ![] bcast_S_S4x80000x1 (constantI S_ 32 0#32)))
      (cmpi .sle (rowNo i) (broadcastInDim S4x80000x1 ![0, 1, 2] bcast_S1x1x1_S4x80000x1_0_1_2 (broadcastInDim S1x1x1 ![2] bcast_S1_S1x1x1_2 (constantI S1 32 2499#32)))))
    (constantI S_ 1 1#1) reducesTo_S4x80000x1_S4x80000_d2 h_S_

/-- The rows taken, one per pair. -/
abbrev taken : FVec Ideal S4x80000x128 .f32 :=
  select (broadcastInDim S4x80000x128 ![0, 1] bcast_S4x80000_S4x80000x128_0_1 (inRange i))
    (Host.gather gather_S4x2500x128_S4x80000x1_S4x80000x128_2_1_0_0_1_2_11128 T (rowNo i))
    (broadcastInDim S4x80000x128 ![] bcast_S_S4x80000x128 (constant S_ .f32 0x7FC00000#32))

theorem col_apply (b : Fin 4) (q : Fin 80000) (z : Fin 1) (a : Fin 2500) (n : Fin 32) (hq : q.val = a.val * 32 + n.val) :
    col i (ix3 b q z) = i (ix3 b a n) := by
  pointwise
  have hn := n.isLt
  exact congrArg₂ (fun x y => i (ix3 b x y)) (Fin.ext (by show q.val / 32 = a.val; omega)) (Fin.ext (by show q.val % 32 = n.val; omega))

/-- The take's dimension numbers. -/
abbrev dTake := gather_S4x2500x128_S4x80000x1_S4x80000x128_2_1_0_0_1_2_11128

/-- The take at a pair whose row number is in range: that row. -/
theorem gather_at {α : Type} (x : S4x2500x128.Idx → α) (idx : IVec S4x80000x1 32) (b : Fin 4) (q : Fin 80000) (f : Fin 128) (r : Fin 2500)
    (hr : idx (ix3 b q (0 : Fin 1)) = BitVec.ofNat 32 r.val) :
    Host.gather dTake x idx (ix3 b q f) = x (ix3 b r f) := by
  have e0 : ∀ X : Fin 3, X = 0 → (ix3 b q f X).val = b.val := fun X h => by subst h; rfl
  have e1 : ∀ X : Fin 3, X = 1 → (ix3 b q f X).val = q.val := fun X h => by subst h; rfl
  have e2 : ∀ X : Fin 3, X = 2 → (ix3 b q f X).val = f.val := fun X h => by subst h; rfl
  unfold Host.gather
  refine congrArg x (funext fun (a : Fin 3) => Fin.ext ?_)
  show dTake.start (ix3 b q f) idx a + dTake.batchCoord (ix3 b q f) a + dTake.offCoord (ix3 b q f) a = (ix3 b r f a).val
  match a with
  | 0 =>
    rw [dTake.start_batching _ _ _ (by decide), dTake.offCoord_eq_zero _ _ (by decide), Nat.add_zero, Nat.zero_add]
    unfold GatherDims.batchCoord
    rw [dif_pos (by decide)]
    unfold GatherDims.siCoord
    simp only [Fin.val_cast]
    exact e0 _ (by decide)
  | 1 =>
    have hm : (1 : Fin 3) ∈ dTake.startIndexMap := by decide
    rw [dTake.batchCoord_eq_zero _ _ (by decide), dTake.offCoord_eq_zero _ _ (by decide)]
    simp only [Nat.add_zero]
    unfold GatherDims.start
    rw [dif_pos hm]
    have hsi : dTake.siIdx (ix3 b q f) ⟨dTake.startIndexMap.idxOf 1, List.idxOf_lt_length_iff.2 hm⟩ = ix3 b q (0 : Fin 1) := by
      funext (b' : Fin 3)
      apply Fin.ext
      unfold GatherDims.siIdx
      match b' with
      | 0 =>
        rw [dif_neg (by decide)]
        unfold GatherDims.siCoord
        simp only [Fin.val_cast]
        exact e0 _ (by decide)
      | 1 =>
        rw [dif_neg (by decide)]
        unfold GatherDims.siCoord
        simp only [Fin.val_cast]
        exact e1 _ (by decide)
      | 2 =>
        rw [dif_pos (by decide)]
        show List.idxOf (1 : Fin 3) dTake.startIndexMap = 0
        decide
    have hrl := r.isLt
    rw [hsi, hr, StableHlo.Predicate.toInt_ofNat_small _ (by omega)]
    show min ((r.val : Int)).toNat (2500 - 1) = r.val
    omega
  | 2 =>
    rw [dTake.batchCoord_eq_zero _ _ (by decide)]
    unfold GatherDims.start GatherDims.offCoord
    rw [dif_neg (by decide), dif_pos (by decide)]
    refine (Nat.zero_add _).trans ?_
    exact e2 _ (by decide)

theorem rowNo_apply (hi : ∀ j, (i j : BitVec 32).toNat < 2500) (b : Fin 4) (q : Fin 80000) (z : Fin 1) (a : Fin 2500) (n : Fin 32) (hq : q.val = a.val * 32 + n.val) :
    rowNo i (ix3 b q z) = i (ix3 b a n) := by
  have h : IntOp.cmpi .slt (col i (ix3 b q z)) 0#32 = 0#1 := by rw [col_apply i b q z a n hq]; exact not_neg (hi _)
  show (if IntOp.cmpi .slt (col i (ix3 b q z)) 0#32 = 1#1 then _ else col i (ix3 b q z)) = _
  rw [h, if_neg (by decide), col_apply i b q z a n hq]

theorem inRange_eq (hi : ∀ j, (i j : BitVec 32).toNat < 2500) (j : S4x80000.Idx) : inRange i j = 1#1 := by
  refine Host.reduce_andi_one _ _ _ _ j rfl fun k => ?_
  obtain ⟨b, q, z, rfl⟩ : ∃ (b : Fin 4) (q : Fin 80000) (z : Fin 1), k = ix3 b q z := ⟨k 0, k 1, k 2, by funext (x : Fin 3); match x with | 0 => rfl | 1 => rfl | 2 => rfl⟩
  have hq : q.val = (q.val / 32) * 32 + q.val % 32 := by omega
  have e := rowNo_apply i hi b q z ⟨q.val / 32, by omega⟩ ⟨q.val % 32, by omega⟩ hq
  show IntOp.andi (IntOp.cmpi .sge (rowNo i (ix3 b q z)) 0#32) (IntOp.cmpi .sle (rowNo i (ix3 b q z)) 2499#32) = 1#1
  rw [e, nonneg (hi _), below (hi _)]; rfl

/-- The row a pair takes is the one its index names. -/
theorem taken_apply (hi : ∀ j, (i j : BitVec 32).toNat < 2500) (b : Fin 4) (q : Fin 80000) (f : Fin 128) (a : Fin 2500) (n : Fin 32) (hq : q.val = a.val * 32 + n.val) :
    taken T i (ix3 b q f) = T (ix3 b ⟨(i (ix3 b a n)).toNat, hi _⟩ f) := by
  have hall := inRange_eq i hi
  unfold taken
  generalize inRange i = r at hall
  refine (if_pos (hall _)).trans ?_
  refine gather_at T (rowNo i) b q f ⟨(i (ix3 b a n)).toNat, hi _⟩ ?_
  rw [rowNo_apply i hi b q 0 a n hq]; exact ((BitVec.ofNat_toNat 32 _).trans (BitVec.setWidth_eq _)).symm

end Take

end Cert.Proof.Whole.Ref

end
-- ==== Proof.WholeRef.lean ====
/-
  The reference's result, element by element, as real arithmetic.
-/
module

public import proofs.«01_k».proof.Proof.WholeTake
public import proofs.«01_k».proof.Proof.WholeMath
public import Idealize.ShloMosaic.Lib.Pipeline.Regions

@[expose] public section

set_option maxRecDepth 16384

noncomputable section

namespace Cert.Proof.Whole.Ref

open Cert.ReferenceIdeal Cert.ReferenceIdeal.Gen Idealize.ShloMosaic
open Idealize.ShloMosaic.TcCoe

/-! ## The reference's parts -/

/-- The shifted softplus of a rank 4 array. -/
abbrev ssp4 (x : FVec Ideal S4x2500x32x128 .f32) : FVec Ideal S4x2500x32x128 .f32 :=
  let z := broadcastInDim S4x2500x32x128 ![] bcast_S_S4x2500x32x128 (constant (F := Ideal) S_ .f32 0x00000000#32)
  subf (select (cmpf .une (subf x z) (subf x z)) (addf x z) (addf (maximumf x z) (Host.log1p (Host.exp (Host.negf (Host.absf (subf x z)))))))
    (broadcastInDim S4x2500x32x128 ![] bcast_S_S4x2500x32x128 (Host.log (constant (F := Ideal) S_ .f32 0x40000000#32)))

/-- … of a rank 3 array. -/
abbrev ssp3 (x : FVec Ideal S4x2500x128 .f32) : FVec Ideal S4x2500x128 .f32 :=
  let z := broadcastInDim S4x2500x128 ![] bcast_S_S4x2500x128 (constant (F := Ideal) S_ .f32 0x00000000#32)
  subf (select (cmpf .une (subf x z) (subf x z)) (addf x z) (addf (maximumf x z) (Host.log1p (Host.exp (Host.negf (Host.absf (subf x z)))))))
    (broadcastInDim S4x2500x128 ![] bcast_S_S4x2500x128 (Host.log (constant (F := Ideal) S_ .f32 0x40000000#32)))

/-- The filters before the cutoff. -/
abbrev filters (a4 : FVec Ideal S4x2500x32x50 .f32) (a6 : FVec Ideal S50x128 .f32) (a7 : FVec Ideal S128 .f32) (a8 : FVec Ideal S128x128 .f32) (a9 : FVec Ideal S128 .f32) :
    FVec Ideal S4x2500x32x128 .f32 :=
  addf (Host.dotGeneral dot_S4x2500x32x128_S128x128_S4x2500x32x128_3_0_012_1_n_n none
      (ssp4 (addf (Host.dotGeneral dot_S4x2500x32x50_S50x128_S4x2500x32x128_3_0_012_1_n_n none a4 a6)
        (broadcastInDim S4x2500x32x128 ![0, 1, 2, 3] bcast_S1x1x1x128_S4x2500x32x128_0_1_2_3 (broadcastInDim S1x1x1x128 ![3] bcast_S128_S1x1x1x128_3 a7)))) a8)
    (broadcastInDim S4x2500x32x128 ![0, 1, 2, 3] bcast_S1x1x1x128_S4x2500x32x128_0_1_2_3 (broadcastInDim S1x1x1x128 ![3] bcast_S128_S1x1x1x128_3 a9))

/-- Which pairs are within the cutoff: one or zero. -/
abbrev cut (a1 : FVec Ideal S4x2500x32 .f32) : FVec Ideal S4x2500x32x1 .f32 :=
  broadcastInDim S4x2500x32x1 ![0, 1, 2] bcast_S4x2500x32_S4x2500x32x1_0_1_2
    (uitofp .f32 (cmpf .ole a1 (broadcastInDim S4x2500x32 ![] bcast_S_S4x2500x32 (constant (F := Ideal) S_ .f32 0x40A00000#32))))

/-- The sum over an atom's pairs of row times filter times cutoff times mask. -/
abbrev summed (y : FVec Ideal S4x80000x128 .f32) (w : FVec Ideal S4x2500x32x128 .f32) (a1 a3 : FVec Ideal S4x2500x32 .f32) : FVec Ideal S4x2500x128 .f32 :=
  Host.reduceAdd (mulf (mulf (shapeCast S4x2500x32x128 y shapeCasts_S4x80000x128_S4x2500x32x128)
      (mulf w (broadcastInDim S4x2500x32x128 ![0, 1, 2, 3] bcast_S4x2500x32x1_S4x2500x32x128_0_1_2_3 (cut a1))))
      (broadcastInDim S4x2500x32x128 ![0, 1, 2, 3] bcast_S4x2500x32x1_S4x2500x32x128_0_1_2_3 (broadcastInDim S4x2500x32x1 ![0, 1, 2] bcast_S4x2500x32_S4x2500x32x1_0_1_2 a3)))
    (constant S_ .f32 0x00000000#32) reducesTo_S4x2500x32x128_S4x2500x128_d2 h_S_

/-- The two dense layers after the sum. -/
abbrev dense (s : FVec Ideal S4x2500x128 .f32) (a10 : FVec Ideal S128x128 .f32) (a11 : FVec Ideal S128 .f32) (a12 : FVec Ideal S128x128 .f32) (a13 : FVec Ideal S128 .f32) :
    FVec Ideal S4x2500x128 .f32 :=
  addf (Host.dotGeneral dot_S4x2500x128_S128x128_S4x2500x128_2_0_01_1_n_n none
      (ssp3 (addf (Host.dotGeneral dot_S4x2500x128_S128x128_S4x2500x128_2_0_01_1_n_n none s a10)
        (broadcastInDim S4x2500x128 ![0, 1, 2] bcast_S1x1x128_S4x2500x128_0_1_2 (broadcastInDim S1x1x128 ![2] bcast_S128_S1x1x128_2 a11)))) a12)
    (broadcastInDim S4x2500x128 ![0, 1, 2] bcast_S1x1x128_S4x2500x128_0_1_2 (broadcastInDim S1x1x128 ![2] bcast_S128_S1x1x128_2 a13))

/-- The features' product. -/
abbrev product (a0 : FVec Ideal S4x2500x128 .f32) (a5 : FVec Ideal S128x128 .f32) : FVec Ideal S4x2500x128 .f32 :=
  Host.dotGeneral dot_S4x2500x128_S128x128_S4x2500x128_2_0_01_1_n_n none a0 a5

/-- The reference's result from its parts. -/
theorem result_eq (m : (ℓ : Loc nD τ sig) → Buf (Elt Ideal) ℓ) (c : Dev nD) :
    Cert.ReferenceIdeal.Value.res_main_v63 (F := Ideal) m c
      = dense (summed (taken (product (m ((c.tc : Thread nD τ).loc main_arg0)) (m ((c.tc : Thread nD τ).loc main_arg5))) (m ((c.tc : Thread nD τ).loc main_arg2)))
          (filters (m ((c.tc : Thread nD τ).loc main_arg4)) (m ((c.tc : Thread nD τ).loc main_arg6)) (m ((c.tc : Thread nD τ).loc main_arg7))
            (m ((c.tc : Thread nD τ).loc main_arg8)) (m ((c.tc : Thread nD τ).loc main_arg9)))
          (m ((c.tc : Thread nD τ).loc main_arg1)) (m ((c.tc : Thread nD τ).loc main_arg3)))
        (m ((c.tc : Thread nD τ).loc main_arg10)) (m ((c.tc : Thread nD τ).loc main_arg11)) (m ((c.tc : Thread nD τ).loc main_arg12)) (m ((c.tc : Thread nD τ).loc main_arg13)) := by
  chain_rfl

theorem product_apply (a0 : FVec Ideal S4x2500x128 .f32) (a5 : FVec Ideal S128x128 .f32) (b : Fin 4) (a : Fin 2500) (f : Fin 128) :
    product a0 a5 (ix3 b a f) = ∑ k : Fin 128, a0 (ix3 b a k) * a5 (ix2 k f) := by
  pointwise

theorem ssp3_apply (x : FVec Ideal S4x2500x128 .f32) (j : S4x2500x128.Idx) : ssp3 x j = ssp (x j) := by
  pointwise [ssp3]
  exact ssp_ref _
theorem ssp4_apply (x : FVec Ideal S4x2500x32x128 .f32) (j : S4x2500x32x128.Idx) : ssp4 x j = ssp (x j) := by
  pointwise [ssp4]
  exact ssp_ref _

theorem filters_apply (a4 : FVec Ideal S4x2500x32x50 .f32) (a6 : FVec Ideal S50x128 .f32) (a7 : FVec Ideal S128 .f32) (a8 : FVec Ideal S128x128 .f32) (a9 : FVec Ideal S128 .f32)
    (b : Fin 4) (a : Fin 2500) (n : Fin 32) (f : Fin 128) :
    filters a4 a6 a7 a8 a9 (ix4 b a n f)
      = twoLayers (fun k => a4 (ix4 b a n k)) (fun k p => a6 (ix2 k p)) (fun p => a7 (ix1 p)) (fun p f => a8 (ix2 p f)) (fun f => a9 (ix1 f)) f := by
  pointwise
  refine congrArg (· + _) (Finset.sum_congr rfl fun p _ => ?_)
  rw [ssp4_apply]
  pointwise

/-- The sum over an atom's pairs of row times filter times cutoff times mask. -/
theorem summed_apply (y : FVec Ideal S4x80000x128 .f32) (w : FVec Ideal S4x2500x32x128 .f32) (a1 a3 : FVec Ideal S4x2500x32 .f32)
    (b : Fin 4) (a : Fin 2500) (f : Fin 128) :
    summed y w a1 a3 (ix3 b a f)
      = ∑ n : Fin 32, y (ix3 b ⟨a.val * 32 + n.val, by have := a.isLt; have := n.isLt; omega⟩ f)
          * (w (ix4 b a n f) * FloatOps.uitofp (F := Ideal) .f32 (BitVec.ofBool (decide (a1 (ix3 b a n) ≤ Ideal.ofBits .f32 0x40A00000#32))))
          * a3 (ix3 b a n) := by
  pointwise

theorem dense_apply (s : FVec Ideal S4x2500x128 .f32) (a10 : FVec Ideal S128x128 .f32) (a11 : FVec Ideal S128 .f32) (a12 : FVec Ideal S128x128 .f32) (a13 : FVec Ideal S128 .f32)
    (b : Fin 4) (a : Fin 2500) (o : Fin 128) :
    dense s a10 a11 a12 a13 (ix3 b a o)
      = twoLayers (fun f => s (ix3 b a f)) (fun f p => a10 (ix2 f p)) (fun p => a11 (ix1 p)) (fun p o => a12 (ix2 p o)) (fun o => a13 (ix1 o)) o := by
  pointwise
  refine congrArg (· + _) (Finset.sum_congr rfl fun p _ => ?_)
  rw [ssp3_apply]
  pointwise

end Cert.Proof.Whole.Ref

end
-- ==== Proof.WholeFrames.lean ====
/-
  The whole kernel runs, under its precondition: every word of the list it makes names a row of the padded table, its
  arguments end as they began, and every semaphore ends at zero. Of the words themselves and at the ideal instance alike.
-/
module

public import proofs.«01_k».proof.Defs
public import proofs.«01_k».proof.Proof.WholeValues
public import proofs.«01_k».proof.Proof.Gen.Kernel
public import proofs.«01_k».proof.Proof.Gen.Pre_names_atoms
public import proofs.«01_k».proof.Proof.Gen.Pre_names_atoms_masked
public import proofs.«01_k».proof.Proof.Gen.ReferenceIdeal.Run

@[expose] public section

noncomputable section

namespace Cert.Proof.Whole

open Cert.KernelIdeal Cert.KernelIdeal.Gen
open Idealize.ShloMosaic Idealize.ShloMosaic.TcCoe Idealize.SL.Sem

/-! ## The preconditions, word by word -/

theorem andi_ofBool (p q : Bool) : IntOp.andi (BitVec.ofBool p) (BitVec.ofBool q) = BitVec.ofBool (p && q) := by cases p <;> cases q <;> decide
theorem ofBool_eq_one (p : Bool) : (BitVec.ofBool p = 1#1) ↔ p = true := by cases p <;> decide
theorem andi_eq_one (a b : BitVec 1) : IntOp.andi a b = 1#1 ↔ a = 1#1 ∧ b = 1#1 := by
  revert a b; decide

theorem word_lt (v : BitVec 32) (h : IntOp.andi (IntOp.cmpi .sge v 0#32) (IntOp.cmpi .slt v 2500#32) = 1#1) : v.toNat < 2500 := by
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at h
  omega

section
variable {F : FTy → Type} [FloatOps F] (x0 : FVec F S4x2500x128 .f32) (x1 : FVec F S4x2500x32 .f32) (x2 : IVec S4x2500x32 32) (x3 : FVec F S4x2500x32 .f32)
  (x4 : FVec F S4x2500x32x50 .f32) (x5 : FVec F S128x128 .f32) (x6 : FVec F S50x128 .f32) (x7 : FVec F S128 .f32) (x8 : FVec F S128x128 .f32)
  (x9 : FVec F S128 .f32) (x10 : FVec F S128x128 .f32) (x11 : FVec F S128 .f32) (x12 : FVec F S128x128 .f32) (x13 : FVec F S128 .f32)

/-- Every neighbour names an atom of its own batch. -/
theorem neighbor_lt (h : Cert.Pre_names_atoms.fn x0 x1 x2 x3 x4 x5 x6 x7 x8 x9 x10 x11 x12 x13 = fun _ => 1#1) (j : S4x2500x32.Idx) :
    (x2 j).toNat < 2500 := word_lt _ (congrFun h j)

theorem neighbor_lt' (h : Cert.Pre_names_atoms_masked.fn x0 x1 x2 x3 x4 x5 x6 x7 x8 x9 x10 x11 x12 x13 = fun _ => 1#1) (j : S4x2500x32.Idx) :
    (x2 j).toNat < 2500 := word_lt _ ((andi_eq_one _ _).mp (congrFun h j)).1

/-- Every word of the list names a row of the padded table. -/
theorem rowsList_lt (h : ∀ j, (x2 j).toNat < 2500) (x : S1x323584.Idx) : (rowsList x1 x2 x3 x).toNat < 10008 := by
  have hb : ∀ b : Fin 4, (IntOp.muli (BitVec.ofNat 32 b.val) 2500#32).toNat ≤ 7500 := by decide
  unfold rowsList shapeCast pad
  split
  · unfold select Scalar.select
    beta_reduce
    split
    · simp only [addi, IntOp.addi, BitVec.toNat_add]
      refine lt_of_le_of_lt (Nat.mod_le _ _) ?_
      exact lt_of_lt_of_le (add_lt_add_of_lt_of_le (h _) (hb _)) (by decide)
    · exact (by decide : (10000#32 : BitVec 32).toNat < 10008)
  · exact (by decide : (0#32 : BitVec 32).toNat < 10008)
end

theorem listOK {F : FTy → Type} [FloatOps F] [Named F] (m : (ℓ : Loc nD τ sig) → Buf (Elt F) ℓ)
    (h : ∀ (c : Dev nD) (j : S4x2500x32.Idx), (m ((c.tc : Thread nD τ).loc main_arg2) j : BitVec 32).toNat < 2500) : ListOK m := fun d x => by
  rw [W₃_v17]
  exact rowsList_lt _ _ _ (h d) x

/-! ## The frames -/

/-- The run, with what it leaves in the result and the arguments. -/
theorem run_frame {F : FTy → Type} [FloatOps F] [Named F] [∀ e, Nonempty (Elt F e)] (m : (ℓ : Loc nD τ sig) → Buf (Elt F) ℓ) (ρ : Dev nD → PrngReg)
    (h : ∀ (c : Dev nD) (j : S4x2500x32.Idx), (m ((c.tc : Thread nD τ).loc main_arg2) j : BitVec 32).toNat < 2500) :
    θ_run (Cert.KernelIdeal.defs (F := F)) (Cert.KernelIdeal.threads (F := F)) ⟨m, fun _ => 0, ρ⟩ fun r =>
      (∀ c : Dev nD, r.2.mem ((c.tc : Thread nD τ).loc main_v30) = W₇ m c (Proc.devRef .tc main_v30)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)) ∧ r.2.sem = fun _ => 0 := by
  refine (θ_run Cert.KernelIdeal.defs _ _).mono (fun r hr => ⟨fun c => ?_, hr.2⟩) (run_main m ρ (listOK m h))
  have arg (b : Ref sig .tc) (hs : b.isScoped = false) (hA : b ∉ wrA ++ [main_v2]) (hB : b ∉ wrB ++ [main_v18]) (hC : b ∉ wrC ++ [main_v29]) (hD : b ∉ wrD) :
      r.2.mem ((c.tc : Thread nD τ).loc b) = m ((c.tc : Thread nD τ).loc b) := (hr.1 c b hs).trans (W₇_arg m c hA hB hC hD)
  exact ⟨hr.1 c main_v30 rfl, arg _ rfl (by decide) (by decide) (by decide) (by decide), arg _ rfl (by decide) (by decide) (by decide) (by decide),
    arg _ rfl (by decide) (by decide) (by decide) (by decide), arg _ rfl (by decide) (by decide) (by decide) (by decide),
    arg _ rfl (by decide) (by decide) (by decide) (by decide), arg _ rfl (by decide) (by decide) (by decide) (by decide),
    arg _ rfl (by decide) (by decide) (by decide) (by decide), arg _ rfl (by decide) (by decide) (by decide) (by decide),
    arg _ rfl (by decide) (by decide) (by decide) (by decide), arg _ rfl (by decide) (by decide) (by decide) (by decide),
    arg _ rfl (by decide) (by decide) (by decide) (by decide), arg _ rfl (by decide) (by decide) (by decide) (by decide),
    arg _ rfl (by decide) (by decide) (by decide) (by decide), arg _ rfl (by decide) (by decide) (by decide) (by decide)⟩

/-- The frame claim's statement, at any float values. -/
def FrameAt (F : FTy → Type) [FloatOps F] [Named F] : Prop :=
  ∀ (m : (ℓ : Loc nD τ sig) → Buf (Elt F) ℓ) (g : Dev nD → PrngReg),
    (∀ c : Dev nD, Cert.Pre_names_atoms.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) = fun _ => 1#1) →
    θ_run (Cert.KernelIdeal.defs (F := F)) (Cert.KernelIdeal.threads (F := F)) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)) ∧ r.2.sem = fun _ => 0)

theorem frameAt (F : FTy → Type) [FloatOps F] [Named F] [∀ e, Nonempty (Elt F e)] : FrameAt F := fun m ρ h =>
  (θ_run Cert.KernelIdeal.defs _ _).mono (fun _ hr => ⟨fun c => (hr.1 c).2, hr.2⟩)
    (run_frame m ρ fun c j => neighbor_lt _ _ _ _ _ _ _ _ _ _ _ _ _ _ (h c) j)

/-- A named constant read at its word. -/
local instance : Named Bits := ⟨fun _ _ φ b => FloatOps.ofBits φ b⟩

/-- The program of the words is the named program, each name read at its word. -/
theorem frame_kernel_eq : FrameAt Bits = Cert.quiescent_Kernel := by chain_rfl
theorem frame_kernel : Cert.quiescent_Kernel := frame_kernel_eq.mp (frameAt Bits)
theorem frame_kernelIdeal : Cert.quiescent_KernelIdeal := frameAt Ideal
theorem frame_kernelIdeal_masked : Cert.quiescent_KernelIdeal_pre_names_atoms_masked := fun m ρ h =>
  (θ_run Cert.KernelIdeal.defs _ _).mono (fun _ hr => ⟨fun c => (hr.1 c).2, hr.2⟩)
    (run_frame (F := Ideal) m ρ fun c j => neighbor_lt' _ _ _ _ _ _ _ _ _ _ _ _ _ _ (h c) j)
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_referenceIdeal_masked : Cert.quiescent_ReferenceIdeal_pre_names_atoms_masked := fun m ρ _ => frame_referenceIdeal m ρ trivial

/-! ## The named constant -/

theorem preserves : Cert.preserves_Kernel_KernelIdeal :=
  ⟨IdealRules.named_const.statement Cert.KernelIdeal.κ "log2" .bf16 0x3F31#16 ((Real.log 2 : ℝ) : EReal) rfl,
    IdealRules.named_const.statement Cert.KernelIdeal.κ "log2" .f32 0x3F317218#32 ((Real.log 2 : ℝ) : EReal) rfl⟩

end Cert.Proof.Whole

end
-- ==== Proof.WholeAlgebraic.lean ====
/-
  The whole kernel computes what the reference computes, over the extended reals: both results, element by element, are
  the two dense layers of the sum of filter times row over an atom's pairs.
-/
module

public import proofs.«01_k».proof.Proof.WholeOut
public import proofs.«01_k».proof.Proof.WholeRows
public import proofs.«01_k».proof.Proof.WholeRef
public import proofs.«01_k».proof.Proof.WholeFrames

@[expose] public section

set_option maxRecDepth 16384

noncomputable section

namespace Cert.Proof.Whole

open Cert.KernelIdeal Cert.KernelIdeal.Gen
open Idealize.ShloMosaic Idealize.ShloMosaic.TcCoe
open Idealize.SL.Sem

/-! ## The kernel's result -/

section Kernel
variable (m : (ℓ : Loc nD τ sig) → Buf (Elt Ideal) ℓ) (c : Dev nD)

/-- What the SparseCores leave. -/
theorem rows_eq : (W₅ m c (Proc.devRef .tc main_v18) : S323584x128.Idx → Elt Ideal .f32)
    = gathered (F := Ideal) (k0_pay1 (padded (F := Ideal) (m ((c.tc : Thread nD τ).loc main_arg0))) (m ((c.tc : Thread nD τ).loc main_arg5)))
        (rowsList (F := Ideal) (m ((c.tc : Thread nD τ).loc main_arg1)) (m ((c.tc : Thread nD τ).loc main_arg2)) (m ((c.tc : Thread nD τ).loc main_arg3))) := by
  rw [W₅_v18, W₃_v17, W₃_v2, table_eq, W₁_v1, W₁_ne m c (b := main_arg5) (by decide)]

/-- The filter of pair `(b, a, n)` at `f`. -/
abbrev filt (a4 : FVec Ideal S4x2500x32x50 .f32) (a6 : FVec Ideal S50x128 .f32) (a7 : FVec Ideal S128 .f32) (a8 : FVec Ideal S128x128 .f32) (a9 : FVec Ideal S128 .f32)
    (b : Fin 4) (a : Fin 2500) (n : Fin 32) (f : Fin 128) : EReal :=
  twoLayers (fun k => a4 (ix4 b a n k)) (fun k p => a6 (ix2 k p)) (fun p => a7 (ix1 p)) (fun p f => a8 (ix2 p f)) (fun f => a9 (ix1 f)) f

/-- The reshapes between an atom's number and its batch and place. -/
theorem split3 (x : FVec Ideal S10000x128 .f32) (b : Fin 4) (a : Fin 2500) (o : Fin 128) :
    shapeCast S4x2500x128 x shapeCasts_S10000x128_S4x2500x128 (ix3 b a o) = x (ix2 ⟨b.val * 2500 + a.val, by have := b.isLt; have := a.isLt; omega⟩ o) := by
  pointwise
theorem split4 (x : FVec Ideal S4x2500x32x50 .f32) (b : Fin 4) (a : Fin 2500) (k : Fin 32) (l : Fin 50) :
    truncf .bf16 (shapeCast S10000x32x50 x shapeCasts_S4x2500x32x50_S10000x32x50) bitsLt_bf16_f32
      (ix3 ⟨b.val * 2500 + a.val, by have := b.isLt; have := a.isLt; omega⟩ k l) = x (ix4 b a k l) := by
  pointwise
/-- A bias as a row. -/
theorem row1 (x : FVec Ideal S128 .f32) (p : Fin 128) : shapeCast S1x128 x shapeCasts_S128_S1x128 (ix2 0 p) = x (ix1 p) := by
  pointwise

theorem kernel_value (b : Fin 4) (a : Fin 2500) (o : Fin 128) :
    (W₇ m c (Proc.devRef .tc main_v30) : S4x2500x128.Idx → Elt Ideal .f32) (ix3 b a o)
      = twoLayers (fun f => ∑ n : Fin 32,
            filt (m ((c.tc : Thread nD τ).loc main_arg4)) (m ((c.tc : Thread nD τ).loc main_arg6)) (m ((c.tc : Thread nD τ).loc main_arg7))
              (m ((c.tc : Thread nD τ).loc main_arg8)) (m ((c.tc : Thread nD τ).loc main_arg9)) b a n f
            * (W₅ m c (Proc.devRef .tc main_v18) : S323584x128.Idx → Elt Ideal .f32) (ix2 (place b a n) f))
          (fun f p => (m ((c.tc : Thread nD τ).loc main_arg10) : S128x128.Idx → Elt Ideal .f32) (ix2 f p)) (fun p => (m ((c.tc : Thread nD τ).loc main_arg11) : S128.Idx → Elt Ideal .f32) (ix1 p))
          (fun p o => (m ((c.tc : Thread nD τ).loc main_arg12) : S128x128.Idx → Elt Ideal .f32) (ix2 p o)) (fun o => (m ((c.tc : Thread nD τ).loc main_arg13) : S128.Idx → Elt Ideal .f32) (ix1 o)) o := by
  have hb := b.isLt
  have ha := a.isLt
  have e20 : ∀ (k : Fin 32) (l : Fin 50), (W₅ m c (Proc.devRef .tc main_v20) : S10000x32x50.Idx → Elt Ideal .bf16) (ix3 ⟨b.val * 2500 + a.val, by omega⟩ k l)
      = (m ((c.tc : Thread nD τ).loc main_arg4) : S4x2500x32x50.Idx → Elt Ideal .f32) (ix4 b a k l) := fun k l => by
    rw [W₅_v20]; exact split4 _ b a k l
  have e22 : ∀ p, (W₅ m c (Proc.devRef .tc main_v22) : S1x128.Idx → Elt Ideal .f32) (ix2 0 p) = _ := fun p => (congrFun (W₅_v22 m c) _).trans (row1 _ p)
  have e24 : ∀ p, (W₅ m c (Proc.devRef .tc main_v24) : S1x128.Idx → Elt Ideal .f32) (ix2 0 p) = _ := fun p => (congrFun (W₅_v24 m c) _).trans (row1 _ p)
  have e26 : ∀ p, (W₅ m c (Proc.devRef .tc main_v26) : S1x128.Idx → Elt Ideal .f32) (ix2 0 p) = _ := fun p => (congrFun (W₅_v26 m c) _).trans (row1 _ p)
  have e28 : ∀ p, (W₅ m c (Proc.devRef .tc main_v28) : S1x128.Idx → Elt Ideal .f32) (ix2 0 p) = _ := fun p => (congrFun (W₅_v28 m c) _).trans (row1 _ p)
  rw [W₇_v30]
  refine (split3 _ b a o).trans ?_
  rw [out_apply, out2_apply (W₅ m) c _ _ ⟨b.val * 2500 + a.val, by omega⟩
    (by show b.val * 2500 + a.val = 400 * ((b.val * 2500 + a.val) / 400) + (b.val * 2500 + a.val) % 400; omega)]
  simp only [e20, e22, e24, e26, e28]
  rw [W₅_v21, W₅_v23, W₅_v25, W₅_v27]
  rfl

end Kernel

/-! ## One pair -/

/-- The masks are zeros and ones. -/
theorem mask_eq (x0 : FVec Ideal S4x2500x128 .f32) (x1 : FVec Ideal S4x2500x32 .f32) (x2 : IVec S4x2500x32 32) (x3 : FVec Ideal S4x2500x32 .f32)
    (x4 : FVec Ideal S4x2500x32x50 .f32) (x5 : FVec Ideal S128x128 .f32) (x6 : FVec Ideal S50x128 .f32) (x7 : FVec Ideal S128 .f32) (x8 : FVec Ideal S128x128 .f32)
    (x9 : FVec Ideal S128 .f32) (x10 : FVec Ideal S128x128 .f32) (x11 : FVec Ideal S128 .f32) (x12 : FVec Ideal S128x128 .f32) (x13 : FVec Ideal S128 .f32)
    (h : Cert.Pre_names_atoms_masked.fn x0 x1 x2 x3 x4 x5 x6 x7 x8 x9 x10 x11 x12 x13 = fun _ => 1#1) (j : S4x2500x32.Idx) : x3 j = 0 ∨ x3 j = 1 := by
  have h' : IntOp.ori (BitVec.ofBool (decide (x3 j = Ideal.ofBits .f32 0x00000000#32))) (BitVec.ofBool (decide (x3 j = Ideal.ofBits .f32 0x3F800000#32))) = 1#1 :=
    ((andi_eq_one _ _).mp (congrFun h j)).2
  have key : ∀ p q : Bool, IntOp.ori (BitVec.ofBool p) (BitVec.ofBool q) = 1#1 → p = true ∨ q = true := by decide
  rw [Ideal.ofBits_one_f32, Ideal.ofBits_zero] at h'
  exact (key _ _ h').imp of_decide_eq_true of_decide_eq_true

/-- The cutoff's factor. -/
theorem cutoff_one (p : Prop) [Decidable p] (h : p) : FloatOps.uitofp (F := Ideal) .f32 (BitVec.ofBool (decide p)) = (1 : EReal) := by
  rw [decide_eq_true h]
  show (((1#1 : BitVec 1).toNat : ℝ) : EReal) = 1
  simp
theorem cutoff_zero (p : Prop) [Decidable p] (h : ¬ p) : FloatOps.uitofp (F := Ideal) .f32 (BitVec.ofBool (decide p)) = (0 : EReal) := by
  rw [decide_eq_false h]
  show (((0#1 : BitVec 1).toNat : ℝ) : EReal) = 0
  simp

/-- A live pair's term is filter times row; the reference multiplies by two ones more. -/
theorem pair_live (w y d k : EReal) (hd : d = 1) (hk : k = 1) : w * y = y * (w * d) * k := by
  rw [hd, hk, mul_one, mul_one, mul_comm]
/-- A dead pair's term is zero on both sides: the kernel's row is, and one of the reference's factors. -/
theorem pair_dead (w y d k : EReal) (h : d = 0 ∨ k = 0) : w * 0 = y * (w * d) * k := by
  rcases h with rfl | rfl <;> simp

/-! ## The claim -/

theorem value_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hpre : Cert.Pre_KernelIdeal_names_atoms_masked m)
    (h0 : m' ((c.tc : Thread nD τ).loc Cert.ReferenceIdeal.main_arg0) = m ((c.tc : Thread nD τ).loc main_arg0))
    (h1 : m' ((c.tc : Thread nD τ).loc Cert.ReferenceIdeal.main_arg1) = m ((c.tc : Thread nD τ).loc main_arg1))
    (h2 : m' ((c.tc : Thread nD τ).loc Cert.ReferenceIdeal.main_arg2) = m ((c.tc : Thread nD τ).loc main_arg2))
    (h3 : m' ((c.tc : Thread nD τ).loc Cert.ReferenceIdeal.main_arg3) = m ((c.tc : Thread nD τ).loc main_arg3))
    (h4 : m' ((c.tc : Thread nD τ).loc Cert.ReferenceIdeal.main_arg4) = m ((c.tc : Thread nD τ).loc main_arg4))
    (h5 : m' ((c.tc : Thread nD τ).loc Cert.ReferenceIdeal.main_arg5) = m ((c.tc : Thread nD τ).loc main_arg5))
    (h6 : m' ((c.tc : Thread nD τ).loc Cert.ReferenceIdeal.main_arg6) = m ((c.tc : Thread nD τ).loc main_arg6))
    (h7 : m' ((c.tc : Thread nD τ).loc Cert.ReferenceIdeal.main_arg7) = m ((c.tc : Thread nD τ).loc main_arg7))
    (h8 : m' ((c.tc : Thread nD τ).loc Cert.ReferenceIdeal.main_arg8) = m ((c.tc : Thread nD τ).loc main_arg8))
    (h9 : m' ((c.tc : Thread nD τ).loc Cert.ReferenceIdeal.main_arg9) = m ((c.tc : Thread nD τ).loc main_arg9))
    (h10 : m' ((c.tc : Thread nD τ).loc Cert.ReferenceIdeal.main_arg10) = m ((c.tc : Thread nD τ).loc main_arg10))
    (h11 : m' ((c.tc : Thread nD τ).loc Cert.ReferenceIdeal.main_arg11) = m ((c.tc : Thread nD τ).loc main_arg11))
    (h12 : m' ((c.tc : Thread nD τ).loc Cert.ReferenceIdeal.main_arg12) = m ((c.tc : Thread nD τ).loc main_arg12))
    (h13 : m' ((c.tc : Thread nD τ).loc Cert.ReferenceIdeal.main_arg13) = m ((c.tc : Thread nD τ).loc main_arg13)) :
    (Cert.ReferenceIdeal.Value.res_main_v63 (F := Ideal) m' c : S4x2500x128.Idx → Elt Ideal .f32) = W₇ m c (Proc.devRef .tc main_v30) := by
  have hi : ∀ j : S4x2500x32.Idx, (m ((c.tc : Thread nD τ).loc main_arg2) j : BitVec 32).toNat < 2500 := fun j => neighbor_lt' _ _ _ _ _ _ _ _ _ _ _ _ _ _ (hpre c) j
  have hmask := mask_eq _ _ _ _ _ _ _ _ _ _ _ _ _ _ (hpre c)
  funext j
  obtain ⟨b, a, o, rfl⟩ : ∃ (b : Fin 4) (a : Fin 2500) (o : Fin 128), j = ix3 b a o := ⟨j 0, j 1, j 2, by funext (x : Fin 3); match x with | 0 => rfl | 1 => rfl | 2 => rfl⟩
  rw [kernel_value, rows_eq, Ref.result_eq, h0, h1, h2, h3, h4, h5, h6, h7, h8, h9, h10, h11, h12, h13]
  refine (Ref.dense_apply _ _ _ _ _ b a o).trans ?_
  refine congrArg (fun s => twoLayers s _ _ _ _ o) (funext fun f => ?_)
  rw [Ref.summed_apply]
  refine Finset.sum_congr rfl fun n _ => ?_
  rw [Ref.filters_apply, Ref.taken_apply _ _ hi b _ f a n rfl, Ref.product_apply]
  by_cases hl : Live (m ((c.tc : Thread nD τ).loc main_arg1)) (m ((c.tc : Thread nD τ).loc main_arg3)) b a n
  · rw [row_live _ _ _ _ _ hi b a n hl f]
    exact (pair_live _ _ _ _ (cutoff_one _ hl.2) ((hmask _).resolve_left hl.1)).symm
  · rw [row_dead _ _ _ _ _ b a n hl f]
    refine (pair_dead _ _ _ _ ?_).symm
    rcases not_and_or.mp hl with h | h
    · exact .inr (not_not.mp h)
    · exact .inl (cutoff_zero _ h)

/-- The whole kernel and the reference leave one array. -/
theorem algebraic : Cert.algebraic_KernelIdeal_ReferenceIdeal_pre_names_atoms_masked := fun m ρ m' ρ' hpre hag =>
  ⟨fun c => W₇ m c (Proc.devRef .tc main_v30),
    (θ_run Cert.KernelIdeal.defs _ _).mono (fun _ hr => hr.1) (run_frame (F := Ideal) m ρ fun c j => neighbor_lt' _ _ _ _ _ _ _ _ _ _ _ _ _ _ (hpre c) j),
    (θ_run Cert.ReferenceIdeal.defs _ _).mono (fun r hr c => ⟨(hr c).1.trans (by
        obtain ⟨h0, h1, h2, h3, h4, h5, h6, h7, h8, h9, h10, h11, h12, h13⟩ := hag c
        exact value_eq m m' c hpre h0 h1 h2 h3 h4 h5 h6 h7 h8 h9 h10 h11 h12 h13), (hr c).2⟩)
      (Cert.ReferenceIdeal.Value.run (F := Ideal) m' ρ')⟩

end Cert.Proof.Whole

end
-- ==== Proof.lean ====
/-
  Two things are proved of this convolution.

  The SparseCore gather written as a pipeline: from any table and any list of words that name rows of it, the program runs,
  leaves its arguments and every semaphore as they were, and its result is, row for row, what the reference gathers; of the
  words themselves (`bitexact`) and at the ideal instance (`algebraic`). Words and Names fix the arithmetic and the names,
  Values says what a tile's copies carry, Tile runs one tile's pipeline, Own gives a tile what it holds, Launch runs the whole
  program, Ref reads the reference's result, Claims joins them.

  The whole kernel, whose gather starts and awaits its copies by hand: it runs, with every semaphore back at zero, and over the
  reals its result is the convolution that the reference states. The modules Async… are the gather, in the same order as above.
  WholeBodies and WholeRegions are the two TensorCore calls, WholeHost the code between the calls, WholeMain and WholeLaunch the
  run of the three together, WholeFrames the frames. WholeValues, WholeBlocks, WholePayloads and WholeOut read the kernel's
  result at a place; WholeTake and WholeRef the reference's; WholeMath and WholeRows equate the summands; WholeAlgebraic joins
  them.
-/
module

public import proofs.«01_k».proof.Defs
public import proofs.«01_k».proof.Proof.Claims
public import proofs.«01_k».proof.Proof.WholeAlgebraic

@[expose] public section

noncomputable section

namespace Cert.Proof

theorem claim : Cert.Claim :=
  ⟨Cert.Gather.Gen.facts, Cert.GatherIdeal.Gen.facts, Cert.GatherRowsIdeal.Gen.facts, Cert.GatherRows.Gen.facts,
    Cert.Kernel.Gen.facts, Cert.KernelIdeal.Gen.facts, Cert.ReferenceIdeal.Gen.facts,
    Cert.Pre_names_rows.Gen.facts, Cert.Pre_names_atoms.Gen.facts, Cert.Pre_names_atoms_masked.Gen.facts,
    Claims.frame_gather, Claims.frame_ideal, Claims.frame_rowsIdeal, Claims.frame_rows,
    Whole.frame_kernel, Whole.frame_kernelIdeal, Whole.frame_kernelIdeal_masked,
    Whole.frame_referenceIdeal, Whole.frame_referenceIdeal_masked,
    trivial, Claims.bitexact, Claims.algebraic, Whole.preserves, Whole.algebraic⟩

end Cert.Proof

end
